-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S4096x2048 : Shape := ⟨2, ![4096, 2048]⟩
abbrev S4x2x128x256 : Shape := ⟨4, ![4, 2, 128, 256]⟩
abbrev S4x4x128x256 : Shape := ⟨4, ![4, 4, 128, 256]⟩
abbrev S4x2 : Shape := ⟨2, ![4, 2]⟩
abbrev S4x4 : Shape := ⟨2, ![4, 4]⟩
abbrev S4 : Shape := ⟨1, ![4]⟩
abbrev S_ : Shape := ⟨0, ![]⟩
abbrev S128x256 : Shape := ⟨2, ![128, 256]⟩
abbrev S1x1x128x256 : Shape := ⟨4, ![1, 1, 128, 256]⟩
abbrev S1x1 : Shape := ⟨2, ![1, 1]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S128x2048, .f32⟩
  | .local _ .vmem, ⟨0, _⟩ => ⟨S4096x128, .bf16⟩
  | .local _ .vmem, ⟨1, _⟩ => ⟨S128x2048, .bf16⟩
  | .local _ .vmem, ⟨2, _⟩ => ⟨S128x2048, .f32⟩
  | .local _ .vmem, ⟨3, _⟩ => ⟨S4096x2048, .bf16⟩
  | .local _ .vmem, ⟨4, _⟩ => ⟨S4x2x128x256, .bf16⟩
  | .local _ .vmem, ⟨5, _⟩ => ⟨S4x4x128x256, .bf16⟩
  | .local _ .vmem, ⟨6, _⟩ => ⟨S4x2x128x256, .bf16⟩
  | .local _ .vmem, ⟨7, _⟩ => ⟨S4x4x128x256, .bf16⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 9 51 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch6 : Ref sig .tc := ⟨.vmem, 6, rfl⟩
abbrev cc0_scratch7 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 8

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_16 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_15 : BitVec 32 := 1#32
  let v22 : BitVec 32 := Scalar.subi v2 c1_i32_15
  let v23 : BitVec 32 := Scalar.subi v22 c0_i32_16
  let c64_i32 : BitVec 32 := 64#32
  let v24 : BitVec 32 := Scalar.addi v23 c64_i32
  let c32_i32_17 : BitVec 32 := 32#32
  let v25 : BitVec 32 := Scalar.remsi v24 c32_i32_17
  let c128_i32 : BitVec 32 := 128#32
  let v26 : BitVec 32 := Scalar.muli v25 c128_i32
  let v27 : Index := Scalar.indexCast v26
  let c0_18 : Index := 0#32
  ![v27.toNat, 0]
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_31 : BitVec 32 := 1#32
  let v32 : BitVec 32 := Scalar.muli v7 c1_i32_31
  let v33 : BitVec 32 := Scalar.addi c0_i32_32 v32
  v33.toNat
def k0_off2 (d0 : Dev nD) (c0_i32_16 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_15 : BitVec 32 := 1#32
  let v22 : BitVec 32 := Scalar.subi v2 c1_i32_15
  let v23 : BitVec 32 := Scalar.subi v22 c0_i32_16
  let c64_i32 : BitVec 32 := 64#32
  let v24 : BitVec 32 := Scalar.addi v23 c64_i32
  let c32_i32_17 : BitVec 32 := 32#32
  let v25 : BitVec 32 := Scalar.remsi v24 c32_i32_17
  let c128_i32_37 : BitVec 32 := 128#32
  let v42 : BitVec 32 := Scalar.muli v25 c128_i32_37
  let v43 : Index := Scalar.indexCast v42
  let c256 : Index := 256#32
  ![v43.toNat, 256]
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_49 : BitVec 32 := 1#32
  let v48 : BitVec 32 := Scalar.muli v7 c1_i32_49
  let v49 : BitVec 32 := Scalar.addi c0_i32_50 v48
  v49.toNat
def k0_off3 (d0 : Dev nD) (c0_i32_16 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_15 : BitVec 32 := 1#32
  let v22 : BitVec 32 := Scalar.subi v2 c1_i32_15
  let v23 : BitVec 32 := Scalar.subi v22 c0_i32_16
  let c64_i32 : BitVec 32 := 64#32
  let v24 : BitVec 32 := Scalar.addi v23 c64_i32
  let c32_i32_17 : BitVec 32 := 32#32
  let v25 : BitVec 32 := Scalar.remsi v24 c32_i32_17
  let c128_i32_55 : BitVec 32 := 128#32
  let v58 : BitVec 32 := Scalar.muli v25 c128_i32_55
  let v59 : Index := Scalar.indexCast v58
  let c512 : Index := 512#32
  ![v59.toNat, 512]
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_67 : BitVec 32 := 1#32
  let v64 : BitVec 32 := Scalar.muli v7 c1_i32_67
  let v65 : BitVec 32 := Scalar.addi c0_i32_68 v64
  v65.toNat
def k0_off4 (d0 : Dev nD) (c0_i32_16 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_15 : BitVec 32 := 1#32
  let v22 : BitVec 32 := Scalar.subi v2 c1_i32_15
  let v23 : BitVec 32 := Scalar.subi v22 c0_i32_16
  let c64_i32 : BitVec 32 := 64#32
  let v24 : BitVec 32 := Scalar.addi v23 c64_i32
  let c32_i32_17 : BitVec 32 := 32#32
  let v25 : BitVec 32 := Scalar.remsi v24 c32_i32_17
  let c128_i32_73 : BitVec 32 := 128#32
  let v74 : BitVec 32 := Scalar.muli v25 c128_i32_73
  let v75 : Index := Scalar.indexCast v74
  let c768 : Index := 768#32
  ![v75.toNat, 768]
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_84 : BitVec 32 := 1#32
  let v80 : BitVec 32 := Scalar.muli v7 c1_i32_84
  let v81 : BitVec 32 := Scalar.addi c0_i32_85 v80
  v81.toNat
def k0_off5 (d0 : Dev nD) (c0_i32_91 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_90 : BitVec 32 := 1#32
  let v90 : BitVec 32 := Scalar.addi v2 c1_i32_90
  let v91 : BitVec 32 := Scalar.addi v90 c0_i32_91
  let c32_i32_92 : BitVec 32 := 32#32
  let v92 : BitVec 32 := Scalar.remsi v91 c32_i32_92
  let c128_i32_93 : BitVec 32 := 128#32
  let v93 : BitVec 32 := Scalar.muli v92 c128_i32_93
  let v94 : Index := Scalar.indexCast v93
  let c1024 : Index := 1024#32
  ![v94.toNat, 1024]
def k0_dev7 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_106 : BitVec 32 := 1#32
  let v99 : BitVec 32 := Scalar.muli v5 c1_i32_106
  let v100 : BitVec 32 := Scalar.addi c0_i32_107 v99
  v100.toNat
def k0_off6 (d0 : Dev nD) (c0_i32_91 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_90 : BitVec 32 := 1#32
  let v90 : BitVec 32 := Scalar.addi v2 c1_i32_90
  let v91 : BitVec 32 := Scalar.addi v90 c0_i32_91
  let c32_i32_92 : BitVec 32 := 32#32
  let v92 : BitVec 32 := Scalar.remsi v91 c32_i32_92
  let c128_i32_112 : BitVec 32 := 128#32
  let v109 : BitVec 32 := Scalar.muli v92 c128_i32_112
  let v110 : Index := Scalar.indexCast v109
  let c1280 : Index := 1280#32
  ![v110.toNat, 1280]
def k0_dev8 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_125 : BitVec 32 := 1#32
  let v115 : BitVec 32 := Scalar.muli v5 c1_i32_125
  let v116 : BitVec 32 := Scalar.addi c0_i32_126 v115
  v116.toNat
def k0_off7 (d0 : Dev nD) (c0_i32_91 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_90 : BitVec 32 := 1#32
  let v90 : BitVec 32 := Scalar.addi v2 c1_i32_90
  let v91 : BitVec 32 := Scalar.addi v90 c0_i32_91
  let c32_i32_92 : BitVec 32 := 32#32
  let v92 : BitVec 32 := Scalar.remsi v91 c32_i32_92
  let c128_i32_131 : BitVec 32 := 128#32
  let v125 : BitVec 32 := Scalar.muli v92 c128_i32_131
  let v126 : Index := Scalar.indexCast v125
  let c1536 : Index := 1536#32
  ![v126.toNat, 1536]
def k0_dev9 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_144 : BitVec 32 := 1#32
  let v131 : BitVec 32 := Scalar.muli v5 c1_i32_144
  let v132 : BitVec 32 := Scalar.addi c0_i32_145 v131
  v132.toNat
def k0_off8 (d0 : Dev nD) (c0_i32_91 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_90 : BitVec 32 := 1#32
  let v90 : BitVec 32 := Scalar.addi v2 c1_i32_90
  let v91 : BitVec 32 := Scalar.addi v90 c0_i32_91
  let c32_i32_92 : BitVec 32 := 32#32
  let v92 : BitVec 32 := Scalar.remsi v91 c32_i32_92
  let c128_i32_150 : BitVec 32 := 128#32
  let v141 : BitVec 32 := Scalar.muli v92 c128_i32_150
  let v142 : Index := Scalar.indexCast v141
  let c1792 : Index := 1792#32
  ![v142.toNat, 1792]
def k0_dev10 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_163 : BitVec 32 := 1#32
  let v147 : BitVec 32 := Scalar.muli v5 c1_i32_163
  let v148 : BitVec 32 := Scalar.addi c0_i32_164 v147
  v148.toNat
def k0_dev11 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_195 : BitVec 32 := 1#32
  let v179 : BitVec 32 := Scalar.muli v5 c1_i32_195
  let v180 : BitVec 32 := Scalar.addi c0_i32_196 v179
  v180.toNat
def k0_dev12 (d0 : Dev nD) : Nat :=
  let c0_i32_210 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_209 : BitVec 32 := 1#32
  let v185 : BitVec 32 := Scalar.muli v7 c1_i32_209
  let v186 : BitVec 32 := Scalar.addi c0_i32_210 v185
  v186.toNat
def k0_dev13 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_237 : BitVec 32 := 1#32
  let v213 : BitVec 32 := Scalar.muli v5 c1_i32_237
  let v214 : BitVec 32 := Scalar.addi c0_i32_238 v213
  v214.toNat
def k0_dev14 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_251 : BitVec 32 := 1#32
  let v219 : BitVec 32 := Scalar.muli v7 c1_i32_251
  let v220 : BitVec 32 := Scalar.addi c0_i32_252 v219
  v220.toNat
def k0_dev15 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_279 : BitVec 32 := 1#32
  let v247 : BitVec 32 := Scalar.muli v5 c1_i32_279
  let v248 : BitVec 32 := Scalar.addi c0_i32_280 v247
  v248.toNat
def k0_dev16 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_293 : BitVec 32 := 1#32
  let v253 : BitVec 32 := Scalar.muli v7 c1_i32_293
  let v254 : BitVec 32 := Scalar.addi c0_i32_294 v253
  v254.toNat
def k0_dev17 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_321 : BitVec 32 := 1#32
  let v281 : BitVec 32 := Scalar.muli v5 c1_i32_321
  let v282 : BitVec 32 := Scalar.addi c0_i32_322 v281
  v282.toNat
def k0_dev18 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_335 : BitVec 32 := 1#32
  let v287 : BitVec 32 := Scalar.muli v7 c1_i32_335
  let v288 : BitVec 32 := Scalar.addi c0_i32_336 v287
  v288.toNat
def k0_dev19 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_366 : BitVec 32 := 1#32
  let v318 : BitVec 32 := Scalar.muli v7 c1_i32_366
  let v319 : BitVec 32 := Scalar.addi c0_i32_367 v318
  v319.toNat
def k0_dev20 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_380 : BitVec 32 := 1#32
  let v324 : BitVec 32 := Scalar.muli v5 c1_i32_380
  let v325 : BitVec 32 := Scalar.addi c0_i32_381 v324
  v325.toNat
def k0_dev21 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_408 : BitVec 32 := 1#32
  let v352 : BitVec 32 := Scalar.muli v7 c1_i32_408
  let v353 : BitVec 32 := Scalar.addi c0_i32_409 v352
  v353.toNat
def k0_dev22 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_422 : BitVec 32 := 1#32
  let v358 : BitVec 32 := Scalar.muli v5 c1_i32_422
  let v359 : BitVec 32 := Scalar.addi c0_i32_423 v358
  v359.toNat
def k0_dev23 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_450 : BitVec 32 := 1#32
  let v386 : BitVec 32 := Scalar.muli v7 c1_i32_450
  let v387 : BitVec 32 := Scalar.addi c0_i32_451 v386
  v387.toNat
def k0_dev24 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_464 : BitVec 32 := 1#32
  let v392 : BitVec 32 := Scalar.muli v5 c1_i32_464
  let v393 : BitVec 32 := Scalar.addi c0_i32_465 v392
  v393.toNat
def k0_dev25 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_492 : BitVec 32 := 1#32
  let v420 : BitVec 32 := Scalar.muli v7 c1_i32_492
  let v421 : BitVec 32 := Scalar.addi c0_i32_493 v420
  v421.toNat
def k0_dev26 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_506 : BitVec 32 := 1#32
  let v426 : BitVec 32 := Scalar.muli v5 c1_i32_506
  let v427 : BitVec 32 := Scalar.addi c0_i32_507 v426
  v427.toNat
def k0_dev27 (d0 : Dev nD) : Nat :=
  let c0_i32_539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_538 : BitVec 32 := 1#32
  let v458 : BitVec 32 := Scalar.muli v5 c1_i32_538
  let v459 : BitVec 32 := Scalar.addi c0_i32_539 v458
  v459.toNat
def k0_dev28 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_565 : BitVec 32 := 1#32
  let v470 : BitVec 32 := Scalar.muli v7 c1_i32_565
  let v471 : BitVec 32 := Scalar.addi c0_i32_566 v470
  v471.toNat
def k0_dev29 (d0 : Dev nD) : Nat :=
  let c0_i32_594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_593 : BitVec 32 := 1#32
  let v498 : BitVec 32 := Scalar.muli v5 c1_i32_593
  let v499 : BitVec 32 := Scalar.addi c0_i32_594 v498
  v499.toNat
def k0_dev30 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_620 : BitVec 32 := 1#32
  let v510 : BitVec 32 := Scalar.muli v7 c1_i32_620
  let v511 : BitVec 32 := Scalar.addi c0_i32_621 v510
  v511.toNat
def k0_dev31 (d0 : Dev nD) : Nat :=
  let c0_i32_649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_648 : BitVec 32 := 1#32
  let v538 : BitVec 32 := Scalar.muli v5 c1_i32_648
  let v539 : BitVec 32 := Scalar.addi c0_i32_649 v538
  v539.toNat
def k0_dev32 (d0 : Dev nD) : Nat :=
  let c0_i32_676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_675 : BitVec 32 := 1#32
  let v550 : BitVec 32 := Scalar.muli v7 c1_i32_675
  let v551 : BitVec 32 := Scalar.addi c0_i32_676 v550
  v551.toNat
def k0_dev33 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_703 : BitVec 32 := 1#32
  let v578 : BitVec 32 := Scalar.muli v5 c1_i32_703
  let v579 : BitVec 32 := Scalar.addi c0_i32_704 v578
  v579.toNat
def k0_dev34 (d0 : Dev nD) : Nat :=
  let c0_i32_731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_730 : BitVec 32 := 1#32
  let v590 : BitVec 32 := Scalar.muli v7 c1_i32_730
  let v591 : BitVec 32 := Scalar.addi c0_i32_731 v590
  v591.toNat
def k0_dev35 (d0 : Dev nD) : Nat :=
  let c0_i32_762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_761 : BitVec 32 := 1#32
  let v621 : BitVec 32 := Scalar.muli v7 c1_i32_761
  let v622 : BitVec 32 := Scalar.addi c0_i32_762 v621
  v622.toNat
def k0_dev36 (d0 : Dev nD) : Nat :=
  let c0_i32_789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_788 : BitVec 32 := 1#32
  let v633 : BitVec 32 := Scalar.muli v5 c1_i32_788
  let v634 : BitVec 32 := Scalar.addi c0_i32_789 v633
  v634.toNat
def k0_dev37 (d0 : Dev nD) : Nat :=
  let c0_i32_817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_816 : BitVec 32 := 1#32
  let v661 : BitVec 32 := Scalar.muli v7 c1_i32_816
  let v662 : BitVec 32 := Scalar.addi c0_i32_817 v661
  v662.toNat
def k0_dev38 (d0 : Dev nD) : Nat :=
  let c0_i32_844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_843 : BitVec 32 := 1#32
  let v673 : BitVec 32 := Scalar.muli v5 c1_i32_843
  let v674 : BitVec 32 := Scalar.addi c0_i32_844 v673
  v674.toNat
def k0_dev39 (d0 : Dev nD) : Nat :=
  let c0_i32_872 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_871 : BitVec 32 := 1#32
  let v701 : BitVec 32 := Scalar.muli v7 c1_i32_871
  let v702 : BitVec 32 := Scalar.addi c0_i32_872 v701
  v702.toNat
def k0_dev40 (d0 : Dev nD) : Nat :=
  let c0_i32_899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_898 : BitVec 32 := 1#32
  let v713 : BitVec 32 := Scalar.muli v5 c1_i32_898
  let v714 : BitVec 32 := Scalar.addi c0_i32_899 v713
  v714.toNat
def k0_dev41 (d0 : Dev nD) : Nat :=
  let c0_i32_927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_926 : BitVec 32 := 1#32
  let v741 : BitVec 32 := Scalar.muli v7 c1_i32_926
  let v742 : BitVec 32 := Scalar.addi c0_i32_927 v741
  v742.toNat
def k0_dev42 (d0 : Dev nD) : Nat :=
  let c0_i32_954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_953 : BitVec 32 := 1#32
  let v753 : BitVec 32 := Scalar.muli v5 c1_i32_953
  let v754 : BitVec 32 := Scalar.addi c0_i32_954 v753
  v754.toNat
def k0_dev43 (d0 : Dev nD) : Nat :=
  let c0_i32_986 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_985 : BitVec 32 := 1#32
  let v785 : BitVec 32 := Scalar.muli v5 c1_i32_985
  let v786 : BitVec 32 := Scalar.addi c0_i32_986 v785
  v786.toNat
def k0_dev44 (d0 : Dev nD) : Nat :=
  let c0_i32_1013 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1012 : BitVec 32 := 1#32
  let v797 : BitVec 32 := Scalar.muli v7 c1_i32_1012
  let v798 : BitVec 32 := Scalar.addi c0_i32_1013 v797
  v798.toNat
def k0_dev45 (d0 : Dev nD) : Nat :=
  let c0_i32_1041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1040 : BitVec 32 := 1#32
  let v825 : BitVec 32 := Scalar.muli v5 c1_i32_1040
  let v826 : BitVec 32 := Scalar.addi c0_i32_1041 v825
  v826.toNat
def k0_dev46 (d0 : Dev nD) : Nat :=
  let c0_i32_1068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1067 : BitVec 32 := 1#32
  let v837 : BitVec 32 := Scalar.muli v7 c1_i32_1067
  let v838 : BitVec 32 := Scalar.addi c0_i32_1068 v837
  v838.toNat
def k0_dev47 (d0 : Dev nD) : Nat :=
  let c0_i32_1096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1095 : BitVec 32 := 1#32
  let v865 : BitVec 32 := Scalar.muli v5 c1_i32_1095
  let v866 : BitVec 32 := Scalar.addi c0_i32_1096 v865
  v866.toNat
def k0_dev48 (d0 : Dev nD) : Nat :=
  let c0_i32_1123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1122 : BitVec 32 := 1#32
  let v877 : BitVec 32 := Scalar.muli v7 c1_i32_1122
  let v878 : BitVec 32 := Scalar.addi c0_i32_1123 v877
  v878.toNat
def k0_dev49 (d0 : Dev nD) : Nat :=
  let c0_i32_1151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1150 : BitVec 32 := 1#32
  let v905 : BitVec 32 := Scalar.muli v5 c1_i32_1150
  let v906 : BitVec 32 := Scalar.addi c0_i32_1151 v905
  v906.toNat
def k0_dev50 (d0 : Dev nD) : Nat :=
  let c0_i32_1178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1177 : BitVec 32 := 1#32
  let v917 : BitVec 32 := Scalar.muli v7 c1_i32_1177
  let v918 : BitVec 32 := Scalar.addi c0_i32_1178 v917
  v918.toNat
def k0_dev51 (d0 : Dev nD) : Nat :=
  let c0_i32_1209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1208 : BitVec 32 := 1#32
  let v948 : BitVec 32 := Scalar.muli v7 c1_i32_1208
  let v949 : BitVec 32 := Scalar.addi c0_i32_1209 v948
  v949.toNat
def k0_dev52 (d0 : Dev nD) : Nat :=
  let c0_i32_1236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1235 : BitVec 32 := 1#32
  let v960 : BitVec 32 := Scalar.muli v5 c1_i32_1235
  let v961 : BitVec 32 := Scalar.addi c0_i32_1236 v960
  v961.toNat
def k0_dev53 (d0 : Dev nD) : Nat :=
  let c0_i32_1264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1263 : BitVec 32 := 1#32
  let v988 : BitVec 32 := Scalar.muli v7 c1_i32_1263
  let v989 : BitVec 32 := Scalar.addi c0_i32_1264 v988
  v989.toNat
def k0_dev54 (d0 : Dev nD) : Nat :=
  let c0_i32_1291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1290 : BitVec 32 := 1#32
  let v1000 : BitVec 32 := Scalar.muli v5 c1_i32_1290
  let v1001 : BitVec 32 := Scalar.addi c0_i32_1291 v1000
  v1001.toNat
def k0_dev55 (d0 : Dev nD) : Nat :=
  let c0_i32_1319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1318 : BitVec 32 := 1#32
  let v1028 : BitVec 32 := Scalar.muli v7 c1_i32_1318
  let v1029 : BitVec 32 := Scalar.addi c0_i32_1319 v1028
  v1029.toNat
def k0_dev56 (d0 : Dev nD) : Nat :=
  let c0_i32_1346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1345 : BitVec 32 := 1#32
  let v1040 : BitVec 32 := Scalar.muli v5 c1_i32_1345
  let v1041 : BitVec 32 := Scalar.addi c0_i32_1346 v1040
  v1041.toNat
def k0_dev57 (d0 : Dev nD) : Nat :=
  let c0_i32_1374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1373 : BitVec 32 := 1#32
  let v1068 : BitVec 32 := Scalar.muli v7 c1_i32_1373
  let v1069 : BitVec 32 := Scalar.addi c0_i32_1374 v1068
  v1069.toNat
def k0_dev58 (d0 : Dev nD) : Nat :=
  let c0_i32_1401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1400 : BitVec 32 := 1#32
  let v1080 : BitVec 32 := Scalar.muli v5 c1_i32_1400
  let v1081 : BitVec 32 := Scalar.addi c0_i32_1401 v1080
  v1081.toNat
def k0_dev59 (d0 : Dev nD) : Nat :=
  let c0_i32_1432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1431 : BitVec 32 := 1#32
  let v1112 : BitVec 32 := Scalar.muli v5 c1_i32_1431
  let v1113 : BitVec 32 := Scalar.addi c0_i32_1432 v1112
  v1113.toNat
def k0_dev60 (d0 : Dev nD) : Nat :=
  let c0_i32_1462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1461 : BitVec 32 := 1#32
  let v1126 : BitVec 32 := Scalar.muli v7 c1_i32_1461
  let v1127 : BitVec 32 := Scalar.addi c0_i32_1462 v1126
  v1127.toNat
def k0_dev61 (d0 : Dev nD) : Nat :=
  let c0_i32_1490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1489 : BitVec 32 := 1#32
  let v1154 : BitVec 32 := Scalar.muli v5 c1_i32_1489
  let v1155 : BitVec 32 := Scalar.addi c0_i32_1490 v1154
  v1155.toNat
def k0_dev62 (d0 : Dev nD) : Nat :=
  let c0_i32_1520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1519 : BitVec 32 := 1#32
  let v1168 : BitVec 32 := Scalar.muli v7 c1_i32_1519
  let v1169 : BitVec 32 := Scalar.addi c0_i32_1520 v1168
  v1169.toNat
def k0_dev63 (d0 : Dev nD) : Nat :=
  let c0_i32_1548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1547 : BitVec 32 := 1#32
  let v1196 : BitVec 32 := Scalar.muli v5 c1_i32_1547
  let v1197 : BitVec 32 := Scalar.addi c0_i32_1548 v1196
  v1197.toNat
def k0_dev64 (d0 : Dev nD) : Nat :=
  let c0_i32_1578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1577 : BitVec 32 := 1#32
  let v1210 : BitVec 32 := Scalar.muli v7 c1_i32_1577
  let v1211 : BitVec 32 := Scalar.addi c0_i32_1578 v1210
  v1211.toNat
def k0_dev65 (d0 : Dev nD) : Nat :=
  let c0_i32_1606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1605 : BitVec 32 := 1#32
  let v1238 : BitVec 32 := Scalar.muli v5 c1_i32_1605
  let v1239 : BitVec 32 := Scalar.addi c0_i32_1606 v1238
  v1239.toNat
def k0_dev66 (d0 : Dev nD) : Nat :=
  let c0_i32_1636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1635 : BitVec 32 := 1#32
  let v1252 : BitVec 32 := Scalar.muli v7 c1_i32_1635
  let v1253 : BitVec 32 := Scalar.addi c0_i32_1636 v1252
  v1253.toNat
def k0_dev67 (d0 : Dev nD) : Nat :=
  let c0_i32_1667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1666 : BitVec 32 := 1#32
  let v1283 : BitVec 32 := Scalar.muli v7 c1_i32_1666
  let v1284 : BitVec 32 := Scalar.addi c0_i32_1667 v1283
  v1284.toNat
def k0_dev68 (d0 : Dev nD) : Nat :=
  let c0_i32_1697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1696 : BitVec 32 := 1#32
  let v1297 : BitVec 32 := Scalar.muli v5 c1_i32_1696
  let v1298 : BitVec 32 := Scalar.addi c0_i32_1697 v1297
  v1298.toNat
def k0_dev69 (d0 : Dev nD) : Nat :=
  let c0_i32_1725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1724 : BitVec 32 := 1#32
  let v1325 : BitVec 32 := Scalar.muli v7 c1_i32_1724
  let v1326 : BitVec 32 := Scalar.addi c0_i32_1725 v1325
  v1326.toNat
def k0_dev70 (d0 : Dev nD) : Nat :=
  let c0_i32_1755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1754 : BitVec 32 := 1#32
  let v1339 : BitVec 32 := Scalar.muli v5 c1_i32_1754
  let v1340 : BitVec 32 := Scalar.addi c0_i32_1755 v1339
  v1340.toNat
def k0_dev71 (d0 : Dev nD) : Nat :=
  let c0_i32_1783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1782 : BitVec 32 := 1#32
  let v1367 : BitVec 32 := Scalar.muli v7 c1_i32_1782
  let v1368 : BitVec 32 := Scalar.addi c0_i32_1783 v1367
  v1368.toNat
def k0_dev72 (d0 : Dev nD) : Nat :=
  let c0_i32_1813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1812 : BitVec 32 := 1#32
  let v1381 : BitVec 32 := Scalar.muli v5 c1_i32_1812
  let v1382 : BitVec 32 := Scalar.addi c0_i32_1813 v1381
  v1382.toNat
def k0_dev73 (d0 : Dev nD) : Nat :=
  let c0_i32_1841 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1840 : BitVec 32 := 1#32
  let v1409 : BitVec 32 := Scalar.muli v7 c1_i32_1840
  let v1410 : BitVec 32 := Scalar.addi c0_i32_1841 v1409
  v1410.toNat
def k0_dev74 (d0 : Dev nD) : Nat :=
  let c0_i32_1871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1870 : BitVec 32 := 1#32
  let v1423 : BitVec 32 := Scalar.muli v5 c1_i32_1870
  let v1424 : BitVec 32 := Scalar.addi c0_i32_1871 v1423
  v1424.toNat
def k0_dev75 (d0 : Dev nD) : Nat :=
  let c0_i32_1902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1901 : BitVec 32 := 1#32
  let v1455 : BitVec 32 := Scalar.muli v5 c1_i32_1901
  let v1456 : BitVec 32 := Scalar.addi c0_i32_1902 v1455
  v1456.toNat
def k0_dev76 (d0 : Dev nD) : Nat :=
  let c0_i32_1932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1931 : BitVec 32 := 1#32
  let v1469 : BitVec 32 := Scalar.muli v7 c1_i32_1931
  let v1470 : BitVec 32 := Scalar.addi c0_i32_1932 v1469
  v1470.toNat
def k0_dev77 (d0 : Dev nD) : Nat :=
  let c0_i32_1960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1959 : BitVec 32 := 1#32
  let v1497 : BitVec 32 := Scalar.muli v5 c1_i32_1959
  let v1498 : BitVec 32 := Scalar.addi c0_i32_1960 v1497
  v1498.toNat
def k0_dev78 (d0 : Dev nD) : Nat :=
  let c0_i32_1990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1989 : BitVec 32 := 1#32
  let v1511 : BitVec 32 := Scalar.muli v7 c1_i32_1989
  let v1512 : BitVec 32 := Scalar.addi c0_i32_1990 v1511
  v1512.toNat
def k0_dev79 (d0 : Dev nD) : Nat :=
  let c0_i32_2018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2017 : BitVec 32 := 1#32
  let v1539 : BitVec 32 := Scalar.muli v5 c1_i32_2017
  let v1540 : BitVec 32 := Scalar.addi c0_i32_2018 v1539
  v1540.toNat
def k0_dev80 (d0 : Dev nD) : Nat :=
  let c0_i32_2048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2047 : BitVec 32 := 1#32
  let v1553 : BitVec 32 := Scalar.muli v7 c1_i32_2047
  let v1554 : BitVec 32 := Scalar.addi c0_i32_2048 v1553
  v1554.toNat
def k0_dev81 (d0 : Dev nD) : Nat :=
  let c0_i32_2076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2075 : BitVec 32 := 1#32
  let v1581 : BitVec 32 := Scalar.muli v5 c1_i32_2075
  let v1582 : BitVec 32 := Scalar.addi c0_i32_2076 v1581
  v1582.toNat
def k0_dev82 (d0 : Dev nD) : Nat :=
  let c0_i32_2106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2105 : BitVec 32 := 1#32
  let v1595 : BitVec 32 := Scalar.muli v7 c1_i32_2105
  let v1596 : BitVec 32 := Scalar.addi c0_i32_2106 v1595
  v1596.toNat
def k0_dev83 (d0 : Dev nD) : Nat :=
  let c0_i32_2137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2136 : BitVec 32 := 1#32
  let v1626 : BitVec 32 := Scalar.muli v7 c1_i32_2136
  let v1627 : BitVec 32 := Scalar.addi c0_i32_2137 v1626
  v1627.toNat
def k0_dev84 (d0 : Dev nD) : Nat :=
  let c0_i32_2167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2166 : BitVec 32 := 1#32
  let v1640 : BitVec 32 := Scalar.muli v5 c1_i32_2166
  let v1641 : BitVec 32 := Scalar.addi c0_i32_2167 v1640
  v1641.toNat
def k0_dev85 (d0 : Dev nD) : Nat :=
  let c0_i32_2195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2194 : BitVec 32 := 1#32
  let v1668 : BitVec 32 := Scalar.muli v7 c1_i32_2194
  let v1669 : BitVec 32 := Scalar.addi c0_i32_2195 v1668
  v1669.toNat
def k0_dev86 (d0 : Dev nD) : Nat :=
  let c0_i32_2225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2224 : BitVec 32 := 1#32
  let v1682 : BitVec 32 := Scalar.muli v5 c1_i32_2224
  let v1683 : BitVec 32 := Scalar.addi c0_i32_2225 v1682
  v1683.toNat
def k0_dev87 (d0 : Dev nD) : Nat :=
  let c0_i32_2253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2252 : BitVec 32 := 1#32
  let v1710 : BitVec 32 := Scalar.muli v7 c1_i32_2252
  let v1711 : BitVec 32 := Scalar.addi c0_i32_2253 v1710
  v1711.toNat
def k0_dev88 (d0 : Dev nD) : Nat :=
  let c0_i32_2283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2282 : BitVec 32 := 1#32
  let v1724 : BitVec 32 := Scalar.muli v5 c1_i32_2282
  let v1725 : BitVec 32 := Scalar.addi c0_i32_2283 v1724
  v1725.toNat
def k0_dev89 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2310 : BitVec 32 := 1#32
  let v1752 : BitVec 32 := Scalar.muli v7 c1_i32_2310
  let v1753 : BitVec 32 := Scalar.addi c0_i32_2311 v1752
  v1753.toNat
def k0_dev90 (d0 : Dev nD) : Nat :=
  let c0_i32_2341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2340 : BitVec 32 := 1#32
  let v1766 : BitVec 32 := Scalar.muli v5 c1_i32_2340
  let v1767 : BitVec 32 := Scalar.addi c0_i32_2341 v1766
  v1767.toNat
def k0_dev91 (d0 : Dev nD) : Nat :=
  let c0_i32_2372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2371 : BitVec 32 := 1#32
  let v1798 : BitVec 32 := Scalar.muli v5 c1_i32_2371
  let v1799 : BitVec 32 := Scalar.addi c0_i32_2372 v1798
  v1799.toNat
def k0_dev92 (d0 : Dev nD) : Nat :=
  let c0_i32_2402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2401 : BitVec 32 := 1#32
  let v1812 : BitVec 32 := Scalar.muli v7 c1_i32_2401
  let v1813 : BitVec 32 := Scalar.addi c0_i32_2402 v1812
  v1813.toNat
def k0_dev93 (d0 : Dev nD) : Nat :=
  let c0_i32_2430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2429 : BitVec 32 := 1#32
  let v1840 : BitVec 32 := Scalar.muli v5 c1_i32_2429
  let v1841 : BitVec 32 := Scalar.addi c0_i32_2430 v1840
  v1841.toNat
def k0_dev94 (d0 : Dev nD) : Nat :=
  let c0_i32_2460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2459 : BitVec 32 := 1#32
  let v1854 : BitVec 32 := Scalar.muli v7 c1_i32_2459
  let v1855 : BitVec 32 := Scalar.addi c0_i32_2460 v1854
  v1855.toNat
def k0_dev95 (d0 : Dev nD) : Nat :=
  let c0_i32_2488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2487 : BitVec 32 := 1#32
  let v1882 : BitVec 32 := Scalar.muli v5 c1_i32_2487
  let v1883 : BitVec 32 := Scalar.addi c0_i32_2488 v1882
  v1883.toNat
def k0_dev96 (d0 : Dev nD) : Nat :=
  let c0_i32_2518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2517 : BitVec 32 := 1#32
  let v1896 : BitVec 32 := Scalar.muli v7 c1_i32_2517
  let v1897 : BitVec 32 := Scalar.addi c0_i32_2518 v1896
  v1897.toNat
def k0_dev97 (d0 : Dev nD) : Nat :=
  let c0_i32_2546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2545 : BitVec 32 := 1#32
  let v1924 : BitVec 32 := Scalar.muli v5 c1_i32_2545
  let v1925 : BitVec 32 := Scalar.addi c0_i32_2546 v1924
  v1925.toNat
def k0_dev98 (d0 : Dev nD) : Nat :=
  let c0_i32_2576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2575 : BitVec 32 := 1#32
  let v1938 : BitVec 32 := Scalar.muli v7 c1_i32_2575
  let v1939 : BitVec 32 := Scalar.addi c0_i32_2576 v1938
  v1939.toNat
def k0_dev99 (d0 : Dev nD) : Nat :=
  let c0_i32_2607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2606 : BitVec 32 := 1#32
  let v1969 : BitVec 32 := Scalar.muli v7 c1_i32_2606
  let v1970 : BitVec 32 := Scalar.addi c0_i32_2607 v1969
  v1970.toNat
def k0_dev100 (d0 : Dev nD) : Nat :=
  let c0_i32_2637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2636 : BitVec 32 := 1#32
  let v1983 : BitVec 32 := Scalar.muli v5 c1_i32_2636
  let v1984 : BitVec 32 := Scalar.addi c0_i32_2637 v1983
  v1984.toNat
def k0_dev101 (d0 : Dev nD) : Nat :=
  let c0_i32_2665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2664 : BitVec 32 := 1#32
  let v2011 : BitVec 32 := Scalar.muli v7 c1_i32_2664
  let v2012 : BitVec 32 := Scalar.addi c0_i32_2665 v2011
  v2012.toNat
def k0_dev102 (d0 : Dev nD) : Nat :=
  let c0_i32_2695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2694 : BitVec 32 := 1#32
  let v2025 : BitVec 32 := Scalar.muli v5 c1_i32_2694
  let v2026 : BitVec 32 := Scalar.addi c0_i32_2695 v2025
  v2026.toNat
def k0_dev103 (d0 : Dev nD) : Nat :=
  let c0_i32_2723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2722 : BitVec 32 := 1#32
  let v2053 : BitVec 32 := Scalar.muli v7 c1_i32_2722
  let v2054 : BitVec 32 := Scalar.addi c0_i32_2723 v2053
  v2054.toNat
def k0_dev104 (d0 : Dev nD) : Nat :=
  let c0_i32_2753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2752 : BitVec 32 := 1#32
  let v2067 : BitVec 32 := Scalar.muli v5 c1_i32_2752
  let v2068 : BitVec 32 := Scalar.addi c0_i32_2753 v2067
  v2068.toNat
def k0_dev105 (d0 : Dev nD) : Nat :=
  let c0_i32_2781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2780 : BitVec 32 := 1#32
  let v2095 : BitVec 32 := Scalar.muli v7 c1_i32_2780
  let v2096 : BitVec 32 := Scalar.addi c0_i32_2781 v2095
  v2096.toNat
def k0_dev106 (d0 : Dev nD) : Nat :=
  let c0_i32_2811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2810 : BitVec 32 := 1#32
  let v2109 : BitVec 32 := Scalar.muli v5 c1_i32_2810
  let v2110 : BitVec 32 := Scalar.addi c0_i32_2811 v2109
  v2110.toNat
def k0_dev107 (d0 : Dev nD) : Nat :=
  let c0_i32_2842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2841 : BitVec 32 := 1#32
  let v2141 : BitVec 32 := Scalar.muli v5 c1_i32_2841
  let v2142 : BitVec 32 := Scalar.addi c0_i32_2842 v2141
  v2142.toNat
def k0_dev108 (d0 : Dev nD) : Nat :=
  let c0_i32_2872 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2871 : BitVec 32 := 1#32
  let v2155 : BitVec 32 := Scalar.muli v7 c1_i32_2871
  let v2156 : BitVec 32 := Scalar.addi c0_i32_2872 v2155
  v2156.toNat
def k0_dev109 (d0 : Dev nD) : Nat :=
  let c0_i32_2900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2899 : BitVec 32 := 1#32
  let v2183 : BitVec 32 := Scalar.muli v5 c1_i32_2899
  let v2184 : BitVec 32 := Scalar.addi c0_i32_2900 v2183
  v2184.toNat
def k0_dev110 (d0 : Dev nD) : Nat :=
  let c0_i32_2930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2929 : BitVec 32 := 1#32
  let v2197 : BitVec 32 := Scalar.muli v7 c1_i32_2929
  let v2198 : BitVec 32 := Scalar.addi c0_i32_2930 v2197
  v2198.toNat
def k0_dev111 (d0 : Dev nD) : Nat :=
  let c0_i32_2958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2957 : BitVec 32 := 1#32
  let v2225 : BitVec 32 := Scalar.muli v5 c1_i32_2957
  let v2226 : BitVec 32 := Scalar.addi c0_i32_2958 v2225
  v2226.toNat
def k0_dev112 (d0 : Dev nD) : Nat :=
  let c0_i32_2988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2987 : BitVec 32 := 1#32
  let v2239 : BitVec 32 := Scalar.muli v7 c1_i32_2987
  let v2240 : BitVec 32 := Scalar.addi c0_i32_2988 v2239
  v2240.toNat
def k0_dev113 (d0 : Dev nD) : Nat :=
  let c0_i32_3016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3015 : BitVec 32 := 1#32
  let v2267 : BitVec 32 := Scalar.muli v5 c1_i32_3015
  let v2268 : BitVec 32 := Scalar.addi c0_i32_3016 v2267
  v2268.toNat
def k0_dev114 (d0 : Dev nD) : Nat :=
  let c0_i32_3046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3045 : BitVec 32 := 1#32
  let v2281 : BitVec 32 := Scalar.muli v7 c1_i32_3045
  let v2282 : BitVec 32 := Scalar.addi c0_i32_3046 v2281
  v2282.toNat
def k0_dev115 (d0 : Dev nD) : Nat :=
  let c0_i32_3077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3076 : BitVec 32 := 1#32
  let v2312 : BitVec 32 := Scalar.muli v7 c1_i32_3076
  let v2313 : BitVec 32 := Scalar.addi c0_i32_3077 v2312
  v2313.toNat
def k0_dev116 (d0 : Dev nD) : Nat :=
  let c0_i32_3107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3106 : BitVec 32 := 1#32
  let v2326 : BitVec 32 := Scalar.muli v5 c1_i32_3106
  let v2327 : BitVec 32 := Scalar.addi c0_i32_3107 v2326
  v2327.toNat
def k0_dev117 (d0 : Dev nD) : Nat :=
  let c0_i32_3135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3134 : BitVec 32 := 1#32
  let v2354 : BitVec 32 := Scalar.muli v7 c1_i32_3134
  let v2355 : BitVec 32 := Scalar.addi c0_i32_3135 v2354
  v2355.toNat
def k0_dev118 (d0 : Dev nD) : Nat :=
  let c0_i32_3165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3164 : BitVec 32 := 1#32
  let v2368 : BitVec 32 := Scalar.muli v5 c1_i32_3164
  let v2369 : BitVec 32 := Scalar.addi c0_i32_3165 v2368
  v2369.toNat
def k0_dev119 (d0 : Dev nD) : Nat :=
  let c0_i32_3193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3192 : BitVec 32 := 1#32
  let v2396 : BitVec 32 := Scalar.muli v7 c1_i32_3192
  let v2397 : BitVec 32 := Scalar.addi c0_i32_3193 v2396
  v2397.toNat
def k0_dev120 (d0 : Dev nD) : Nat :=
  let c0_i32_3223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3222 : BitVec 32 := 1#32
  let v2410 : BitVec 32 := Scalar.muli v5 c1_i32_3222
  let v2411 : BitVec 32 := Scalar.addi c0_i32_3223 v2410
  v2411.toNat
def k0_dev121 (d0 : Dev nD) : Nat :=
  let c0_i32_3251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3250 : BitVec 32 := 1#32
  let v2438 : BitVec 32 := Scalar.muli v7 c1_i32_3250
  let v2439 : BitVec 32 := Scalar.addi c0_i32_3251 v2438
  v2439.toNat
def k0_dev122 (d0 : Dev nD) : Nat :=
  let c0_i32_3281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3280 : BitVec 32 := 1#32
  let v2452 : BitVec 32 := Scalar.muli v5 c1_i32_3280
  let v2453 : BitVec 32 := Scalar.addi c0_i32_3281 v2452
  v2453.toNat
def k0_dev123 (d0 : Dev nD) : Nat :=
  let c0_i32_3312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3311 : BitVec 32 := 1#32
  let v2484 : BitVec 32 := Scalar.muli v5 c1_i32_3311
  let v2485 : BitVec 32 := Scalar.addi c0_i32_3312 v2484
  v2485.toNat
def k0_dev124 (d0 : Dev nD) : Nat :=
  let c0_i32_3342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3341 : BitVec 32 := 1#32
  let v2498 : BitVec 32 := Scalar.muli v7 c1_i32_3341
  let v2499 : BitVec 32 := Scalar.addi c0_i32_3342 v2498
  v2499.toNat
def k0_dev125 (d0 : Dev nD) : Nat :=
  let c0_i32_3370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3369 : BitVec 32 := 1#32
  let v2526 : BitVec 32 := Scalar.muli v5 c1_i32_3369
  let v2527 : BitVec 32 := Scalar.addi c0_i32_3370 v2526
  v2527.toNat
def k0_dev126 (d0 : Dev nD) : Nat :=
  let c0_i32_3400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3399 : BitVec 32 := 1#32
  let v2540 : BitVec 32 := Scalar.muli v7 c1_i32_3399
  let v2541 : BitVec 32 := Scalar.addi c0_i32_3400 v2540
  v2541.toNat
def k0_dev127 (d0 : Dev nD) : Nat :=
  let c0_i32_3428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3427 : BitVec 32 := 1#32
  let v2568 : BitVec 32 := Scalar.muli v5 c1_i32_3427
  let v2569 : BitVec 32 := Scalar.addi c0_i32_3428 v2568
  v2569.toNat
def k0_dev128 (d0 : Dev nD) : Nat :=
  let c0_i32_3458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3457 : BitVec 32 := 1#32
  let v2582 : BitVec 32 := Scalar.muli v7 c1_i32_3457
  let v2583 : BitVec 32 := Scalar.addi c0_i32_3458 v2582
  v2583.toNat
def k0_dev129 (d0 : Dev nD) : Nat :=
  let c0_i32_3486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3485 : BitVec 32 := 1#32
  let v2610 : BitVec 32 := Scalar.muli v5 c1_i32_3485
  let v2611 : BitVec 32 := Scalar.addi c0_i32_3486 v2610
  v2611.toNat
def k0_dev130 (d0 : Dev nD) : Nat :=
  let c0_i32_3516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3515 : BitVec 32 := 1#32
  let v2624 : BitVec 32 := Scalar.muli v7 c1_i32_3515
  let v2625 : BitVec 32 := Scalar.addi c0_i32_3516 v2624
  v2625.toNat
def k0_dev131 (d0 : Dev nD) : Nat :=
  let c0_i32_3547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3546 : BitVec 32 := 1#32
  let v2655 : BitVec 32 := Scalar.muli v7 c1_i32_3546
  let v2656 : BitVec 32 := Scalar.addi c0_i32_3547 v2655
  v2656.toNat
def k0_dev132 (d0 : Dev nD) : Nat :=
  let c0_i32_3577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3576 : BitVec 32 := 1#32
  let v2669 : BitVec 32 := Scalar.muli v5 c1_i32_3576
  let v2670 : BitVec 32 := Scalar.addi c0_i32_3577 v2669
  v2670.toNat
def k0_dev133 (d0 : Dev nD) : Nat :=
  let c0_i32_3605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3604 : BitVec 32 := 1#32
  let v2697 : BitVec 32 := Scalar.muli v7 c1_i32_3604
  let v2698 : BitVec 32 := Scalar.addi c0_i32_3605 v2697
  v2698.toNat
def k0_dev134 (d0 : Dev nD) : Nat :=
  let c0_i32_3635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3634 : BitVec 32 := 1#32
  let v2711 : BitVec 32 := Scalar.muli v5 c1_i32_3634
  let v2712 : BitVec 32 := Scalar.addi c0_i32_3635 v2711
  v2712.toNat
def k0_dev135 (d0 : Dev nD) : Nat :=
  let c0_i32_3663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3662 : BitVec 32 := 1#32
  let v2739 : BitVec 32 := Scalar.muli v7 c1_i32_3662
  let v2740 : BitVec 32 := Scalar.addi c0_i32_3663 v2739
  v2740.toNat
def k0_dev136 (d0 : Dev nD) : Nat :=
  let c0_i32_3693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3692 : BitVec 32 := 1#32
  let v2753 : BitVec 32 := Scalar.muli v5 c1_i32_3692
  let v2754 : BitVec 32 := Scalar.addi c0_i32_3693 v2753
  v2754.toNat
def k0_dev137 (d0 : Dev nD) : Nat :=
  let c0_i32_3721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3720 : BitVec 32 := 1#32
  let v2781 : BitVec 32 := Scalar.muli v7 c1_i32_3720
  let v2782 : BitVec 32 := Scalar.addi c0_i32_3721 v2781
  v2782.toNat
def k0_dev138 (d0 : Dev nD) : Nat :=
  let c0_i32_3751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3750 : BitVec 32 := 1#32
  let v2795 : BitVec 32 := Scalar.muli v5 c1_i32_3750
  let v2796 : BitVec 32 := Scalar.addi c0_i32_3751 v2795
  v2796.toNat
def k0_dev139 (d0 : Dev nD) : Nat :=
  let c0_i32_3782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3781 : BitVec 32 := 1#32
  let v2827 : BitVec 32 := Scalar.muli v5 c1_i32_3781
  let v2828 : BitVec 32 := Scalar.addi c0_i32_3782 v2827
  v2828.toNat
def k0_dev140 (d0 : Dev nD) : Nat :=
  let c0_i32_3812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3811 : BitVec 32 := 1#32
  let v2841 : BitVec 32 := Scalar.muli v7 c1_i32_3811
  let v2842 : BitVec 32 := Scalar.addi c0_i32_3812 v2841
  v2842.toNat
def k0_dev141 (d0 : Dev nD) : Nat :=
  let c0_i32_3840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3839 : BitVec 32 := 1#32
  let v2869 : BitVec 32 := Scalar.muli v5 c1_i32_3839
  let v2870 : BitVec 32 := Scalar.addi c0_i32_3840 v2869
  v2870.toNat
def k0_dev142 (d0 : Dev nD) : Nat :=
  let c0_i32_3870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3869 : BitVec 32 := 1#32
  let v2883 : BitVec 32 := Scalar.muli v7 c1_i32_3869
  let v2884 : BitVec 32 := Scalar.addi c0_i32_3870 v2883
  v2884.toNat
def k0_dev143 (d0 : Dev nD) : Nat :=
  let c0_i32_3898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3897 : BitVec 32 := 1#32
  let v2911 : BitVec 32 := Scalar.muli v5 c1_i32_3897
  let v2912 : BitVec 32 := Scalar.addi c0_i32_3898 v2911
  v2912.toNat
def k0_dev144 (d0 : Dev nD) : Nat :=
  let c0_i32_3928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3927 : BitVec 32 := 1#32
  let v2925 : BitVec 32 := Scalar.muli v7 c1_i32_3927
  let v2926 : BitVec 32 := Scalar.addi c0_i32_3928 v2925
  v2926.toNat
def k0_dev145 (d0 : Dev nD) : Nat :=
  let c0_i32_3956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3955 : BitVec 32 := 1#32
  let v2953 : BitVec 32 := Scalar.muli v5 c1_i32_3955
  let v2954 : BitVec 32 := Scalar.addi c0_i32_3956 v2953
  v2954.toNat
def k0_dev146 (d0 : Dev nD) : Nat :=
  let c0_i32_3986 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3985 : BitVec 32 := 1#32
  let v2967 : BitVec 32 := Scalar.muli v7 c1_i32_3985
  let v2968 : BitVec 32 := Scalar.addi c0_i32_3986 v2967
  v2968.toNat
def k0_dev147 (d0 : Dev nD) : Nat :=
  let c0_i32_4017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4016 : BitVec 32 := 1#32
  let v2998 : BitVec 32 := Scalar.muli v7 c1_i32_4016
  let v2999 : BitVec 32 := Scalar.addi c0_i32_4017 v2998
  v2999.toNat
def k0_dev148 (d0 : Dev nD) : Nat :=
  let c0_i32_4047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4046 : BitVec 32 := 1#32
  let v3012 : BitVec 32 := Scalar.muli v5 c1_i32_4046
  let v3013 : BitVec 32 := Scalar.addi c0_i32_4047 v3012
  v3013.toNat
def k0_dev149 (d0 : Dev nD) : Nat :=
  let c0_i32_4075 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4074 : BitVec 32 := 1#32
  let v3040 : BitVec 32 := Scalar.muli v7 c1_i32_4074
  let v3041 : BitVec 32 := Scalar.addi c0_i32_4075 v3040
  v3041.toNat
def k0_dev150 (d0 : Dev nD) : Nat :=
  let c0_i32_4105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4104 : BitVec 32 := 1#32
  let v3054 : BitVec 32 := Scalar.muli v5 c1_i32_4104
  let v3055 : BitVec 32 := Scalar.addi c0_i32_4105 v3054
  v3055.toNat
def k0_dev151 (d0 : Dev nD) : Nat :=
  let c0_i32_4133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4132 : BitVec 32 := 1#32
  let v3082 : BitVec 32 := Scalar.muli v7 c1_i32_4132
  let v3083 : BitVec 32 := Scalar.addi c0_i32_4133 v3082
  v3083.toNat
def k0_dev152 (d0 : Dev nD) : Nat :=
  let c0_i32_4163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4162 : BitVec 32 := 1#32
  let v3096 : BitVec 32 := Scalar.muli v5 c1_i32_4162
  let v3097 : BitVec 32 := Scalar.addi c0_i32_4163 v3096
  v3097.toNat
def k0_dev153 (d0 : Dev nD) : Nat :=
  let c0_i32_4191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4190 : BitVec 32 := 1#32
  let v3124 : BitVec 32 := Scalar.muli v7 c1_i32_4190
  let v3125 : BitVec 32 := Scalar.addi c0_i32_4191 v3124
  v3125.toNat
def k0_dev154 (d0 : Dev nD) : Nat :=
  let c0_i32_4221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4220 : BitVec 32 := 1#32
  let v3138 : BitVec 32 := Scalar.muli v5 c1_i32_4220
  let v3139 : BitVec 32 := Scalar.addi c0_i32_4221 v3138
  v3139.toNat
def k0_dev155 (d0 : Dev nD) : Nat :=
  let c0_i32_4252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4251 : BitVec 32 := 1#32
  let v3170 : BitVec 32 := Scalar.muli v5 c1_i32_4251
  let v3171 : BitVec 32 := Scalar.addi c0_i32_4252 v3170
  v3171.toNat
def k0_dev156 (d0 : Dev nD) : Nat :=
  let c0_i32_4282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4281 : BitVec 32 := 1#32
  let v3184 : BitVec 32 := Scalar.muli v7 c1_i32_4281
  let v3185 : BitVec 32 := Scalar.addi c0_i32_4282 v3184
  v3185.toNat
def k0_dev157 (d0 : Dev nD) : Nat :=
  let c0_i32_4310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4309 : BitVec 32 := 1#32
  let v3212 : BitVec 32 := Scalar.muli v5 c1_i32_4309
  let v3213 : BitVec 32 := Scalar.addi c0_i32_4310 v3212
  v3213.toNat
def k0_dev158 (d0 : Dev nD) : Nat :=
  let c0_i32_4340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4339 : BitVec 32 := 1#32
  let v3226 : BitVec 32 := Scalar.muli v7 c1_i32_4339
  let v3227 : BitVec 32 := Scalar.addi c0_i32_4340 v3226
  v3227.toNat
def k0_dev159 (d0 : Dev nD) : Nat :=
  let c0_i32_4368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4367 : BitVec 32 := 1#32
  let v3254 : BitVec 32 := Scalar.muli v5 c1_i32_4367
  let v3255 : BitVec 32 := Scalar.addi c0_i32_4368 v3254
  v3255.toNat
def k0_dev160 (d0 : Dev nD) : Nat :=
  let c0_i32_4398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4397 : BitVec 32 := 1#32
  let v3268 : BitVec 32 := Scalar.muli v7 c1_i32_4397
  let v3269 : BitVec 32 := Scalar.addi c0_i32_4398 v3268
  v3269.toNat
def k0_dev161 (d0 : Dev nD) : Nat :=
  let c0_i32_4426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4425 : BitVec 32 := 1#32
  let v3296 : BitVec 32 := Scalar.muli v5 c1_i32_4425
  let v3297 : BitVec 32 := Scalar.addi c0_i32_4426 v3296
  v3297.toNat
def k0_dev162 (d0 : Dev nD) : Nat :=
  let c0_i32_4456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4455 : BitVec 32 := 1#32
  let v3310 : BitVec 32 := Scalar.muli v7 c1_i32_4455
  let v3311 : BitVec 32 := Scalar.addi c0_i32_4456 v3310
  v3311.toNat
def k0_dev163 (d0 : Dev nD) : Nat :=
  let c0_i32_4487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4486 : BitVec 32 := 1#32
  let v3341 : BitVec 32 := Scalar.muli v7 c1_i32_4486
  let v3342 : BitVec 32 := Scalar.addi c0_i32_4487 v3341
  v3342.toNat
def k0_dev164 (d0 : Dev nD) : Nat :=
  let c0_i32_4517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4516 : BitVec 32 := 1#32
  let v3355 : BitVec 32 := Scalar.muli v5 c1_i32_4516
  let v3356 : BitVec 32 := Scalar.addi c0_i32_4517 v3355
  v3356.toNat
def k0_dev165 (d0 : Dev nD) : Nat :=
  let c0_i32_4545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4544 : BitVec 32 := 1#32
  let v3383 : BitVec 32 := Scalar.muli v7 c1_i32_4544
  let v3384 : BitVec 32 := Scalar.addi c0_i32_4545 v3383
  v3384.toNat
def k0_dev166 (d0 : Dev nD) : Nat :=
  let c0_i32_4575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4574 : BitVec 32 := 1#32
  let v3397 : BitVec 32 := Scalar.muli v5 c1_i32_4574
  let v3398 : BitVec 32 := Scalar.addi c0_i32_4575 v3397
  v3398.toNat
def k0_dev167 (d0 : Dev nD) : Nat :=
  let c0_i32_4603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4602 : BitVec 32 := 1#32
  let v3425 : BitVec 32 := Scalar.muli v7 c1_i32_4602
  let v3426 : BitVec 32 := Scalar.addi c0_i32_4603 v3425
  v3426.toNat
def k0_dev168 (d0 : Dev nD) : Nat :=
  let c0_i32_4633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4632 : BitVec 32 := 1#32
  let v3439 : BitVec 32 := Scalar.muli v5 c1_i32_4632
  let v3440 : BitVec 32 := Scalar.addi c0_i32_4633 v3439
  v3440.toNat
def k0_dev169 (d0 : Dev nD) : Nat :=
  let c0_i32_4661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4660 : BitVec 32 := 1#32
  let v3467 : BitVec 32 := Scalar.muli v7 c1_i32_4660
  let v3468 : BitVec 32 := Scalar.addi c0_i32_4661 v3467
  v3468.toNat
def k0_dev170 (d0 : Dev nD) : Nat :=
  let c0_i32_4691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4690 : BitVec 32 := 1#32
  let v3481 : BitVec 32 := Scalar.muli v5 c1_i32_4690
  let v3482 : BitVec 32 := Scalar.addi c0_i32_4691 v3481
  v3482.toNat
def k0_dev171 (d0 : Dev nD) : Nat :=
  let c0_i32_4722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4721 : BitVec 32 := 1#32
  let v3513 : BitVec 32 := Scalar.muli v5 c1_i32_4721
  let v3514 : BitVec 32 := Scalar.addi c0_i32_4722 v3513
  v3514.toNat
def k0_dev172 (d0 : Dev nD) : Nat :=
  let c0_i32_4752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4751 : BitVec 32 := 1#32
  let v3527 : BitVec 32 := Scalar.muli v7 c1_i32_4751
  let v3528 : BitVec 32 := Scalar.addi c0_i32_4752 v3527
  v3528.toNat
def k0_dev173 (d0 : Dev nD) : Nat :=
  let c0_i32_4780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4779 : BitVec 32 := 1#32
  let v3555 : BitVec 32 := Scalar.muli v5 c1_i32_4779
  let v3556 : BitVec 32 := Scalar.addi c0_i32_4780 v3555
  v3556.toNat
def k0_dev174 (d0 : Dev nD) : Nat :=
  let c0_i32_4810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4809 : BitVec 32 := 1#32
  let v3569 : BitVec 32 := Scalar.muli v7 c1_i32_4809
  let v3570 : BitVec 32 := Scalar.addi c0_i32_4810 v3569
  v3570.toNat
def k0_dev175 (d0 : Dev nD) : Nat :=
  let c0_i32_4838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4837 : BitVec 32 := 1#32
  let v3597 : BitVec 32 := Scalar.muli v5 c1_i32_4837
  let v3598 : BitVec 32 := Scalar.addi c0_i32_4838 v3597
  v3598.toNat
def k0_dev176 (d0 : Dev nD) : Nat :=
  let c0_i32_4868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4867 : BitVec 32 := 1#32
  let v3611 : BitVec 32 := Scalar.muli v7 c1_i32_4867
  let v3612 : BitVec 32 := Scalar.addi c0_i32_4868 v3611
  v3612.toNat
def k0_dev177 (d0 : Dev nD) : Nat :=
  let c0_i32_4896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4895 : BitVec 32 := 1#32
  let v3639 : BitVec 32 := Scalar.muli v5 c1_i32_4895
  let v3640 : BitVec 32 := Scalar.addi c0_i32_4896 v3639
  v3640.toNat
def k0_dev178 (d0 : Dev nD) : Nat :=
  let c0_i32_4926 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4925 : BitVec 32 := 1#32
  let v3653 : BitVec 32 := Scalar.muli v7 c1_i32_4925
  let v3654 : BitVec 32 := Scalar.addi c0_i32_4926 v3653
  v3654.toNat
def k0_dev179 (d0 : Dev nD) : Nat :=
  let c0_i32_4957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4956 : BitVec 32 := 1#32
  let v3684 : BitVec 32 := Scalar.muli v7 c1_i32_4956
  let v3685 : BitVec 32 := Scalar.addi c0_i32_4957 v3684
  v3685.toNat
def k0_dev180 (d0 : Dev nD) : Nat :=
  let c0_i32_4987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4986 : BitVec 32 := 1#32
  let v3698 : BitVec 32 := Scalar.muli v5 c1_i32_4986
  let v3699 : BitVec 32 := Scalar.addi c0_i32_4987 v3698
  v3699.toNat
def k0_dev181 (d0 : Dev nD) : Nat :=
  let c0_i32_5015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5014 : BitVec 32 := 1#32
  let v3726 : BitVec 32 := Scalar.muli v7 c1_i32_5014
  let v3727 : BitVec 32 := Scalar.addi c0_i32_5015 v3726
  v3727.toNat
def k0_dev182 (d0 : Dev nD) : Nat :=
  let c0_i32_5045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5044 : BitVec 32 := 1#32
  let v3740 : BitVec 32 := Scalar.muli v5 c1_i32_5044
  let v3741 : BitVec 32 := Scalar.addi c0_i32_5045 v3740
  v3741.toNat
def k0_dev183 (d0 : Dev nD) : Nat :=
  let c0_i32_5073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5072 : BitVec 32 := 1#32
  let v3768 : BitVec 32 := Scalar.muli v7 c1_i32_5072
  let v3769 : BitVec 32 := Scalar.addi c0_i32_5073 v3768
  v3769.toNat
def k0_dev184 (d0 : Dev nD) : Nat :=
  let c0_i32_5103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5102 : BitVec 32 := 1#32
  let v3782 : BitVec 32 := Scalar.muli v5 c1_i32_5102
  let v3783 : BitVec 32 := Scalar.addi c0_i32_5103 v3782
  v3783.toNat
def k0_dev185 (d0 : Dev nD) : Nat :=
  let c0_i32_5131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5130 : BitVec 32 := 1#32
  let v3810 : BitVec 32 := Scalar.muli v7 c1_i32_5130
  let v3811 : BitVec 32 := Scalar.addi c0_i32_5131 v3810
  v3811.toNat
def k0_dev186 (d0 : Dev nD) : Nat :=
  let c0_i32_5161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5160 : BitVec 32 := 1#32
  let v3824 : BitVec 32 := Scalar.muli v5 c1_i32_5160
  let v3825 : BitVec 32 := Scalar.addi c0_i32_5161 v3824
  v3825.toNat
def k0_dev187 (d0 : Dev nD) : Nat :=
  let c0_i32_5192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5191 : BitVec 32 := 1#32
  let v3856 : BitVec 32 := Scalar.muli v5 c1_i32_5191
  let v3857 : BitVec 32 := Scalar.addi c0_i32_5192 v3856
  v3857.toNat
def k0_dev188 (d0 : Dev nD) : Nat :=
  let c0_i32_5222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5221 : BitVec 32 := 1#32
  let v3870 : BitVec 32 := Scalar.muli v7 c1_i32_5221
  let v3871 : BitVec 32 := Scalar.addi c0_i32_5222 v3870
  v3871.toNat
def k0_dev189 (d0 : Dev nD) : Nat :=
  let c0_i32_5250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5249 : BitVec 32 := 1#32
  let v3898 : BitVec 32 := Scalar.muli v5 c1_i32_5249
  let v3899 : BitVec 32 := Scalar.addi c0_i32_5250 v3898
  v3899.toNat
def k0_dev190 (d0 : Dev nD) : Nat :=
  let c0_i32_5280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5279 : BitVec 32 := 1#32
  let v3912 : BitVec 32 := Scalar.muli v7 c1_i32_5279
  let v3913 : BitVec 32 := Scalar.addi c0_i32_5280 v3912
  v3913.toNat
def k0_dev191 (d0 : Dev nD) : Nat :=
  let c0_i32_5308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5307 : BitVec 32 := 1#32
  let v3940 : BitVec 32 := Scalar.muli v5 c1_i32_5307
  let v3941 : BitVec 32 := Scalar.addi c0_i32_5308 v3940
  v3941.toNat
def k0_dev192 (d0 : Dev nD) : Nat :=
  let c0_i32_5338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5337 : BitVec 32 := 1#32
  let v3954 : BitVec 32 := Scalar.muli v7 c1_i32_5337
  let v3955 : BitVec 32 := Scalar.addi c0_i32_5338 v3954
  v3955.toNat
def k0_dev193 (d0 : Dev nD) : Nat :=
  let c0_i32_5366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5365 : BitVec 32 := 1#32
  let v3982 : BitVec 32 := Scalar.muli v5 c1_i32_5365
  let v3983 : BitVec 32 := Scalar.addi c0_i32_5366 v3982
  v3983.toNat
def k0_dev194 (d0 : Dev nD) : Nat :=
  let c0_i32_5396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5395 : BitVec 32 := 1#32
  let v3996 : BitVec 32 := Scalar.muli v7 c1_i32_5395
  let v3997 : BitVec 32 := Scalar.addi c0_i32_5396 v3996
  v3997.toNat
def k0_dev195 (d0 : Dev nD) : Nat :=
  let c0_i32_5427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5426 : BitVec 32 := 1#32
  let v4027 : BitVec 32 := Scalar.muli v7 c1_i32_5426
  let v4028 : BitVec 32 := Scalar.addi c0_i32_5427 v4027
  v4028.toNat
def k0_dev196 (d0 : Dev nD) : Nat :=
  let c0_i32_5457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5456 : BitVec 32 := 1#32
  let v4041 : BitVec 32 := Scalar.muli v5 c1_i32_5456
  let v4042 : BitVec 32 := Scalar.addi c0_i32_5457 v4041
  v4042.toNat
def k0_dev197 (d0 : Dev nD) : Nat :=
  let c0_i32_5485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5484 : BitVec 32 := 1#32
  let v4069 : BitVec 32 := Scalar.muli v7 c1_i32_5484
  let v4070 : BitVec 32 := Scalar.addi c0_i32_5485 v4069
  v4070.toNat
def k0_dev198 (d0 : Dev nD) : Nat :=
  let c0_i32_5515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5514 : BitVec 32 := 1#32
  let v4083 : BitVec 32 := Scalar.muli v5 c1_i32_5514
  let v4084 : BitVec 32 := Scalar.addi c0_i32_5515 v4083
  v4084.toNat
def k0_dev199 (d0 : Dev nD) : Nat :=
  let c0_i32_5543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5542 : BitVec 32 := 1#32
  let v4111 : BitVec 32 := Scalar.muli v7 c1_i32_5542
  let v4112 : BitVec 32 := Scalar.addi c0_i32_5543 v4111
  v4112.toNat
def k0_dev200 (d0 : Dev nD) : Nat :=
  let c0_i32_5573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5572 : BitVec 32 := 1#32
  let v4125 : BitVec 32 := Scalar.muli v5 c1_i32_5572
  let v4126 : BitVec 32 := Scalar.addi c0_i32_5573 v4125
  v4126.toNat
def k0_dev201 (d0 : Dev nD) : Nat :=
  let c0_i32_5601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5600 : BitVec 32 := 1#32
  let v4153 : BitVec 32 := Scalar.muli v7 c1_i32_5600
  let v4154 : BitVec 32 := Scalar.addi c0_i32_5601 v4153
  v4154.toNat
def k0_dev202 (d0 : Dev nD) : Nat :=
  let c0_i32_5631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5630 : BitVec 32 := 1#32
  let v4167 : BitVec 32 := Scalar.muli v5 c1_i32_5630
  let v4168 : BitVec 32 := Scalar.addi c0_i32_5631 v4167
  v4168.toNat
def k0_dev203 (d0 : Dev nD) : Nat :=
  let c0_i32_5662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5661 : BitVec 32 := 1#32
  let v4199 : BitVec 32 := Scalar.muli v5 c1_i32_5661
  let v4200 : BitVec 32 := Scalar.addi c0_i32_5662 v4199
  v4200.toNat
def k0_dev204 (d0 : Dev nD) : Nat :=
  let c0_i32_5692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5691 : BitVec 32 := 1#32
  let v4213 : BitVec 32 := Scalar.muli v7 c1_i32_5691
  let v4214 : BitVec 32 := Scalar.addi c0_i32_5692 v4213
  v4214.toNat
def k0_dev205 (d0 : Dev nD) : Nat :=
  let c0_i32_5720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5719 : BitVec 32 := 1#32
  let v4241 : BitVec 32 := Scalar.muli v5 c1_i32_5719
  let v4242 : BitVec 32 := Scalar.addi c0_i32_5720 v4241
  v4242.toNat
def k0_dev206 (d0 : Dev nD) : Nat :=
  let c0_i32_5750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5749 : BitVec 32 := 1#32
  let v4255 : BitVec 32 := Scalar.muli v7 c1_i32_5749
  let v4256 : BitVec 32 := Scalar.addi c0_i32_5750 v4255
  v4256.toNat
def k0_dev207 (d0 : Dev nD) : Nat :=
  let c0_i32_5778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5777 : BitVec 32 := 1#32
  let v4283 : BitVec 32 := Scalar.muli v5 c1_i32_5777
  let v4284 : BitVec 32 := Scalar.addi c0_i32_5778 v4283
  v4284.toNat
def k0_dev208 (d0 : Dev nD) : Nat :=
  let c0_i32_5808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5807 : BitVec 32 := 1#32
  let v4297 : BitVec 32 := Scalar.muli v7 c1_i32_5807
  let v4298 : BitVec 32 := Scalar.addi c0_i32_5808 v4297
  v4298.toNat
def k0_dev209 (d0 : Dev nD) : Nat :=
  let c0_i32_5836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5835 : BitVec 32 := 1#32
  let v4325 : BitVec 32 := Scalar.muli v5 c1_i32_5835
  let v4326 : BitVec 32 := Scalar.addi c0_i32_5836 v4325
  v4326.toNat
def k0_dev210 (d0 : Dev nD) : Nat :=
  let c0_i32_5866 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5865 : BitVec 32 := 1#32
  let v4339 : BitVec 32 := Scalar.muli v7 c1_i32_5865
  let v4340 : BitVec 32 := Scalar.addi c0_i32_5866 v4339
  v4340.toNat
def k0_dev211 (d0 : Dev nD) : Nat :=
  let c0_i32_5897 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5896 : BitVec 32 := 1#32
  let v4370 : BitVec 32 := Scalar.muli v7 c1_i32_5896
  let v4371 : BitVec 32 := Scalar.addi c0_i32_5897 v4370
  v4371.toNat
def k0_dev212 (d0 : Dev nD) : Nat :=
  let c0_i32_5927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5926 : BitVec 32 := 1#32
  let v4384 : BitVec 32 := Scalar.muli v5 c1_i32_5926
  let v4385 : BitVec 32 := Scalar.addi c0_i32_5927 v4384
  v4385.toNat
def k0_dev213 (d0 : Dev nD) : Nat :=
  let c0_i32_5955 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_5954 : BitVec 32 := 1#32
  let v4412 : BitVec 32 := Scalar.muli v7 c1_i32_5954
  let v4413 : BitVec 32 := Scalar.addi c0_i32_5955 v4412
  v4413.toNat
def k0_dev214 (d0 : Dev nD) : Nat :=
  let c0_i32_5985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_5984 : BitVec 32 := 1#32
  let v4426 : BitVec 32 := Scalar.muli v5 c1_i32_5984
  let v4427 : BitVec 32 := Scalar.addi c0_i32_5985 v4426
  v4427.toNat
def k0_dev215 (d0 : Dev nD) : Nat :=
  let c0_i32_6013 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6012 : BitVec 32 := 1#32
  let v4454 : BitVec 32 := Scalar.muli v7 c1_i32_6012
  let v4455 : BitVec 32 := Scalar.addi c0_i32_6013 v4454
  v4455.toNat
def k0_dev216 (d0 : Dev nD) : Nat :=
  let c0_i32_6043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6042 : BitVec 32 := 1#32
  let v4468 : BitVec 32 := Scalar.muli v5 c1_i32_6042
  let v4469 : BitVec 32 := Scalar.addi c0_i32_6043 v4468
  v4469.toNat
def k0_dev217 (d0 : Dev nD) : Nat :=
  let c0_i32_6071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6070 : BitVec 32 := 1#32
  let v4496 : BitVec 32 := Scalar.muli v7 c1_i32_6070
  let v4497 : BitVec 32 := Scalar.addi c0_i32_6071 v4496
  v4497.toNat
def k0_dev218 (d0 : Dev nD) : Nat :=
  let c0_i32_6101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6100 : BitVec 32 := 1#32
  let v4510 : BitVec 32 := Scalar.muli v5 c1_i32_6100
  let v4511 : BitVec 32 := Scalar.addi c0_i32_6101 v4510
  v4511.toNat
def k0_dev219 (d0 : Dev nD) : Nat :=
  let c0_i32_6132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6131 : BitVec 32 := 1#32
  let v4542 : BitVec 32 := Scalar.muli v5 c1_i32_6131
  let v4543 : BitVec 32 := Scalar.addi c0_i32_6132 v4542
  v4543.toNat
def k0_dev220 (d0 : Dev nD) : Nat :=
  let c0_i32_6162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6161 : BitVec 32 := 1#32
  let v4556 : BitVec 32 := Scalar.muli v7 c1_i32_6161
  let v4557 : BitVec 32 := Scalar.addi c0_i32_6162 v4556
  v4557.toNat
def k0_dev221 (d0 : Dev nD) : Nat :=
  let c0_i32_6190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6189 : BitVec 32 := 1#32
  let v4584 : BitVec 32 := Scalar.muli v5 c1_i32_6189
  let v4585 : BitVec 32 := Scalar.addi c0_i32_6190 v4584
  v4585.toNat
def k0_dev222 (d0 : Dev nD) : Nat :=
  let c0_i32_6220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6219 : BitVec 32 := 1#32
  let v4598 : BitVec 32 := Scalar.muli v7 c1_i32_6219
  let v4599 : BitVec 32 := Scalar.addi c0_i32_6220 v4598
  v4599.toNat
def k0_dev223 (d0 : Dev nD) : Nat :=
  let c0_i32_6248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6247 : BitVec 32 := 1#32
  let v4626 : BitVec 32 := Scalar.muli v5 c1_i32_6247
  let v4627 : BitVec 32 := Scalar.addi c0_i32_6248 v4626
  v4627.toNat
def k0_dev224 (d0 : Dev nD) : Nat :=
  let c0_i32_6278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6277 : BitVec 32 := 1#32
  let v4640 : BitVec 32 := Scalar.muli v7 c1_i32_6277
  let v4641 : BitVec 32 := Scalar.addi c0_i32_6278 v4640
  v4641.toNat
def k0_dev225 (d0 : Dev nD) : Nat :=
  let c0_i32_6306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6305 : BitVec 32 := 1#32
  let v4668 : BitVec 32 := Scalar.muli v5 c1_i32_6305
  let v4669 : BitVec 32 := Scalar.addi c0_i32_6306 v4668
  v4669.toNat
def k0_dev226 (d0 : Dev nD) : Nat :=
  let c0_i32_6336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6335 : BitVec 32 := 1#32
  let v4682 : BitVec 32 := Scalar.muli v7 c1_i32_6335
  let v4683 : BitVec 32 := Scalar.addi c0_i32_6336 v4682
  v4683.toNat
def k0_dev227 (d0 : Dev nD) : Nat :=
  let c0_i32_6367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6366 : BitVec 32 := 1#32
  let v4713 : BitVec 32 := Scalar.muli v7 c1_i32_6366
  let v4714 : BitVec 32 := Scalar.addi c0_i32_6367 v4713
  v4714.toNat
def k0_dev228 (d0 : Dev nD) : Nat :=
  let c0_i32_6397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6396 : BitVec 32 := 1#32
  let v4727 : BitVec 32 := Scalar.muli v5 c1_i32_6396
  let v4728 : BitVec 32 := Scalar.addi c0_i32_6397 v4727
  v4728.toNat
def k0_dev229 (d0 : Dev nD) : Nat :=
  let c0_i32_6425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6424 : BitVec 32 := 1#32
  let v4755 : BitVec 32 := Scalar.muli v7 c1_i32_6424
  let v4756 : BitVec 32 := Scalar.addi c0_i32_6425 v4755
  v4756.toNat
def k0_dev230 (d0 : Dev nD) : Nat :=
  let c0_i32_6455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6454 : BitVec 32 := 1#32
  let v4769 : BitVec 32 := Scalar.muli v5 c1_i32_6454
  let v4770 : BitVec 32 := Scalar.addi c0_i32_6455 v4769
  v4770.toNat
def k0_dev231 (d0 : Dev nD) : Nat :=
  let c0_i32_6483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6482 : BitVec 32 := 1#32
  let v4797 : BitVec 32 := Scalar.muli v7 c1_i32_6482
  let v4798 : BitVec 32 := Scalar.addi c0_i32_6483 v4797
  v4798.toNat
def k0_dev232 (d0 : Dev nD) : Nat :=
  let c0_i32_6513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6512 : BitVec 32 := 1#32
  let v4811 : BitVec 32 := Scalar.muli v5 c1_i32_6512
  let v4812 : BitVec 32 := Scalar.addi c0_i32_6513 v4811
  v4812.toNat
def k0_dev233 (d0 : Dev nD) : Nat :=
  let c0_i32_6541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6540 : BitVec 32 := 1#32
  let v4839 : BitVec 32 := Scalar.muli v7 c1_i32_6540
  let v4840 : BitVec 32 := Scalar.addi c0_i32_6541 v4839
  v4840.toNat
def k0_dev234 (d0 : Dev nD) : Nat :=
  let c0_i32_6571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6570 : BitVec 32 := 1#32
  let v4853 : BitVec 32 := Scalar.muli v5 c1_i32_6570
  let v4854 : BitVec 32 := Scalar.addi c0_i32_6571 v4853
  v4854.toNat
def k0_dev235 (d0 : Dev nD) : Nat :=
  let c0_i32_6602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6601 : BitVec 32 := 1#32
  let v4885 : BitVec 32 := Scalar.muli v5 c1_i32_6601
  let v4886 : BitVec 32 := Scalar.addi c0_i32_6602 v4885
  v4886.toNat
def k0_dev236 (d0 : Dev nD) : Nat :=
  let c0_i32_6632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6631 : BitVec 32 := 1#32
  let v4899 : BitVec 32 := Scalar.muli v7 c1_i32_6631
  let v4900 : BitVec 32 := Scalar.addi c0_i32_6632 v4899
  v4900.toNat
def k0_dev237 (d0 : Dev nD) : Nat :=
  let c0_i32_6660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6659 : BitVec 32 := 1#32
  let v4927 : BitVec 32 := Scalar.muli v5 c1_i32_6659
  let v4928 : BitVec 32 := Scalar.addi c0_i32_6660 v4927
  v4928.toNat
def k0_dev238 (d0 : Dev nD) : Nat :=
  let c0_i32_6690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6689 : BitVec 32 := 1#32
  let v4941 : BitVec 32 := Scalar.muli v7 c1_i32_6689
  let v4942 : BitVec 32 := Scalar.addi c0_i32_6690 v4941
  v4942.toNat
def k0_dev239 (d0 : Dev nD) : Nat :=
  let c0_i32_6718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6717 : BitVec 32 := 1#32
  let v4969 : BitVec 32 := Scalar.muli v5 c1_i32_6717
  let v4970 : BitVec 32 := Scalar.addi c0_i32_6718 v4969
  v4970.toNat
def k0_dev240 (d0 : Dev nD) : Nat :=
  let c0_i32_6748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6747 : BitVec 32 := 1#32
  let v4983 : BitVec 32 := Scalar.muli v7 c1_i32_6747
  let v4984 : BitVec 32 := Scalar.addi c0_i32_6748 v4983
  v4984.toNat
def k0_dev241 (d0 : Dev nD) : Nat :=
  let c0_i32_6776 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6775 : BitVec 32 := 1#32
  let v5011 : BitVec 32 := Scalar.muli v5 c1_i32_6775
  let v5012 : BitVec 32 := Scalar.addi c0_i32_6776 v5011
  v5012.toNat
def k0_dev242 (d0 : Dev nD) : Nat :=
  let c0_i32_6806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6805 : BitVec 32 := 1#32
  let v5025 : BitVec 32 := Scalar.muli v7 c1_i32_6805
  let v5026 : BitVec 32 := Scalar.addi c0_i32_6806 v5025
  v5026.toNat
def k0_dev243 (d0 : Dev nD) : Nat :=
  let c0_i32_6837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6836 : BitVec 32 := 1#32
  let v5056 : BitVec 32 := Scalar.muli v7 c1_i32_6836
  let v5057 : BitVec 32 := Scalar.addi c0_i32_6837 v5056
  v5057.toNat
def k0_dev244 (d0 : Dev nD) : Nat :=
  let c0_i32_6867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6866 : BitVec 32 := 1#32
  let v5070 : BitVec 32 := Scalar.muli v5 c1_i32_6866
  let v5071 : BitVec 32 := Scalar.addi c0_i32_6867 v5070
  v5071.toNat
def k0_dev245 (d0 : Dev nD) : Nat :=
  let c0_i32_6895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6894 : BitVec 32 := 1#32
  let v5098 : BitVec 32 := Scalar.muli v7 c1_i32_6894
  let v5099 : BitVec 32 := Scalar.addi c0_i32_6895 v5098
  v5099.toNat
def k0_dev246 (d0 : Dev nD) : Nat :=
  let c0_i32_6925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6924 : BitVec 32 := 1#32
  let v5112 : BitVec 32 := Scalar.muli v5 c1_i32_6924
  let v5113 : BitVec 32 := Scalar.addi c0_i32_6925 v5112
  v5113.toNat
def k0_dev247 (d0 : Dev nD) : Nat :=
  let c0_i32_6953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_6952 : BitVec 32 := 1#32
  let v5140 : BitVec 32 := Scalar.muli v7 c1_i32_6952
  let v5141 : BitVec 32 := Scalar.addi c0_i32_6953 v5140
  v5141.toNat
def k0_dev248 (d0 : Dev nD) : Nat :=
  let c0_i32_6983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6982 : BitVec 32 := 1#32
  let v5154 : BitVec 32 := Scalar.muli v5 c1_i32_6982
  let v5155 : BitVec 32 := Scalar.addi c0_i32_6983 v5154
  v5155.toNat
def k0_dev249 (d0 : Dev nD) : Nat :=
  let c0_i32_7011 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7010 : BitVec 32 := 1#32
  let v5182 : BitVec 32 := Scalar.muli v7 c1_i32_7010
  let v5183 : BitVec 32 := Scalar.addi c0_i32_7011 v5182
  v5183.toNat
def k0_dev250 (d0 : Dev nD) : Nat :=
  let c0_i32_7041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7040 : BitVec 32 := 1#32
  let v5196 : BitVec 32 := Scalar.muli v5 c1_i32_7040
  let v5197 : BitVec 32 := Scalar.addi c0_i32_7041 v5196
  v5197.toNat
def k0_dev251 (d0 : Dev nD) : Nat :=
  let c0_i32_7072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7071 : BitVec 32 := 1#32
  let v5228 : BitVec 32 := Scalar.muli v5 c1_i32_7071
  let v5229 : BitVec 32 := Scalar.addi c0_i32_7072 v5228
  v5229.toNat
def k0_dev252 (d0 : Dev nD) : Nat :=
  let c0_i32_7102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7101 : BitVec 32 := 1#32
  let v5242 : BitVec 32 := Scalar.muli v7 c1_i32_7101
  let v5243 : BitVec 32 := Scalar.addi c0_i32_7102 v5242
  v5243.toNat
def k0_dev253 (d0 : Dev nD) : Nat :=
  let c0_i32_7130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7129 : BitVec 32 := 1#32
  let v5270 : BitVec 32 := Scalar.muli v5 c1_i32_7129
  let v5271 : BitVec 32 := Scalar.addi c0_i32_7130 v5270
  v5271.toNat
def k0_dev254 (d0 : Dev nD) : Nat :=
  let c0_i32_7160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7159 : BitVec 32 := 1#32
  let v5284 : BitVec 32 := Scalar.muli v7 c1_i32_7159
  let v5285 : BitVec 32 := Scalar.addi c0_i32_7160 v5284
  v5285.toNat
def k0_dev255 (d0 : Dev nD) : Nat :=
  let c0_i32_7188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7187 : BitVec 32 := 1#32
  let v5312 : BitVec 32 := Scalar.muli v5 c1_i32_7187
  let v5313 : BitVec 32 := Scalar.addi c0_i32_7188 v5312
  v5313.toNat
def k0_dev256 (d0 : Dev nD) : Nat :=
  let c0_i32_7218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7217 : BitVec 32 := 1#32
  let v5326 : BitVec 32 := Scalar.muli v7 c1_i32_7217
  let v5327 : BitVec 32 := Scalar.addi c0_i32_7218 v5326
  v5327.toNat
def k0_dev257 (d0 : Dev nD) : Nat :=
  let c0_i32_7246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7245 : BitVec 32 := 1#32
  let v5354 : BitVec 32 := Scalar.muli v5 c1_i32_7245
  let v5355 : BitVec 32 := Scalar.addi c0_i32_7246 v5354
  v5355.toNat
def k0_dev258 (d0 : Dev nD) : Nat :=
  let c0_i32_7276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7275 : BitVec 32 := 1#32
  let v5368 : BitVec 32 := Scalar.muli v7 c1_i32_7275
  let v5369 : BitVec 32 := Scalar.addi c0_i32_7276 v5368
  v5369.toNat
def k0_dev259 (d0 : Dev nD) : Nat :=
  let c0_i32_7307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7306 : BitVec 32 := 1#32
  let v5399 : BitVec 32 := Scalar.muli v7 c1_i32_7306
  let v5400 : BitVec 32 := Scalar.addi c0_i32_7307 v5399
  v5400.toNat
def k0_dev260 (d0 : Dev nD) : Nat :=
  let c0_i32_7337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7336 : BitVec 32 := 1#32
  let v5413 : BitVec 32 := Scalar.muli v5 c1_i32_7336
  let v5414 : BitVec 32 := Scalar.addi c0_i32_7337 v5413
  v5414.toNat
def k0_dev261 (d0 : Dev nD) : Nat :=
  let c0_i32_7365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7364 : BitVec 32 := 1#32
  let v5441 : BitVec 32 := Scalar.muli v7 c1_i32_7364
  let v5442 : BitVec 32 := Scalar.addi c0_i32_7365 v5441
  v5442.toNat
def k0_dev262 (d0 : Dev nD) : Nat :=
  let c0_i32_7395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7394 : BitVec 32 := 1#32
  let v5455 : BitVec 32 := Scalar.muli v5 c1_i32_7394
  let v5456 : BitVec 32 := Scalar.addi c0_i32_7395 v5455
  v5456.toNat
def k0_dev263 (d0 : Dev nD) : Nat :=
  let c0_i32_7423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7422 : BitVec 32 := 1#32
  let v5483 : BitVec 32 := Scalar.muli v7 c1_i32_7422
  let v5484 : BitVec 32 := Scalar.addi c0_i32_7423 v5483
  v5484.toNat
def k0_dev264 (d0 : Dev nD) : Nat :=
  let c0_i32_7453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7452 : BitVec 32 := 1#32
  let v5497 : BitVec 32 := Scalar.muli v5 c1_i32_7452
  let v5498 : BitVec 32 := Scalar.addi c0_i32_7453 v5497
  v5498.toNat
def k0_dev265 (d0 : Dev nD) : Nat :=
  let c0_i32_7481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7480 : BitVec 32 := 1#32
  let v5525 : BitVec 32 := Scalar.muli v7 c1_i32_7480
  let v5526 : BitVec 32 := Scalar.addi c0_i32_7481 v5525
  v5526.toNat
def k0_dev266 (d0 : Dev nD) : Nat :=
  let c0_i32_7511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7510 : BitVec 32 := 1#32
  let v5539 : BitVec 32 := Scalar.muli v5 c1_i32_7510
  let v5540 : BitVec 32 := Scalar.addi c0_i32_7511 v5539
  v5540.toNat
def k0_dev267 (d0 : Dev nD) : Nat :=
  let c0_i32_7542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7541 : BitVec 32 := 1#32
  let v5571 : BitVec 32 := Scalar.muli v5 c1_i32_7541
  let v5572 : BitVec 32 := Scalar.addi c0_i32_7542 v5571
  v5572.toNat
def k0_dev268 (d0 : Dev nD) : Nat :=
  let c0_i32_7572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7571 : BitVec 32 := 1#32
  let v5585 : BitVec 32 := Scalar.muli v7 c1_i32_7571
  let v5586 : BitVec 32 := Scalar.addi c0_i32_7572 v5585
  v5586.toNat
def k0_dev269 (d0 : Dev nD) : Nat :=
  let c0_i32_7600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7599 : BitVec 32 := 1#32
  let v5613 : BitVec 32 := Scalar.muli v5 c1_i32_7599
  let v5614 : BitVec 32 := Scalar.addi c0_i32_7600 v5613
  v5614.toNat
def k0_dev270 (d0 : Dev nD) : Nat :=
  let c0_i32_7630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7629 : BitVec 32 := 1#32
  let v5627 : BitVec 32 := Scalar.muli v7 c1_i32_7629
  let v5628 : BitVec 32 := Scalar.addi c0_i32_7630 v5627
  v5628.toNat
def k0_dev271 (d0 : Dev nD) : Nat :=
  let c0_i32_7658 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7657 : BitVec 32 := 1#32
  let v5655 : BitVec 32 := Scalar.muli v5 c1_i32_7657
  let v5656 : BitVec 32 := Scalar.addi c0_i32_7658 v5655
  v5656.toNat
def k0_dev272 (d0 : Dev nD) : Nat :=
  let c0_i32_7688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7687 : BitVec 32 := 1#32
  let v5669 : BitVec 32 := Scalar.muli v7 c1_i32_7687
  let v5670 : BitVec 32 := Scalar.addi c0_i32_7688 v5669
  v5670.toNat
def k0_dev273 (d0 : Dev nD) : Nat :=
  let c0_i32_7716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7715 : BitVec 32 := 1#32
  let v5697 : BitVec 32 := Scalar.muli v5 c1_i32_7715
  let v5698 : BitVec 32 := Scalar.addi c0_i32_7716 v5697
  v5698.toNat
def k0_dev274 (d0 : Dev nD) : Nat :=
  let c0_i32_7746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7745 : BitVec 32 := 1#32
  let v5711 : BitVec 32 := Scalar.muli v7 c1_i32_7745
  let v5712 : BitVec 32 := Scalar.addi c0_i32_7746 v5711
  v5712.toNat
def k0_dev275 (d0 : Dev nD) : Nat :=
  let c0_i32_7777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7776 : BitVec 32 := 1#32
  let v5742 : BitVec 32 := Scalar.muli v7 c1_i32_7776
  let v5743 : BitVec 32 := Scalar.addi c0_i32_7777 v5742
  v5743.toNat
def k0_dev276 (d0 : Dev nD) : Nat :=
  let c0_i32_7807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7806 : BitVec 32 := 1#32
  let v5756 : BitVec 32 := Scalar.muli v5 c1_i32_7806
  let v5757 : BitVec 32 := Scalar.addi c0_i32_7807 v5756
  v5757.toNat
def k0_dev277 (d0 : Dev nD) : Nat :=
  let c0_i32_7835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7834 : BitVec 32 := 1#32
  let v5784 : BitVec 32 := Scalar.muli v7 c1_i32_7834
  let v5785 : BitVec 32 := Scalar.addi c0_i32_7835 v5784
  v5785.toNat
def k0_dev278 (d0 : Dev nD) : Nat :=
  let c0_i32_7865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7864 : BitVec 32 := 1#32
  let v5798 : BitVec 32 := Scalar.muli v5 c1_i32_7864
  let v5799 : BitVec 32 := Scalar.addi c0_i32_7865 v5798
  v5799.toNat
def k0_dev279 (d0 : Dev nD) : Nat :=
  let c0_i32_7893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7892 : BitVec 32 := 1#32
  let v5826 : BitVec 32 := Scalar.muli v7 c1_i32_7892
  let v5827 : BitVec 32 := Scalar.addi c0_i32_7893 v5826
  v5827.toNat
def k0_dev280 (d0 : Dev nD) : Nat :=
  let c0_i32_7923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7922 : BitVec 32 := 1#32
  let v5840 : BitVec 32 := Scalar.muli v5 c1_i32_7922
  let v5841 : BitVec 32 := Scalar.addi c0_i32_7923 v5840
  v5841.toNat
def k0_dev281 (d0 : Dev nD) : Nat :=
  let c0_i32_7951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_7950 : BitVec 32 := 1#32
  let v5868 : BitVec 32 := Scalar.muli v7 c1_i32_7950
  let v5869 : BitVec 32 := Scalar.addi c0_i32_7951 v5868
  v5869.toNat
def k0_dev282 (d0 : Dev nD) : Nat :=
  let c0_i32_7981 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_7980 : BitVec 32 := 1#32
  let v5882 : BitVec 32 := Scalar.muli v5 c1_i32_7980
  let v5883 : BitVec 32 := Scalar.addi c0_i32_7981 v5882
  v5883.toNat
def k0_dev283 (d0 : Dev nD) : Nat :=
  let c0_i32_8012 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8011 : BitVec 32 := 1#32
  let v5914 : BitVec 32 := Scalar.muli v5 c1_i32_8011
  let v5915 : BitVec 32 := Scalar.addi c0_i32_8012 v5914
  v5915.toNat
def k0_dev284 (d0 : Dev nD) : Nat :=
  let c0_i32_8042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8041 : BitVec 32 := 1#32
  let v5928 : BitVec 32 := Scalar.muli v7 c1_i32_8041
  let v5929 : BitVec 32 := Scalar.addi c0_i32_8042 v5928
  v5929.toNat
def k0_dev285 (d0 : Dev nD) : Nat :=
  let c0_i32_8070 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8069 : BitVec 32 := 1#32
  let v5956 : BitVec 32 := Scalar.muli v5 c1_i32_8069
  let v5957 : BitVec 32 := Scalar.addi c0_i32_8070 v5956
  v5957.toNat
def k0_dev286 (d0 : Dev nD) : Nat :=
  let c0_i32_8100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8099 : BitVec 32 := 1#32
  let v5970 : BitVec 32 := Scalar.muli v7 c1_i32_8099
  let v5971 : BitVec 32 := Scalar.addi c0_i32_8100 v5970
  v5971.toNat
def k0_dev287 (d0 : Dev nD) : Nat :=
  let c0_i32_8128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8127 : BitVec 32 := 1#32
  let v5998 : BitVec 32 := Scalar.muli v5 c1_i32_8127
  let v5999 : BitVec 32 := Scalar.addi c0_i32_8128 v5998
  v5999.toNat
def k0_dev288 (d0 : Dev nD) : Nat :=
  let c0_i32_8158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8157 : BitVec 32 := 1#32
  let v6012 : BitVec 32 := Scalar.muli v7 c1_i32_8157
  let v6013 : BitVec 32 := Scalar.addi c0_i32_8158 v6012
  v6013.toNat
def k0_dev289 (d0 : Dev nD) : Nat :=
  let c0_i32_8186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8185 : BitVec 32 := 1#32
  let v6040 : BitVec 32 := Scalar.muli v5 c1_i32_8185
  let v6041 : BitVec 32 := Scalar.addi c0_i32_8186 v6040
  v6041.toNat
def k0_dev290 (d0 : Dev nD) : Nat :=
  let c0_i32_8216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8215 : BitVec 32 := 1#32
  let v6054 : BitVec 32 := Scalar.muli v7 c1_i32_8215
  let v6055 : BitVec 32 := Scalar.addi c0_i32_8216 v6054
  v6055.toNat
def k0_dev291 (d0 : Dev nD) : Nat :=
  let c0_i32_8247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8246 : BitVec 32 := 1#32
  let v6085 : BitVec 32 := Scalar.muli v7 c1_i32_8246
  let v6086 : BitVec 32 := Scalar.addi c0_i32_8247 v6085
  v6086.toNat
def k0_dev292 (d0 : Dev nD) : Nat :=
  let c0_i32_8277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8276 : BitVec 32 := 1#32
  let v6099 : BitVec 32 := Scalar.muli v5 c1_i32_8276
  let v6100 : BitVec 32 := Scalar.addi c0_i32_8277 v6099
  v6100.toNat
def k0_dev293 (d0 : Dev nD) : Nat :=
  let c0_i32_8305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8304 : BitVec 32 := 1#32
  let v6127 : BitVec 32 := Scalar.muli v7 c1_i32_8304
  let v6128 : BitVec 32 := Scalar.addi c0_i32_8305 v6127
  v6128.toNat
def k0_dev294 (d0 : Dev nD) : Nat :=
  let c0_i32_8335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8334 : BitVec 32 := 1#32
  let v6141 : BitVec 32 := Scalar.muli v5 c1_i32_8334
  let v6142 : BitVec 32 := Scalar.addi c0_i32_8335 v6141
  v6142.toNat
def k0_dev295 (d0 : Dev nD) : Nat :=
  let c0_i32_8363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8362 : BitVec 32 := 1#32
  let v6169 : BitVec 32 := Scalar.muli v7 c1_i32_8362
  let v6170 : BitVec 32 := Scalar.addi c0_i32_8363 v6169
  v6170.toNat
def k0_dev296 (d0 : Dev nD) : Nat :=
  let c0_i32_8393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8392 : BitVec 32 := 1#32
  let v6183 : BitVec 32 := Scalar.muli v5 c1_i32_8392
  let v6184 : BitVec 32 := Scalar.addi c0_i32_8393 v6183
  v6184.toNat
def k0_dev297 (d0 : Dev nD) : Nat :=
  let c0_i32_8421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8420 : BitVec 32 := 1#32
  let v6211 : BitVec 32 := Scalar.muli v7 c1_i32_8420
  let v6212 : BitVec 32 := Scalar.addi c0_i32_8421 v6211
  v6212.toNat
def k0_dev298 (d0 : Dev nD) : Nat :=
  let c0_i32_8451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8450 : BitVec 32 := 1#32
  let v6225 : BitVec 32 := Scalar.muli v5 c1_i32_8450
  let v6226 : BitVec 32 := Scalar.addi c0_i32_8451 v6225
  v6226.toNat
def k0_dev299 (d0 : Dev nD) : Nat :=
  let c0_i32_8482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8481 : BitVec 32 := 1#32
  let v6257 : BitVec 32 := Scalar.muli v5 c1_i32_8481
  let v6258 : BitVec 32 := Scalar.addi c0_i32_8482 v6257
  v6258.toNat
def k0_dev300 (d0 : Dev nD) : Nat :=
  let c0_i32_8512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8511 : BitVec 32 := 1#32
  let v6271 : BitVec 32 := Scalar.muli v7 c1_i32_8511
  let v6272 : BitVec 32 := Scalar.addi c0_i32_8512 v6271
  v6272.toNat
def k0_dev301 (d0 : Dev nD) : Nat :=
  let c0_i32_8540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8539 : BitVec 32 := 1#32
  let v6299 : BitVec 32 := Scalar.muli v5 c1_i32_8539
  let v6300 : BitVec 32 := Scalar.addi c0_i32_8540 v6299
  v6300.toNat
def k0_dev302 (d0 : Dev nD) : Nat :=
  let c0_i32_8570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8569 : BitVec 32 := 1#32
  let v6313 : BitVec 32 := Scalar.muli v7 c1_i32_8569
  let v6314 : BitVec 32 := Scalar.addi c0_i32_8570 v6313
  v6314.toNat
def k0_dev303 (d0 : Dev nD) : Nat :=
  let c0_i32_8598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8597 : BitVec 32 := 1#32
  let v6341 : BitVec 32 := Scalar.muli v5 c1_i32_8597
  let v6342 : BitVec 32 := Scalar.addi c0_i32_8598 v6341
  v6342.toNat
def k0_dev304 (d0 : Dev nD) : Nat :=
  let c0_i32_8628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8627 : BitVec 32 := 1#32
  let v6355 : BitVec 32 := Scalar.muli v7 c1_i32_8627
  let v6356 : BitVec 32 := Scalar.addi c0_i32_8628 v6355
  v6356.toNat
def k0_dev305 (d0 : Dev nD) : Nat :=
  let c0_i32_8656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8655 : BitVec 32 := 1#32
  let v6383 : BitVec 32 := Scalar.muli v5 c1_i32_8655
  let v6384 : BitVec 32 := Scalar.addi c0_i32_8656 v6383
  v6384.toNat
def k0_dev306 (d0 : Dev nD) : Nat :=
  let c0_i32_8686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8685 : BitVec 32 := 1#32
  let v6397 : BitVec 32 := Scalar.muli v7 c1_i32_8685
  let v6398 : BitVec 32 := Scalar.addi c0_i32_8686 v6397
  v6398.toNat
def k0_dev307 (d0 : Dev nD) : Nat :=
  let c0_i32_8717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8716 : BitVec 32 := 1#32
  let v6428 : BitVec 32 := Scalar.muli v7 c1_i32_8716
  let v6429 : BitVec 32 := Scalar.addi c0_i32_8717 v6428
  v6429.toNat
def k0_dev308 (d0 : Dev nD) : Nat :=
  let c0_i32_8747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8746 : BitVec 32 := 1#32
  let v6442 : BitVec 32 := Scalar.muli v5 c1_i32_8746
  let v6443 : BitVec 32 := Scalar.addi c0_i32_8747 v6442
  v6443.toNat
def k0_dev309 (d0 : Dev nD) : Nat :=
  let c0_i32_8775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8774 : BitVec 32 := 1#32
  let v6470 : BitVec 32 := Scalar.muli v7 c1_i32_8774
  let v6471 : BitVec 32 := Scalar.addi c0_i32_8775 v6470
  v6471.toNat
def k0_dev310 (d0 : Dev nD) : Nat :=
  let c0_i32_8805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8804 : BitVec 32 := 1#32
  let v6484 : BitVec 32 := Scalar.muli v5 c1_i32_8804
  let v6485 : BitVec 32 := Scalar.addi c0_i32_8805 v6484
  v6485.toNat
def k0_dev311 (d0 : Dev nD) : Nat :=
  let c0_i32_8833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8832 : BitVec 32 := 1#32
  let v6512 : BitVec 32 := Scalar.muli v7 c1_i32_8832
  let v6513 : BitVec 32 := Scalar.addi c0_i32_8833 v6512
  v6513.toNat
def k0_dev312 (d0 : Dev nD) : Nat :=
  let c0_i32_8863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8862 : BitVec 32 := 1#32
  let v6526 : BitVec 32 := Scalar.muli v5 c1_i32_8862
  let v6527 : BitVec 32 := Scalar.addi c0_i32_8863 v6526
  v6527.toNat
def k0_dev313 (d0 : Dev nD) : Nat :=
  let c0_i32_8891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8890 : BitVec 32 := 1#32
  let v6554 : BitVec 32 := Scalar.muli v7 c1_i32_8890
  let v6555 : BitVec 32 := Scalar.addi c0_i32_8891 v6554
  v6555.toNat
def k0_dev314 (d0 : Dev nD) : Nat :=
  let c0_i32_8921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8920 : BitVec 32 := 1#32
  let v6568 : BitVec 32 := Scalar.muli v5 c1_i32_8920
  let v6569 : BitVec 32 := Scalar.addi c0_i32_8921 v6568
  v6569.toNat
def k0_dev315 (d0 : Dev nD) : Nat :=
  let c0_i32_8952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_8951 : BitVec 32 := 1#32
  let v6600 : BitVec 32 := Scalar.muli v5 c1_i32_8951
  let v6601 : BitVec 32 := Scalar.addi c0_i32_8952 v6600
  v6601.toNat
def k0_dev316 (d0 : Dev nD) : Nat :=
  let c0_i32_8982 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8981 : BitVec 32 := 1#32
  let v6614 : BitVec 32 := Scalar.muli v7 c1_i32_8981
  let v6615 : BitVec 32 := Scalar.addi c0_i32_8982 v6614
  v6615.toNat
def k0_dev317 (d0 : Dev nD) : Nat :=
  let c0_i32_9010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9009 : BitVec 32 := 1#32
  let v6642 : BitVec 32 := Scalar.muli v5 c1_i32_9009
  let v6643 : BitVec 32 := Scalar.addi c0_i32_9010 v6642
  v6643.toNat
def k0_dev318 (d0 : Dev nD) : Nat :=
  let c0_i32_9040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9039 : BitVec 32 := 1#32
  let v6656 : BitVec 32 := Scalar.muli v7 c1_i32_9039
  let v6657 : BitVec 32 := Scalar.addi c0_i32_9040 v6656
  v6657.toNat
def k0_dev319 (d0 : Dev nD) : Nat :=
  let c0_i32_9068 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9067 : BitVec 32 := 1#32
  let v6684 : BitVec 32 := Scalar.muli v5 c1_i32_9067
  let v6685 : BitVec 32 := Scalar.addi c0_i32_9068 v6684
  v6685.toNat
def k0_dev320 (d0 : Dev nD) : Nat :=
  let c0_i32_9098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9097 : BitVec 32 := 1#32
  let v6698 : BitVec 32 := Scalar.muli v7 c1_i32_9097
  let v6699 : BitVec 32 := Scalar.addi c0_i32_9098 v6698
  v6699.toNat
def k0_dev321 (d0 : Dev nD) : Nat :=
  let c0_i32_9126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9125 : BitVec 32 := 1#32
  let v6726 : BitVec 32 := Scalar.muli v5 c1_i32_9125
  let v6727 : BitVec 32 := Scalar.addi c0_i32_9126 v6726
  v6727.toNat
def k0_dev322 (d0 : Dev nD) : Nat :=
  let c0_i32_9156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9155 : BitVec 32 := 1#32
  let v6740 : BitVec 32 := Scalar.muli v7 c1_i32_9155
  let v6741 : BitVec 32 := Scalar.addi c0_i32_9156 v6740
  v6741.toNat
def k0_dev323 (d0 : Dev nD) : Nat :=
  let c0_i32_9187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9186 : BitVec 32 := 1#32
  let v6771 : BitVec 32 := Scalar.muli v7 c1_i32_9186
  let v6772 : BitVec 32 := Scalar.addi c0_i32_9187 v6771
  v6772.toNat
def k0_dev324 (d0 : Dev nD) : Nat :=
  let c0_i32_9217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9216 : BitVec 32 := 1#32
  let v6785 : BitVec 32 := Scalar.muli v5 c1_i32_9216
  let v6786 : BitVec 32 := Scalar.addi c0_i32_9217 v6785
  v6786.toNat
def k0_dev325 (d0 : Dev nD) : Nat :=
  let c0_i32_9245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9244 : BitVec 32 := 1#32
  let v6813 : BitVec 32 := Scalar.muli v7 c1_i32_9244
  let v6814 : BitVec 32 := Scalar.addi c0_i32_9245 v6813
  v6814.toNat
def k0_dev326 (d0 : Dev nD) : Nat :=
  let c0_i32_9275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9274 : BitVec 32 := 1#32
  let v6827 : BitVec 32 := Scalar.muli v5 c1_i32_9274
  let v6828 : BitVec 32 := Scalar.addi c0_i32_9275 v6827
  v6828.toNat
def k0_dev327 (d0 : Dev nD) : Nat :=
  let c0_i32_9303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9302 : BitVec 32 := 1#32
  let v6855 : BitVec 32 := Scalar.muli v7 c1_i32_9302
  let v6856 : BitVec 32 := Scalar.addi c0_i32_9303 v6855
  v6856.toNat
def k0_dev328 (d0 : Dev nD) : Nat :=
  let c0_i32_9333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9332 : BitVec 32 := 1#32
  let v6869 : BitVec 32 := Scalar.muli v5 c1_i32_9332
  let v6870 : BitVec 32 := Scalar.addi c0_i32_9333 v6869
  v6870.toNat
def k0_dev329 (d0 : Dev nD) : Nat :=
  let c0_i32_9361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9360 : BitVec 32 := 1#32
  let v6897 : BitVec 32 := Scalar.muli v7 c1_i32_9360
  let v6898 : BitVec 32 := Scalar.addi c0_i32_9361 v6897
  v6898.toNat
def k0_dev330 (d0 : Dev nD) : Nat :=
  let c0_i32_9391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9390 : BitVec 32 := 1#32
  let v6911 : BitVec 32 := Scalar.muli v5 c1_i32_9390
  let v6912 : BitVec 32 := Scalar.addi c0_i32_9391 v6911
  v6912.toNat
def k0_dev331 (d0 : Dev nD) : Nat :=
  let c0_i32_9422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9421 : BitVec 32 := 1#32
  let v6943 : BitVec 32 := Scalar.muli v5 c1_i32_9421
  let v6944 : BitVec 32 := Scalar.addi c0_i32_9422 v6943
  v6944.toNat
def k0_dev332 (d0 : Dev nD) : Nat :=
  let c0_i32_9452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9451 : BitVec 32 := 1#32
  let v6957 : BitVec 32 := Scalar.muli v7 c1_i32_9451
  let v6958 : BitVec 32 := Scalar.addi c0_i32_9452 v6957
  v6958.toNat
def k0_dev333 (d0 : Dev nD) : Nat :=
  let c0_i32_9480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9479 : BitVec 32 := 1#32
  let v6985 : BitVec 32 := Scalar.muli v5 c1_i32_9479
  let v6986 : BitVec 32 := Scalar.addi c0_i32_9480 v6985
  v6986.toNat
def k0_dev334 (d0 : Dev nD) : Nat :=
  let c0_i32_9510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9509 : BitVec 32 := 1#32
  let v6999 : BitVec 32 := Scalar.muli v7 c1_i32_9509
  let v7000 : BitVec 32 := Scalar.addi c0_i32_9510 v6999
  v7000.toNat
def k0_dev335 (d0 : Dev nD) : Nat :=
  let c0_i32_9538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9537 : BitVec 32 := 1#32
  let v7027 : BitVec 32 := Scalar.muli v5 c1_i32_9537
  let v7028 : BitVec 32 := Scalar.addi c0_i32_9538 v7027
  v7028.toNat
def k0_dev336 (d0 : Dev nD) : Nat :=
  let c0_i32_9568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9567 : BitVec 32 := 1#32
  let v7041 : BitVec 32 := Scalar.muli v7 c1_i32_9567
  let v7042 : BitVec 32 := Scalar.addi c0_i32_9568 v7041
  v7042.toNat
def k0_dev337 (d0 : Dev nD) : Nat :=
  let c0_i32_9596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9595 : BitVec 32 := 1#32
  let v7069 : BitVec 32 := Scalar.muli v5 c1_i32_9595
  let v7070 : BitVec 32 := Scalar.addi c0_i32_9596 v7069
  v7070.toNat
def k0_dev338 (d0 : Dev nD) : Nat :=
  let c0_i32_9626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9625 : BitVec 32 := 1#32
  let v7083 : BitVec 32 := Scalar.muli v7 c1_i32_9625
  let v7084 : BitVec 32 := Scalar.addi c0_i32_9626 v7083
  v7084.toNat
def k0_dev339 (d0 : Dev nD) : Nat :=
  let c0_i32_9657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9656 : BitVec 32 := 1#32
  let v7114 : BitVec 32 := Scalar.muli v7 c1_i32_9656
  let v7115 : BitVec 32 := Scalar.addi c0_i32_9657 v7114
  v7115.toNat
def k0_dev340 (d0 : Dev nD) : Nat :=
  let c0_i32_9687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9686 : BitVec 32 := 1#32
  let v7128 : BitVec 32 := Scalar.muli v5 c1_i32_9686
  let v7129 : BitVec 32 := Scalar.addi c0_i32_9687 v7128
  v7129.toNat
def k0_dev341 (d0 : Dev nD) : Nat :=
  let c0_i32_9715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9714 : BitVec 32 := 1#32
  let v7156 : BitVec 32 := Scalar.muli v7 c1_i32_9714
  let v7157 : BitVec 32 := Scalar.addi c0_i32_9715 v7156
  v7157.toNat
def k0_dev342 (d0 : Dev nD) : Nat :=
  let c0_i32_9745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9744 : BitVec 32 := 1#32
  let v7170 : BitVec 32 := Scalar.muli v5 c1_i32_9744
  let v7171 : BitVec 32 := Scalar.addi c0_i32_9745 v7170
  v7171.toNat
def k0_dev343 (d0 : Dev nD) : Nat :=
  let c0_i32_9773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9772 : BitVec 32 := 1#32
  let v7198 : BitVec 32 := Scalar.muli v7 c1_i32_9772
  let v7199 : BitVec 32 := Scalar.addi c0_i32_9773 v7198
  v7199.toNat
def k0_dev344 (d0 : Dev nD) : Nat :=
  let c0_i32_9803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9802 : BitVec 32 := 1#32
  let v7212 : BitVec 32 := Scalar.muli v5 c1_i32_9802
  let v7213 : BitVec 32 := Scalar.addi c0_i32_9803 v7212
  v7213.toNat
def k0_dev345 (d0 : Dev nD) : Nat :=
  let c0_i32_9831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9830 : BitVec 32 := 1#32
  let v7240 : BitVec 32 := Scalar.muli v7 c1_i32_9830
  let v7241 : BitVec 32 := Scalar.addi c0_i32_9831 v7240
  v7241.toNat
def k0_dev346 (d0 : Dev nD) : Nat :=
  let c0_i32_9861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9860 : BitVec 32 := 1#32
  let v7254 : BitVec 32 := Scalar.muli v5 c1_i32_9860
  let v7255 : BitVec 32 := Scalar.addi c0_i32_9861 v7254
  v7255.toNat
def k0_dev347 (d0 : Dev nD) : Nat :=
  let c0_i32_9892 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9891 : BitVec 32 := 1#32
  let v7286 : BitVec 32 := Scalar.muli v5 c1_i32_9891
  let v7287 : BitVec 32 := Scalar.addi c0_i32_9892 v7286
  v7287.toNat
def k0_dev348 (d0 : Dev nD) : Nat :=
  let c0_i32_9922 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9921 : BitVec 32 := 1#32
  let v7300 : BitVec 32 := Scalar.muli v7 c1_i32_9921
  let v7301 : BitVec 32 := Scalar.addi c0_i32_9922 v7300
  v7301.toNat
def k0_dev349 (d0 : Dev nD) : Nat :=
  let c0_i32_9950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_9949 : BitVec 32 := 1#32
  let v7328 : BitVec 32 := Scalar.muli v5 c1_i32_9949
  let v7329 : BitVec 32 := Scalar.addi c0_i32_9950 v7328
  v7329.toNat
def k0_dev350 (d0 : Dev nD) : Nat :=
  let c0_i32_9980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_9979 : BitVec 32 := 1#32
  let v7342 : BitVec 32 := Scalar.muli v7 c1_i32_9979
  let v7343 : BitVec 32 := Scalar.addi c0_i32_9980 v7342
  v7343.toNat
def k0_dev351 (d0 : Dev nD) : Nat :=
  let c0_i32_10008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10007 : BitVec 32 := 1#32
  let v7370 : BitVec 32 := Scalar.muli v5 c1_i32_10007
  let v7371 : BitVec 32 := Scalar.addi c0_i32_10008 v7370
  v7371.toNat
def k0_dev352 (d0 : Dev nD) : Nat :=
  let c0_i32_10038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10037 : BitVec 32 := 1#32
  let v7384 : BitVec 32 := Scalar.muli v7 c1_i32_10037
  let v7385 : BitVec 32 := Scalar.addi c0_i32_10038 v7384
  v7385.toNat
def k0_dev353 (d0 : Dev nD) : Nat :=
  let c0_i32_10066 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10065 : BitVec 32 := 1#32
  let v7412 : BitVec 32 := Scalar.muli v5 c1_i32_10065
  let v7413 : BitVec 32 := Scalar.addi c0_i32_10066 v7412
  v7413.toNat
def k0_dev354 (d0 : Dev nD) : Nat :=
  let c0_i32_10096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10095 : BitVec 32 := 1#32
  let v7426 : BitVec 32 := Scalar.muli v7 c1_i32_10095
  let v7427 : BitVec 32 := Scalar.addi c0_i32_10096 v7426
  v7427.toNat
def k0_dev355 (d0 : Dev nD) : Nat :=
  let c0_i32_10127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10126 : BitVec 32 := 1#32
  let v7457 : BitVec 32 := Scalar.muli v7 c1_i32_10126
  let v7458 : BitVec 32 := Scalar.addi c0_i32_10127 v7457
  v7458.toNat
def k0_dev356 (d0 : Dev nD) : Nat :=
  let c0_i32_10157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10156 : BitVec 32 := 1#32
  let v7471 : BitVec 32 := Scalar.muli v5 c1_i32_10156
  let v7472 : BitVec 32 := Scalar.addi c0_i32_10157 v7471
  v7472.toNat
def k0_dev357 (d0 : Dev nD) : Nat :=
  let c0_i32_10185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10184 : BitVec 32 := 1#32
  let v7499 : BitVec 32 := Scalar.muli v7 c1_i32_10184
  let v7500 : BitVec 32 := Scalar.addi c0_i32_10185 v7499
  v7500.toNat
def k0_dev358 (d0 : Dev nD) : Nat :=
  let c0_i32_10215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10214 : BitVec 32 := 1#32
  let v7513 : BitVec 32 := Scalar.muli v5 c1_i32_10214
  let v7514 : BitVec 32 := Scalar.addi c0_i32_10215 v7513
  v7514.toNat
def k0_dev359 (d0 : Dev nD) : Nat :=
  let c0_i32_10243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10242 : BitVec 32 := 1#32
  let v7541 : BitVec 32 := Scalar.muli v7 c1_i32_10242
  let v7542 : BitVec 32 := Scalar.addi c0_i32_10243 v7541
  v7542.toNat
def k0_dev360 (d0 : Dev nD) : Nat :=
  let c0_i32_10273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10272 : BitVec 32 := 1#32
  let v7555 : BitVec 32 := Scalar.muli v5 c1_i32_10272
  let v7556 : BitVec 32 := Scalar.addi c0_i32_10273 v7555
  v7556.toNat
def k0_dev361 (d0 : Dev nD) : Nat :=
  let c0_i32_10301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10300 : BitVec 32 := 1#32
  let v7583 : BitVec 32 := Scalar.muli v7 c1_i32_10300
  let v7584 : BitVec 32 := Scalar.addi c0_i32_10301 v7583
  v7584.toNat
def k0_dev362 (d0 : Dev nD) : Nat :=
  let c0_i32_10331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10330 : BitVec 32 := 1#32
  let v7597 : BitVec 32 := Scalar.muli v5 c1_i32_10330
  let v7598 : BitVec 32 := Scalar.addi c0_i32_10331 v7597
  v7598.toNat
def k0_dev363 (d0 : Dev nD) : Nat :=
  let c0_i32_10362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10361 : BitVec 32 := 1#32
  let v7629 : BitVec 32 := Scalar.muli v5 c1_i32_10361
  let v7630 : BitVec 32 := Scalar.addi c0_i32_10362 v7629
  v7630.toNat
def k0_dev364 (d0 : Dev nD) : Nat :=
  let c0_i32_10392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10391 : BitVec 32 := 1#32
  let v7643 : BitVec 32 := Scalar.muli v7 c1_i32_10391
  let v7644 : BitVec 32 := Scalar.addi c0_i32_10392 v7643
  v7644.toNat
def k0_dev365 (d0 : Dev nD) : Nat :=
  let c0_i32_10420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10419 : BitVec 32 := 1#32
  let v7671 : BitVec 32 := Scalar.muli v5 c1_i32_10419
  let v7672 : BitVec 32 := Scalar.addi c0_i32_10420 v7671
  v7672.toNat
def k0_dev366 (d0 : Dev nD) : Nat :=
  let c0_i32_10450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10449 : BitVec 32 := 1#32
  let v7685 : BitVec 32 := Scalar.muli v7 c1_i32_10449
  let v7686 : BitVec 32 := Scalar.addi c0_i32_10450 v7685
  v7686.toNat
def k0_dev367 (d0 : Dev nD) : Nat :=
  let c0_i32_10478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10477 : BitVec 32 := 1#32
  let v7713 : BitVec 32 := Scalar.muli v5 c1_i32_10477
  let v7714 : BitVec 32 := Scalar.addi c0_i32_10478 v7713
  v7714.toNat
def k0_dev368 (d0 : Dev nD) : Nat :=
  let c0_i32_10508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10507 : BitVec 32 := 1#32
  let v7727 : BitVec 32 := Scalar.muli v7 c1_i32_10507
  let v7728 : BitVec 32 := Scalar.addi c0_i32_10508 v7727
  v7728.toNat
def k0_dev369 (d0 : Dev nD) : Nat :=
  let c0_i32_10536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10535 : BitVec 32 := 1#32
  let v7755 : BitVec 32 := Scalar.muli v5 c1_i32_10535
  let v7756 : BitVec 32 := Scalar.addi c0_i32_10536 v7755
  v7756.toNat
def k0_dev370 (d0 : Dev nD) : Nat :=
  let c0_i32_10566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10565 : BitVec 32 := 1#32
  let v7769 : BitVec 32 := Scalar.muli v7 c1_i32_10565
  let v7770 : BitVec 32 := Scalar.addi c0_i32_10566 v7769
  v7770.toNat
def k0_dev371 (d0 : Dev nD) : Nat :=
  let c0_i32_10597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10596 : BitVec 32 := 1#32
  let v7800 : BitVec 32 := Scalar.muli v7 c1_i32_10596
  let v7801 : BitVec 32 := Scalar.addi c0_i32_10597 v7800
  v7801.toNat
def k0_dev372 (d0 : Dev nD) : Nat :=
  let c0_i32_10627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10626 : BitVec 32 := 1#32
  let v7814 : BitVec 32 := Scalar.muli v5 c1_i32_10626
  let v7815 : BitVec 32 := Scalar.addi c0_i32_10627 v7814
  v7815.toNat
def k0_dev373 (d0 : Dev nD) : Nat :=
  let c0_i32_10655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10654 : BitVec 32 := 1#32
  let v7842 : BitVec 32 := Scalar.muli v7 c1_i32_10654
  let v7843 : BitVec 32 := Scalar.addi c0_i32_10655 v7842
  v7843.toNat
def k0_dev374 (d0 : Dev nD) : Nat :=
  let c0_i32_10685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10684 : BitVec 32 := 1#32
  let v7856 : BitVec 32 := Scalar.muli v5 c1_i32_10684
  let v7857 : BitVec 32 := Scalar.addi c0_i32_10685 v7856
  v7857.toNat
def k0_dev375 (d0 : Dev nD) : Nat :=
  let c0_i32_10713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10712 : BitVec 32 := 1#32
  let v7884 : BitVec 32 := Scalar.muli v7 c1_i32_10712
  let v7885 : BitVec 32 := Scalar.addi c0_i32_10713 v7884
  v7885.toNat
def k0_dev376 (d0 : Dev nD) : Nat :=
  let c0_i32_10743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10742 : BitVec 32 := 1#32
  let v7898 : BitVec 32 := Scalar.muli v5 c1_i32_10742
  let v7899 : BitVec 32 := Scalar.addi c0_i32_10743 v7898
  v7899.toNat
def k0_dev377 (d0 : Dev nD) : Nat :=
  let c0_i32_10771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10770 : BitVec 32 := 1#32
  let v7926 : BitVec 32 := Scalar.muli v7 c1_i32_10770
  let v7927 : BitVec 32 := Scalar.addi c0_i32_10771 v7926
  v7927.toNat
def k0_dev378 (d0 : Dev nD) : Nat :=
  let c0_i32_10801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10800 : BitVec 32 := 1#32
  let v7940 : BitVec 32 := Scalar.muli v5 c1_i32_10800
  let v7941 : BitVec 32 := Scalar.addi c0_i32_10801 v7940
  v7941.toNat
def k0_dev379 (d0 : Dev nD) : Nat :=
  let c0_i32_10832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10831 : BitVec 32 := 1#32
  let v7972 : BitVec 32 := Scalar.muli v5 c1_i32_10831
  let v7973 : BitVec 32 := Scalar.addi c0_i32_10832 v7972
  v7973.toNat
def k0_dev380 (d0 : Dev nD) : Nat :=
  let c0_i32_10862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10861 : BitVec 32 := 1#32
  let v7986 : BitVec 32 := Scalar.muli v7 c1_i32_10861
  let v7987 : BitVec 32 := Scalar.addi c0_i32_10862 v7986
  v7987.toNat
def k0_dev381 (d0 : Dev nD) : Nat :=
  let c0_i32_10890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10889 : BitVec 32 := 1#32
  let v8014 : BitVec 32 := Scalar.muli v5 c1_i32_10889
  let v8015 : BitVec 32 := Scalar.addi c0_i32_10890 v8014
  v8015.toNat
def k0_dev382 (d0 : Dev nD) : Nat :=
  let c0_i32_10920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10919 : BitVec 32 := 1#32
  let v8028 : BitVec 32 := Scalar.muli v7 c1_i32_10919
  let v8029 : BitVec 32 := Scalar.addi c0_i32_10920 v8028
  v8029.toNat
def k0_dev383 (d0 : Dev nD) : Nat :=
  let c0_i32_10948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_10947 : BitVec 32 := 1#32
  let v8056 : BitVec 32 := Scalar.muli v5 c1_i32_10947
  let v8057 : BitVec 32 := Scalar.addi c0_i32_10948 v8056
  v8057.toNat
def k0_dev384 (d0 : Dev nD) : Nat :=
  let c0_i32_10978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_10977 : BitVec 32 := 1#32
  let v8070 : BitVec 32 := Scalar.muli v7 c1_i32_10977
  let v8071 : BitVec 32 := Scalar.addi c0_i32_10978 v8070
  v8071.toNat
def k0_dev385 (d0 : Dev nD) : Nat :=
  let c0_i32_11006 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11005 : BitVec 32 := 1#32
  let v8098 : BitVec 32 := Scalar.muli v5 c1_i32_11005
  let v8099 : BitVec 32 := Scalar.addi c0_i32_11006 v8098
  v8099.toNat
def k0_dev386 (d0 : Dev nD) : Nat :=
  let c0_i32_11036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11035 : BitVec 32 := 1#32
  let v8112 : BitVec 32 := Scalar.muli v7 c1_i32_11035
  let v8113 : BitVec 32 := Scalar.addi c0_i32_11036 v8112
  v8113.toNat
def k0_dev387 (d0 : Dev nD) : Nat :=
  let c0_i32_11067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11066 : BitVec 32 := 1#32
  let v8143 : BitVec 32 := Scalar.muli v7 c1_i32_11066
  let v8144 : BitVec 32 := Scalar.addi c0_i32_11067 v8143
  v8144.toNat
def k0_dev388 (d0 : Dev nD) : Nat :=
  let c0_i32_11097 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11096 : BitVec 32 := 1#32
  let v8157 : BitVec 32 := Scalar.muli v5 c1_i32_11096
  let v8158 : BitVec 32 := Scalar.addi c0_i32_11097 v8157
  v8158.toNat
def k0_dev389 (d0 : Dev nD) : Nat :=
  let c0_i32_11125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11124 : BitVec 32 := 1#32
  let v8185 : BitVec 32 := Scalar.muli v7 c1_i32_11124
  let v8186 : BitVec 32 := Scalar.addi c0_i32_11125 v8185
  v8186.toNat
def k0_dev390 (d0 : Dev nD) : Nat :=
  let c0_i32_11155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11154 : BitVec 32 := 1#32
  let v8199 : BitVec 32 := Scalar.muli v5 c1_i32_11154
  let v8200 : BitVec 32 := Scalar.addi c0_i32_11155 v8199
  v8200.toNat
def k0_dev391 (d0 : Dev nD) : Nat :=
  let c0_i32_11183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11182 : BitVec 32 := 1#32
  let v8227 : BitVec 32 := Scalar.muli v7 c1_i32_11182
  let v8228 : BitVec 32 := Scalar.addi c0_i32_11183 v8227
  v8228.toNat
def k0_dev392 (d0 : Dev nD) : Nat :=
  let c0_i32_11213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11212 : BitVec 32 := 1#32
  let v8241 : BitVec 32 := Scalar.muli v5 c1_i32_11212
  let v8242 : BitVec 32 := Scalar.addi c0_i32_11213 v8241
  v8242.toNat
def k0_dev393 (d0 : Dev nD) : Nat :=
  let c0_i32_11241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11240 : BitVec 32 := 1#32
  let v8269 : BitVec 32 := Scalar.muli v7 c1_i32_11240
  let v8270 : BitVec 32 := Scalar.addi c0_i32_11241 v8269
  v8270.toNat
def k0_dev394 (d0 : Dev nD) : Nat :=
  let c0_i32_11271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11270 : BitVec 32 := 1#32
  let v8283 : BitVec 32 := Scalar.muli v5 c1_i32_11270
  let v8284 : BitVec 32 := Scalar.addi c0_i32_11271 v8283
  v8284.toNat
def k0_dev395 (d0 : Dev nD) : Nat :=
  let c0_i32_11302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11301 : BitVec 32 := 1#32
  let v8315 : BitVec 32 := Scalar.muli v5 c1_i32_11301
  let v8316 : BitVec 32 := Scalar.addi c0_i32_11302 v8315
  v8316.toNat
def k0_dev396 (d0 : Dev nD) : Nat :=
  let c0_i32_11332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11331 : BitVec 32 := 1#32
  let v8329 : BitVec 32 := Scalar.muli v7 c1_i32_11331
  let v8330 : BitVec 32 := Scalar.addi c0_i32_11332 v8329
  v8330.toNat
def k0_dev397 (d0 : Dev nD) : Nat :=
  let c0_i32_11360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11359 : BitVec 32 := 1#32
  let v8357 : BitVec 32 := Scalar.muli v5 c1_i32_11359
  let v8358 : BitVec 32 := Scalar.addi c0_i32_11360 v8357
  v8358.toNat
def k0_dev398 (d0 : Dev nD) : Nat :=
  let c0_i32_11390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11389 : BitVec 32 := 1#32
  let v8371 : BitVec 32 := Scalar.muli v7 c1_i32_11389
  let v8372 : BitVec 32 := Scalar.addi c0_i32_11390 v8371
  v8372.toNat
def k0_dev399 (d0 : Dev nD) : Nat :=
  let c0_i32_11418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11417 : BitVec 32 := 1#32
  let v8399 : BitVec 32 := Scalar.muli v5 c1_i32_11417
  let v8400 : BitVec 32 := Scalar.addi c0_i32_11418 v8399
  v8400.toNat
def k0_dev400 (d0 : Dev nD) : Nat :=
  let c0_i32_11448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11447 : BitVec 32 := 1#32
  let v8413 : BitVec 32 := Scalar.muli v7 c1_i32_11447
  let v8414 : BitVec 32 := Scalar.addi c0_i32_11448 v8413
  v8414.toNat
def k0_dev401 (d0 : Dev nD) : Nat :=
  let c0_i32_11476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11475 : BitVec 32 := 1#32
  let v8441 : BitVec 32 := Scalar.muli v5 c1_i32_11475
  let v8442 : BitVec 32 := Scalar.addi c0_i32_11476 v8441
  v8442.toNat
def k0_dev402 (d0 : Dev nD) : Nat :=
  let c0_i32_11506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11505 : BitVec 32 := 1#32
  let v8455 : BitVec 32 := Scalar.muli v7 c1_i32_11505
  let v8456 : BitVec 32 := Scalar.addi c0_i32_11506 v8455
  v8456.toNat
def k0_dev403 (d0 : Dev nD) : Nat :=
  let c0_i32_11537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11536 : BitVec 32 := 1#32
  let v8486 : BitVec 32 := Scalar.muli v7 c1_i32_11536
  let v8487 : BitVec 32 := Scalar.addi c0_i32_11537 v8486
  v8487.toNat
def k0_dev404 (d0 : Dev nD) : Nat :=
  let c0_i32_11567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11566 : BitVec 32 := 1#32
  let v8500 : BitVec 32 := Scalar.muli v5 c1_i32_11566
  let v8501 : BitVec 32 := Scalar.addi c0_i32_11567 v8500
  v8501.toNat
def k0_dev405 (d0 : Dev nD) : Nat :=
  let c0_i32_11595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11594 : BitVec 32 := 1#32
  let v8528 : BitVec 32 := Scalar.muli v7 c1_i32_11594
  let v8529 : BitVec 32 := Scalar.addi c0_i32_11595 v8528
  v8529.toNat
def k0_dev406 (d0 : Dev nD) : Nat :=
  let c0_i32_11625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11624 : BitVec 32 := 1#32
  let v8542 : BitVec 32 := Scalar.muli v5 c1_i32_11624
  let v8543 : BitVec 32 := Scalar.addi c0_i32_11625 v8542
  v8543.toNat
def k0_dev407 (d0 : Dev nD) : Nat :=
  let c0_i32_11653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11652 : BitVec 32 := 1#32
  let v8570 : BitVec 32 := Scalar.muli v7 c1_i32_11652
  let v8571 : BitVec 32 := Scalar.addi c0_i32_11653 v8570
  v8571.toNat
def k0_dev408 (d0 : Dev nD) : Nat :=
  let c0_i32_11683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11682 : BitVec 32 := 1#32
  let v8584 : BitVec 32 := Scalar.muli v5 c1_i32_11682
  let v8585 : BitVec 32 := Scalar.addi c0_i32_11683 v8584
  v8585.toNat
def k0_dev409 (d0 : Dev nD) : Nat :=
  let c0_i32_11711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11710 : BitVec 32 := 1#32
  let v8612 : BitVec 32 := Scalar.muli v7 c1_i32_11710
  let v8613 : BitVec 32 := Scalar.addi c0_i32_11711 v8612
  v8613.toNat
def k0_dev410 (d0 : Dev nD) : Nat :=
  let c0_i32_11741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11740 : BitVec 32 := 1#32
  let v8626 : BitVec 32 := Scalar.muli v5 c1_i32_11740
  let v8627 : BitVec 32 := Scalar.addi c0_i32_11741 v8626
  v8627.toNat
def k0_dev411 (d0 : Dev nD) : Nat :=
  let c0_i32_11772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11771 : BitVec 32 := 1#32
  let v8658 : BitVec 32 := Scalar.muli v5 c1_i32_11771
  let v8659 : BitVec 32 := Scalar.addi c0_i32_11772 v8658
  v8659.toNat
def k0_dev412 (d0 : Dev nD) : Nat :=
  let c0_i32_11802 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11801 : BitVec 32 := 1#32
  let v8672 : BitVec 32 := Scalar.muli v7 c1_i32_11801
  let v8673 : BitVec 32 := Scalar.addi c0_i32_11802 v8672
  v8673.toNat
def k0_dev413 (d0 : Dev nD) : Nat :=
  let c0_i32_11830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11829 : BitVec 32 := 1#32
  let v8700 : BitVec 32 := Scalar.muli v5 c1_i32_11829
  let v8701 : BitVec 32 := Scalar.addi c0_i32_11830 v8700
  v8701.toNat
def k0_dev414 (d0 : Dev nD) : Nat :=
  let c0_i32_11860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11859 : BitVec 32 := 1#32
  let v8714 : BitVec 32 := Scalar.muli v7 c1_i32_11859
  let v8715 : BitVec 32 := Scalar.addi c0_i32_11860 v8714
  v8715.toNat
def k0_dev415 (d0 : Dev nD) : Nat :=
  let c0_i32_11888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11887 : BitVec 32 := 1#32
  let v8742 : BitVec 32 := Scalar.muli v5 c1_i32_11887
  let v8743 : BitVec 32 := Scalar.addi c0_i32_11888 v8742
  v8743.toNat
def k0_dev416 (d0 : Dev nD) : Nat :=
  let c0_i32_11918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11917 : BitVec 32 := 1#32
  let v8756 : BitVec 32 := Scalar.muli v7 c1_i32_11917
  let v8757 : BitVec 32 := Scalar.addi c0_i32_11918 v8756
  v8757.toNat
def k0_dev417 (d0 : Dev nD) : Nat :=
  let c0_i32_11946 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_11945 : BitVec 32 := 1#32
  let v8784 : BitVec 32 := Scalar.muli v5 c1_i32_11945
  let v8785 : BitVec 32 := Scalar.addi c0_i32_11946 v8784
  v8785.toNat
def k0_dev418 (d0 : Dev nD) : Nat :=
  let c0_i32_11976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_11975 : BitVec 32 := 1#32
  let v8798 : BitVec 32 := Scalar.muli v7 c1_i32_11975
  let v8799 : BitVec 32 := Scalar.addi c0_i32_11976 v8798
  v8799.toNat
def k0_dev419 (d0 : Dev nD) : Nat :=
  let c0_i32_12007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12006 : BitVec 32 := 1#32
  let v8829 : BitVec 32 := Scalar.muli v7 c1_i32_12006
  let v8830 : BitVec 32 := Scalar.addi c0_i32_12007 v8829
  v8830.toNat
def k0_dev420 (d0 : Dev nD) : Nat :=
  let c0_i32_12037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12036 : BitVec 32 := 1#32
  let v8843 : BitVec 32 := Scalar.muli v5 c1_i32_12036
  let v8844 : BitVec 32 := Scalar.addi c0_i32_12037 v8843
  v8844.toNat
def k0_dev421 (d0 : Dev nD) : Nat :=
  let c0_i32_12065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12064 : BitVec 32 := 1#32
  let v8871 : BitVec 32 := Scalar.muli v7 c1_i32_12064
  let v8872 : BitVec 32 := Scalar.addi c0_i32_12065 v8871
  v8872.toNat
def k0_dev422 (d0 : Dev nD) : Nat :=
  let c0_i32_12095 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12094 : BitVec 32 := 1#32
  let v8885 : BitVec 32 := Scalar.muli v5 c1_i32_12094
  let v8886 : BitVec 32 := Scalar.addi c0_i32_12095 v8885
  v8886.toNat
def k0_dev423 (d0 : Dev nD) : Nat :=
  let c0_i32_12123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12122 : BitVec 32 := 1#32
  let v8913 : BitVec 32 := Scalar.muli v7 c1_i32_12122
  let v8914 : BitVec 32 := Scalar.addi c0_i32_12123 v8913
  v8914.toNat
def k0_dev424 (d0 : Dev nD) : Nat :=
  let c0_i32_12153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12152 : BitVec 32 := 1#32
  let v8927 : BitVec 32 := Scalar.muli v5 c1_i32_12152
  let v8928 : BitVec 32 := Scalar.addi c0_i32_12153 v8927
  v8928.toNat
def k0_dev425 (d0 : Dev nD) : Nat :=
  let c0_i32_12181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12180 : BitVec 32 := 1#32
  let v8955 : BitVec 32 := Scalar.muli v7 c1_i32_12180
  let v8956 : BitVec 32 := Scalar.addi c0_i32_12181 v8955
  v8956.toNat
def k0_dev426 (d0 : Dev nD) : Nat :=
  let c0_i32_12211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12210 : BitVec 32 := 1#32
  let v8969 : BitVec 32 := Scalar.muli v5 c1_i32_12210
  let v8970 : BitVec 32 := Scalar.addi c0_i32_12211 v8969
  v8970.toNat
def k0_dev427 (d0 : Dev nD) : Nat :=
  let c0_i32_12242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12241 : BitVec 32 := 1#32
  let v9001 : BitVec 32 := Scalar.muli v5 c1_i32_12241
  let v9002 : BitVec 32 := Scalar.addi c0_i32_12242 v9001
  v9002.toNat
def k0_dev428 (d0 : Dev nD) : Nat :=
  let c0_i32_12272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12271 : BitVec 32 := 1#32
  let v9015 : BitVec 32 := Scalar.muli v7 c1_i32_12271
  let v9016 : BitVec 32 := Scalar.addi c0_i32_12272 v9015
  v9016.toNat
def k0_dev429 (d0 : Dev nD) : Nat :=
  let c0_i32_12300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12299 : BitVec 32 := 1#32
  let v9043 : BitVec 32 := Scalar.muli v5 c1_i32_12299
  let v9044 : BitVec 32 := Scalar.addi c0_i32_12300 v9043
  v9044.toNat
def k0_dev430 (d0 : Dev nD) : Nat :=
  let c0_i32_12330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12329 : BitVec 32 := 1#32
  let v9057 : BitVec 32 := Scalar.muli v7 c1_i32_12329
  let v9058 : BitVec 32 := Scalar.addi c0_i32_12330 v9057
  v9058.toNat
def k0_dev431 (d0 : Dev nD) : Nat :=
  let c0_i32_12358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12357 : BitVec 32 := 1#32
  let v9085 : BitVec 32 := Scalar.muli v5 c1_i32_12357
  let v9086 : BitVec 32 := Scalar.addi c0_i32_12358 v9085
  v9086.toNat
def k0_dev432 (d0 : Dev nD) : Nat :=
  let c0_i32_12388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12387 : BitVec 32 := 1#32
  let v9099 : BitVec 32 := Scalar.muli v7 c1_i32_12387
  let v9100 : BitVec 32 := Scalar.addi c0_i32_12388 v9099
  v9100.toNat
def k0_dev433 (d0 : Dev nD) : Nat :=
  let c0_i32_12416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12415 : BitVec 32 := 1#32
  let v9127 : BitVec 32 := Scalar.muli v5 c1_i32_12415
  let v9128 : BitVec 32 := Scalar.addi c0_i32_12416 v9127
  v9128.toNat
def k0_dev434 (d0 : Dev nD) : Nat :=
  let c0_i32_12446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12445 : BitVec 32 := 1#32
  let v9141 : BitVec 32 := Scalar.muli v7 c1_i32_12445
  let v9142 : BitVec 32 := Scalar.addi c0_i32_12446 v9141
  v9142.toNat
def k0_dev435 (d0 : Dev nD) : Nat :=
  let c0_i32_12477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12476 : BitVec 32 := 1#32
  let v9172 : BitVec 32 := Scalar.muli v7 c1_i32_12476
  let v9173 : BitVec 32 := Scalar.addi c0_i32_12477 v9172
  v9173.toNat
def k0_dev436 (d0 : Dev nD) : Nat :=
  let c0_i32_12507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12506 : BitVec 32 := 1#32
  let v9186 : BitVec 32 := Scalar.muli v5 c1_i32_12506
  let v9187 : BitVec 32 := Scalar.addi c0_i32_12507 v9186
  v9187.toNat
def k0_dev437 (d0 : Dev nD) : Nat :=
  let c0_i32_12535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12534 : BitVec 32 := 1#32
  let v9214 : BitVec 32 := Scalar.muli v7 c1_i32_12534
  let v9215 : BitVec 32 := Scalar.addi c0_i32_12535 v9214
  v9215.toNat
def k0_dev438 (d0 : Dev nD) : Nat :=
  let c0_i32_12565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12564 : BitVec 32 := 1#32
  let v9228 : BitVec 32 := Scalar.muli v5 c1_i32_12564
  let v9229 : BitVec 32 := Scalar.addi c0_i32_12565 v9228
  v9229.toNat
def k0_dev439 (d0 : Dev nD) : Nat :=
  let c0_i32_12593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12592 : BitVec 32 := 1#32
  let v9256 : BitVec 32 := Scalar.muli v7 c1_i32_12592
  let v9257 : BitVec 32 := Scalar.addi c0_i32_12593 v9256
  v9257.toNat
def k0_dev440 (d0 : Dev nD) : Nat :=
  let c0_i32_12623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12622 : BitVec 32 := 1#32
  let v9270 : BitVec 32 := Scalar.muli v5 c1_i32_12622
  let v9271 : BitVec 32 := Scalar.addi c0_i32_12623 v9270
  v9271.toNat
def k0_dev441 (d0 : Dev nD) : Nat :=
  let c0_i32_12651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12650 : BitVec 32 := 1#32
  let v9298 : BitVec 32 := Scalar.muli v7 c1_i32_12650
  let v9299 : BitVec 32 := Scalar.addi c0_i32_12651 v9298
  v9299.toNat
def k0_dev442 (d0 : Dev nD) : Nat :=
  let c0_i32_12681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12680 : BitVec 32 := 1#32
  let v9312 : BitVec 32 := Scalar.muli v5 c1_i32_12680
  let v9313 : BitVec 32 := Scalar.addi c0_i32_12681 v9312
  v9313.toNat
def k0_dev443 (d0 : Dev nD) : Nat :=
  let c0_i32_12712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12711 : BitVec 32 := 1#32
  let v9344 : BitVec 32 := Scalar.muli v5 c1_i32_12711
  let v9345 : BitVec 32 := Scalar.addi c0_i32_12712 v9344
  v9345.toNat
def k0_dev444 (d0 : Dev nD) : Nat :=
  let c0_i32_12742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12741 : BitVec 32 := 1#32
  let v9358 : BitVec 32 := Scalar.muli v7 c1_i32_12741
  let v9359 : BitVec 32 := Scalar.addi c0_i32_12742 v9358
  v9359.toNat
def k0_dev445 (d0 : Dev nD) : Nat :=
  let c0_i32_12770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12769 : BitVec 32 := 1#32
  let v9386 : BitVec 32 := Scalar.muli v5 c1_i32_12769
  let v9387 : BitVec 32 := Scalar.addi c0_i32_12770 v9386
  v9387.toNat
def k0_dev446 (d0 : Dev nD) : Nat :=
  let c0_i32_12800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12799 : BitVec 32 := 1#32
  let v9400 : BitVec 32 := Scalar.muli v7 c1_i32_12799
  let v9401 : BitVec 32 := Scalar.addi c0_i32_12800 v9400
  v9401.toNat
def k0_dev447 (d0 : Dev nD) : Nat :=
  let c0_i32_12828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12827 : BitVec 32 := 1#32
  let v9428 : BitVec 32 := Scalar.muli v5 c1_i32_12827
  let v9429 : BitVec 32 := Scalar.addi c0_i32_12828 v9428
  v9429.toNat
def k0_dev448 (d0 : Dev nD) : Nat :=
  let c0_i32_12858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12857 : BitVec 32 := 1#32
  let v9442 : BitVec 32 := Scalar.muli v7 c1_i32_12857
  let v9443 : BitVec 32 := Scalar.addi c0_i32_12858 v9442
  v9443.toNat
def k0_dev449 (d0 : Dev nD) : Nat :=
  let c0_i32_12886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12885 : BitVec 32 := 1#32
  let v9470 : BitVec 32 := Scalar.muli v5 c1_i32_12885
  let v9471 : BitVec 32 := Scalar.addi c0_i32_12886 v9470
  v9471.toNat
def k0_dev450 (d0 : Dev nD) : Nat :=
  let c0_i32_12916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12915 : BitVec 32 := 1#32
  let v9484 : BitVec 32 := Scalar.muli v7 c1_i32_12915
  let v9485 : BitVec 32 := Scalar.addi c0_i32_12916 v9484
  v9485.toNat
def k0_dev451 (d0 : Dev nD) : Nat :=
  let c0_i32_12947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_12946 : BitVec 32 := 1#32
  let v9515 : BitVec 32 := Scalar.muli v7 c1_i32_12946
  let v9516 : BitVec 32 := Scalar.addi c0_i32_12947 v9515
  v9516.toNat
def k0_dev452 (d0 : Dev nD) : Nat :=
  let c0_i32_12977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_12976 : BitVec 32 := 1#32
  let v9529 : BitVec 32 := Scalar.muli v5 c1_i32_12976
  let v9530 : BitVec 32 := Scalar.addi c0_i32_12977 v9529
  v9530.toNat
def k0_dev453 (d0 : Dev nD) : Nat :=
  let c0_i32_13005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13004 : BitVec 32 := 1#32
  let v9557 : BitVec 32 := Scalar.muli v7 c1_i32_13004
  let v9558 : BitVec 32 := Scalar.addi c0_i32_13005 v9557
  v9558.toNat
def k0_dev454 (d0 : Dev nD) : Nat :=
  let c0_i32_13035 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13034 : BitVec 32 := 1#32
  let v9571 : BitVec 32 := Scalar.muli v5 c1_i32_13034
  let v9572 : BitVec 32 := Scalar.addi c0_i32_13035 v9571
  v9572.toNat
def k0_dev455 (d0 : Dev nD) : Nat :=
  let c0_i32_13063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13062 : BitVec 32 := 1#32
  let v9599 : BitVec 32 := Scalar.muli v7 c1_i32_13062
  let v9600 : BitVec 32 := Scalar.addi c0_i32_13063 v9599
  v9600.toNat
def k0_dev456 (d0 : Dev nD) : Nat :=
  let c0_i32_13093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13092 : BitVec 32 := 1#32
  let v9613 : BitVec 32 := Scalar.muli v5 c1_i32_13092
  let v9614 : BitVec 32 := Scalar.addi c0_i32_13093 v9613
  v9614.toNat
def k0_dev457 (d0 : Dev nD) : Nat :=
  let c0_i32_13121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13120 : BitVec 32 := 1#32
  let v9641 : BitVec 32 := Scalar.muli v7 c1_i32_13120
  let v9642 : BitVec 32 := Scalar.addi c0_i32_13121 v9641
  v9642.toNat
def k0_dev458 (d0 : Dev nD) : Nat :=
  let c0_i32_13151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13150 : BitVec 32 := 1#32
  let v9655 : BitVec 32 := Scalar.muli v5 c1_i32_13150
  let v9656 : BitVec 32 := Scalar.addi c0_i32_13151 v9655
  v9656.toNat
def k0_dev459 (d0 : Dev nD) : Nat :=
  let c0_i32_13182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13181 : BitVec 32 := 1#32
  let v9687 : BitVec 32 := Scalar.muli v5 c1_i32_13181
  let v9688 : BitVec 32 := Scalar.addi c0_i32_13182 v9687
  v9688.toNat
def k0_dev460 (d0 : Dev nD) : Nat :=
  let c0_i32_13212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13211 : BitVec 32 := 1#32
  let v9701 : BitVec 32 := Scalar.muli v7 c1_i32_13211
  let v9702 : BitVec 32 := Scalar.addi c0_i32_13212 v9701
  v9702.toNat
def k0_dev461 (d0 : Dev nD) : Nat :=
  let c0_i32_13240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13239 : BitVec 32 := 1#32
  let v9729 : BitVec 32 := Scalar.muli v5 c1_i32_13239
  let v9730 : BitVec 32 := Scalar.addi c0_i32_13240 v9729
  v9730.toNat
def k0_dev462 (d0 : Dev nD) : Nat :=
  let c0_i32_13270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13269 : BitVec 32 := 1#32
  let v9743 : BitVec 32 := Scalar.muli v7 c1_i32_13269
  let v9744 : BitVec 32 := Scalar.addi c0_i32_13270 v9743
  v9744.toNat
def k0_dev463 (d0 : Dev nD) : Nat :=
  let c0_i32_13298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13297 : BitVec 32 := 1#32
  let v9771 : BitVec 32 := Scalar.muli v5 c1_i32_13297
  let v9772 : BitVec 32 := Scalar.addi c0_i32_13298 v9771
  v9772.toNat
def k0_dev464 (d0 : Dev nD) : Nat :=
  let c0_i32_13328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13327 : BitVec 32 := 1#32
  let v9785 : BitVec 32 := Scalar.muli v7 c1_i32_13327
  let v9786 : BitVec 32 := Scalar.addi c0_i32_13328 v9785
  v9786.toNat
def k0_dev465 (d0 : Dev nD) : Nat :=
  let c0_i32_13356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13355 : BitVec 32 := 1#32
  let v9813 : BitVec 32 := Scalar.muli v5 c1_i32_13355
  let v9814 : BitVec 32 := Scalar.addi c0_i32_13356 v9813
  v9814.toNat
def k0_dev466 (d0 : Dev nD) : Nat :=
  let c0_i32_13386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13385 : BitVec 32 := 1#32
  let v9827 : BitVec 32 := Scalar.muli v7 c1_i32_13385
  let v9828 : BitVec 32 := Scalar.addi c0_i32_13386 v9827
  v9828.toNat
def k0_dev467 (d0 : Dev nD) : Nat :=
  let c0_i32_13417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13416 : BitVec 32 := 1#32
  let v9858 : BitVec 32 := Scalar.muli v7 c1_i32_13416
  let v9859 : BitVec 32 := Scalar.addi c0_i32_13417 v9858
  v9859.toNat
def k0_dev468 (d0 : Dev nD) : Nat :=
  let c0_i32_13447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13446 : BitVec 32 := 1#32
  let v9872 : BitVec 32 := Scalar.muli v5 c1_i32_13446
  let v9873 : BitVec 32 := Scalar.addi c0_i32_13447 v9872
  v9873.toNat
def k0_dev469 (d0 : Dev nD) : Nat :=
  let c0_i32_13475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13474 : BitVec 32 := 1#32
  let v9900 : BitVec 32 := Scalar.muli v7 c1_i32_13474
  let v9901 : BitVec 32 := Scalar.addi c0_i32_13475 v9900
  v9901.toNat
def k0_dev470 (d0 : Dev nD) : Nat :=
  let c0_i32_13505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13504 : BitVec 32 := 1#32
  let v9914 : BitVec 32 := Scalar.muli v5 c1_i32_13504
  let v9915 : BitVec 32 := Scalar.addi c0_i32_13505 v9914
  v9915.toNat
def k0_dev471 (d0 : Dev nD) : Nat :=
  let c0_i32_13533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13532 : BitVec 32 := 1#32
  let v9942 : BitVec 32 := Scalar.muli v7 c1_i32_13532
  let v9943 : BitVec 32 := Scalar.addi c0_i32_13533 v9942
  v9943.toNat
def k0_dev472 (d0 : Dev nD) : Nat :=
  let c0_i32_13563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13562 : BitVec 32 := 1#32
  let v9956 : BitVec 32 := Scalar.muli v5 c1_i32_13562
  let v9957 : BitVec 32 := Scalar.addi c0_i32_13563 v9956
  v9957.toNat
def k0_dev473 (d0 : Dev nD) : Nat :=
  let c0_i32_13591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13590 : BitVec 32 := 1#32
  let v9984 : BitVec 32 := Scalar.muli v7 c1_i32_13590
  let v9985 : BitVec 32 := Scalar.addi c0_i32_13591 v9984
  v9985.toNat
def k0_dev474 (d0 : Dev nD) : Nat :=
  let c0_i32_13621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13620 : BitVec 32 := 1#32
  let v9998 : BitVec 32 := Scalar.muli v5 c1_i32_13620
  let v9999 : BitVec 32 := Scalar.addi c0_i32_13621 v9998
  v9999.toNat
def k0_dev475 (d0 : Dev nD) : Nat :=
  let c0_i32_13652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13651 : BitVec 32 := 1#32
  let v10030 : BitVec 32 := Scalar.muli v5 c1_i32_13651
  let v10031 : BitVec 32 := Scalar.addi c0_i32_13652 v10030
  v10031.toNat
def k0_dev476 (d0 : Dev nD) : Nat :=
  let c0_i32_13682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13681 : BitVec 32 := 1#32
  let v10044 : BitVec 32 := Scalar.muli v7 c1_i32_13681
  let v10045 : BitVec 32 := Scalar.addi c0_i32_13682 v10044
  v10045.toNat
def k0_dev477 (d0 : Dev nD) : Nat :=
  let c0_i32_13710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13709 : BitVec 32 := 1#32
  let v10072 : BitVec 32 := Scalar.muli v5 c1_i32_13709
  let v10073 : BitVec 32 := Scalar.addi c0_i32_13710 v10072
  v10073.toNat
def k0_dev478 (d0 : Dev nD) : Nat :=
  let c0_i32_13740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13739 : BitVec 32 := 1#32
  let v10086 : BitVec 32 := Scalar.muli v7 c1_i32_13739
  let v10087 : BitVec 32 := Scalar.addi c0_i32_13740 v10086
  v10087.toNat
def k0_dev479 (d0 : Dev nD) : Nat :=
  let c0_i32_13768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13767 : BitVec 32 := 1#32
  let v10114 : BitVec 32 := Scalar.muli v5 c1_i32_13767
  let v10115 : BitVec 32 := Scalar.addi c0_i32_13768 v10114
  v10115.toNat
def k0_dev480 (d0 : Dev nD) : Nat :=
  let c0_i32_13798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13797 : BitVec 32 := 1#32
  let v10128 : BitVec 32 := Scalar.muli v7 c1_i32_13797
  let v10129 : BitVec 32 := Scalar.addi c0_i32_13798 v10128
  v10129.toNat
def k0_dev481 (d0 : Dev nD) : Nat :=
  let c0_i32_13826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13825 : BitVec 32 := 1#32
  let v10156 : BitVec 32 := Scalar.muli v5 c1_i32_13825
  let v10157 : BitVec 32 := Scalar.addi c0_i32_13826 v10156
  v10157.toNat
def k0_dev482 (d0 : Dev nD) : Nat :=
  let c0_i32_13856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13855 : BitVec 32 := 1#32
  let v10170 : BitVec 32 := Scalar.muli v7 c1_i32_13855
  let v10171 : BitVec 32 := Scalar.addi c0_i32_13856 v10170
  v10171.toNat
def k0_dev483 (d0 : Dev nD) : Nat :=
  let c0_i32_13887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13886 : BitVec 32 := 1#32
  let v10201 : BitVec 32 := Scalar.muli v7 c1_i32_13886
  let v10202 : BitVec 32 := Scalar.addi c0_i32_13887 v10201
  v10202.toNat
def k0_dev484 (d0 : Dev nD) : Nat :=
  let c0_i32_13917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13916 : BitVec 32 := 1#32
  let v10215 : BitVec 32 := Scalar.muli v5 c1_i32_13916
  let v10216 : BitVec 32 := Scalar.addi c0_i32_13917 v10215
  v10216.toNat
def k0_dev485 (d0 : Dev nD) : Nat :=
  let c0_i32_13945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13944 : BitVec 32 := 1#32
  let v10243 : BitVec 32 := Scalar.muli v7 c1_i32_13944
  let v10244 : BitVec 32 := Scalar.addi c0_i32_13945 v10243
  v10244.toNat
def k0_dev486 (d0 : Dev nD) : Nat :=
  let c0_i32_13975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_13974 : BitVec 32 := 1#32
  let v10257 : BitVec 32 := Scalar.muli v5 c1_i32_13974
  let v10258 : BitVec 32 := Scalar.addi c0_i32_13975 v10257
  v10258.toNat
def k0_dev487 (d0 : Dev nD) : Nat :=
  let c0_i32_14003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14002 : BitVec 32 := 1#32
  let v10285 : BitVec 32 := Scalar.muli v7 c1_i32_14002
  let v10286 : BitVec 32 := Scalar.addi c0_i32_14003 v10285
  v10286.toNat
def k0_dev488 (d0 : Dev nD) : Nat :=
  let c0_i32_14033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_14032 : BitVec 32 := 1#32
  let v10299 : BitVec 32 := Scalar.muli v5 c1_i32_14032
  let v10300 : BitVec 32 := Scalar.addi c0_i32_14033 v10299
  v10300.toNat
def k0_dev489 (d0 : Dev nD) : Nat :=
  let c0_i32_14061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_14060 : BitVec 32 := 1#32
  let v10327 : BitVec 32 := Scalar.muli v7 c1_i32_14060
  let v10328 : BitVec 32 := Scalar.addi c0_i32_14061 v10327
  v10328.toNat
def k0_dev490 (d0 : Dev nD) : Nat :=
  let c0_i32_14091 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_14090 : BitVec 32 := 1#32
  let v10341 : BitVec 32 := Scalar.muli v5 c1_i32_14090
  let v10342 : BitVec 32 := Scalar.addi c0_i32_14091 v10341
  v10342.toNat
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_14114 : BitVec 32 := 128#32
  let v10362 : BitVec 32 := Scalar.muli v2 c128_i32_14114
  let v10363 : Index := Scalar.indexCast v10362
  let c0_14115 : Index := 0#32
  ![v10363.toNat, 0]
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_14165 : BitVec 32 := 128#32
  let v10393 : BitVec 32 := Scalar.muli v2 c128_i32_14165
  let v10394 : Index := Scalar.indexCast v10393
  let c256_14166 : Index := 256#32
  ![v10394.toNat, 256]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_14216 : BitVec 32 := 128#32
  let v10424 : BitVec 32 := Scalar.muli v2 c128_i32_14216
  let v10425 : Index := Scalar.indexCast v10424
  let c512_14217 : Index := 512#32
  ![v10425.toNat, 512]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_14267 : BitVec 32 := 128#32
  let v10455 : BitVec 32 := Scalar.muli v2 c128_i32_14267
  let v10456 : Index := Scalar.indexCast v10455
  let c768_14268 : Index := 768#32
  ![v10456.toNat, 768]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_14318 : BitVec 32 := 128#32
  let v10486 : BitVec 32 := Scalar.muli v2 c128_i32_14318
  let v10487 : Index := Scalar.indexCast v10486
  let c1024_14319 : Index := 1024#32
  ![v10487.toNat, 1024]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_14369 : BitVec 32 := 128#32
  let v10517 : BitVec 32 := Scalar.muli v2 c128_i32_14369
  let v10518 : Index := Scalar.indexCast v10517
  let c1280_14370 : Index := 1280#32
  ![v10518.toNat, 1280]
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_14420 : BitVec 32 := 128#32
  let v10548 : BitVec 32 := Scalar.muli v2 c128_i32_14420
  let v10549 : Index := Scalar.indexCast v10548
  let c1536_14421 : Index := 1536#32
  ![v10549.toNat, 1536]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_14471 : BitVec 32 := 128#32
  let v10579 : BitVec 32 := Scalar.muli v2 c128_i32_14471
  let v10580 : Index := Scalar.indexCast v10579
  let c1792_14472 : Index := 1792#32
  ![v10580.toNat, 1792]
abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Flat.lean ====
/-
# The kernel's body as one loop

The printed body of the kernel is some three thousand operations in a row, cut into numbered parts. This module
writes it as what it is: a prologue (handshake and product), thirty-one exchange steps, each over two
directions and four segments, and an epilogue — every operation given by its direction, segment and step — and
proves that the printed body is that loop.
-/
module

public import proofs.«01_k».proof.Proof.Gen.KernelIdeal
public import proofs.«01_k».proof.Proof.Gen.KernelIdeal.Skeleton
public import Idealize.ShloMosaic.Lib.Pipeline.Regions

@[expose] public section

noncomputable section

namespace Cert.Exchange

open Cert.KernelIdeal Cert.KernelIdeal.Gen
open Idealize.ShloMosaic Idealize.ShloMosaic.TcCoe
open Idealize.SL Idealize.SL.Sem

variable {F : FTy → Type} [FloatOps F]

/-- The two directions round the ring: partial sums of the left half of the columns travel rightwards, those of the
    right half leftwards. -/
inductive Dir where
  | R
  | L
  deriving DecidableEq

/-- The programs of one core. -/
abbrev Code (F : FTy → Type) [FloatOps F] : Type 1 := Prog (TpuEff nD τ sig (Elt F) Λ₀ .tc) PUnit

/-! ## The buffers and semaphores of a direction -/

/-- The send buffers: four segments, two slots each. -/
abbrev sbM : Dir → Memref sig .tc .vmem S4x2x128x256 .bf16
  | .R => Memref.whole cc0_scratch1
  | .L => Memref.whole cc0_scratch6
/-- The landing buffers: four segments, four slots each. -/
abbrev rbM : Dir → Memref sig .tc .vmem S4x4x128x256 .bf16
  | .R => Memref.whole cc0_scratch2
  | .L => Memref.whole cc0_scratch7
theorem sbM_whole : ∀ δ, (sbM δ).IsWhole
  | .R => Memref.isWhole_whole _
  | .L => Memref.isWhole_whole _
theorem rbM_whole : ∀ δ, (rbM δ).IsWhole
  | .R => Memref.isWhole_whole _
  | .L => Memref.isWhole_whole _
abbrev ssA : Dir → DmaSems sig S4x2
  | .R => cc0_scratch3
  | .L => cc0_scratch8
abbrev rsA : Dir → DmaSems sig S4x4
  | .R => cc0_scratch4
  | .L => cc0_scratch9
abbrev crA : Dir → Sems sig S4
  | .R => cc0_scratch5
  | .L => cc0_scratch10
/-- The partial products: each device's product of its slices, whole. -/
abbrev partM : Memref sig .tc .vmem S4096x2048 .bf16 := Memref.whole cc0_scratch0
abbrev xM : Memref sig .tc .vmem S4096x128 .bf16 := Memref.whole cc0_stg0_0
abbrev wM : Memref sig .tc .vmem S128x2048 .bf16 := Memref.whole cc0_stg1_0
abbrev outM : Memref sig .tc .vmem S128x2048 .f32 := Memref.whole cc0_stg2_0

theorem inb2 (j : Fin 4) (p : ℕ) (hp : p < 2) : ∀ a, (![j.val, p, 0, 0] : Fin 4 → Nat) a + S1x1x128x256.size a ≤ S4x2x128x256.size a := by
  have : ∀ (j : Fin 4) (p : Fin 2), ∀ a, (![j.val, p.val, 0, 0] : Fin 4 → Nat) a + S1x1x128x256.size a ≤ S4x2x128x256.size a := by decide
  exact this j ⟨p, hp⟩
theorem inb4 (j : Fin 4) (p : ℕ) (hp : p < 4) : ∀ a, (![j.val, p, 0, 0] : Fin 4 → Nat) a + S1x1x128x256.size a ≤ S4x4x128x256.size a := by
  have : ∀ (j : Fin 4) (p : Fin 4), ∀ a, (![j.val, p.val, 0, 0] : Fin 4 → Nat) a + S1x1x128x256.size a ≤ S4x4x128x256.size a := by decide
  exact this j ⟨p, hp⟩
theorem inbS2 (j : Fin 4) (p : ℕ) (hp : p < 2) : ∀ a, (![j.val, p] : Fin 2 → Nat) a + S1x1.size a ≤ S4x2.size a := by
  have : ∀ (j : Fin 4) (p : Fin 2), ∀ a, (![j.val, p.val] : Fin 2 → Nat) a + S1x1.size a ≤ S4x2.size a := by decide
  exact this j ⟨p, hp⟩
theorem inbS4 (j : Fin 4) (p : ℕ) (hp : p < 4) : ∀ a, (![j.val, p] : Fin 2 → Nat) a + S1x1.size a ≤ S4x4.size a := by
  have : ∀ (j : Fin 4) (p : Fin 4), ∀ a, (![j.val, p.val] : Fin 2 → Nat) a + S1x1.size a ≤ S4x4.size a := by decide
  exact this j ⟨p, hp⟩
theorem inbC (j : Fin 4) : ∀ a, (![j.val] : Fin 1 → Nat) a + S1.size a ≤ S4.size a := by
  revert j; decide

/-- Slot `p` of segment `j` of a send buffer, as a rectangle; of a landing buffer. -/
abbrev sbRect (j : Fin 4) (p : ℕ) (hp : p < 2) : Rect S4x2x128x256 := Rect.unit (s := S4x2x128x256) ![j.val, p, 0, 0] S1x1x128x256.size (inb2 j p hp)
abbrev rbRect (j : Fin 4) (p : ℕ) (hp : p < 4) : Rect S4x4x128x256 := Rect.unit (s := S4x4x128x256) ![j.val, p, 0, 0] S1x1x128x256.size (inb4 j p hp)

theorem words2 (j : Fin 4) (p : ℕ) (hp : p < 2) : (sbRect j p hp).WholeWords (EltTy.packing .bf16) := by
  have : ∀ (j : Fin 4) (p : Fin 2), (sbRect j p.val p.isLt).WholeWords (EltTy.packing .bf16) := by decide
  exact this j ⟨p, hp⟩
theorem words4 (j : Fin 4) (p : ℕ) (hp : p < 4) : (rbRect j p hp).WholeWords (EltTy.packing .bf16) := by
  have : ∀ (j : Fin 4) (p : Fin 4), (rbRect j p.val p.isLt).WholeWords (EltTy.packing .bf16) := by decide
  exact this j ⟨p, hp⟩
theorem packed2 (j : Fin 4) (p : ℕ) (hp : p < 2) : (sbRect j p hp).PackedRows (EltTy.packing .bf16) := by
  have : ∀ (j : Fin 4) (p : Fin 2), (sbRect j p.val p.isLt).PackedRows (EltTy.packing .bf16) := by decide
  exact this j ⟨p, hp⟩

/-- The slot as a block of its own. -/
abbrev sbSlot (δ : Dir) (j : Fin 4) (p : ℕ) (hp : p < 2) : Memref sig .tc .vmem S128x256 .bf16 :=
  ((sbM δ).slice (sbRect j p hp) (fun _ => rfl)).squeeze S128x256 squeezes_S1x1x128x256_S128x256
abbrev rbSlot (δ : Dir) (j : Fin 4) (p : ℕ) (hp : p < 4) : Memref sig .tc .vmem S128x256 .bf16 :=
  ((rbM δ).slice (rbRect j p hp) (fun _ => rfl)).squeeze S128x256 squeezes_S1x1x128x256_S128x256
theorem sbSlot_words (δ : Dir) (j : Fin 4) (p : ℕ) (hp : p < 2) : (sbSlot δ j p hp).view.WordExact :=
  ((sbM_whole δ).wordExact_slice rfl _ (words2 j p hp)).reshape _ _
theorem rbSlot_words (δ : Dir) (j : Fin 4) (p : ℕ) (hp : p < 4) : (rbSlot δ j p hp).view.WordExact :=
  ((rbM_whole δ).wordExact_slice rfl _ (words4 j p hp)).reshape _ _

/-- The semaphore a send out of slot `p` of segment `j` completes on; that a landing in slot `p` completes on; that
    the reader of segment `j` credits. -/
abbrev ssS (δ : Dir) (j : Fin 4) (p : ℕ) (hp : p < 2) : DmaSem sig :=
  (((ssA δ).slice (Rect.unit (s := S4x2) ![j.val, p] S1x1.size (inbS2 j p hp))).squeeze S_ squeezes_S1x1_S_).sem
abbrev rsS (δ : Dir) (j : Fin 4) (p : ℕ) (hp : p < 4) : DmaSem sig :=
  (((rsA δ).slice (Rect.unit (s := S4x4) ![j.val, p] S1x1.size (inbS4 j p hp))).squeeze S_ squeezes_S1x1_S_).sem
abbrev crS (δ : Dir) (j : Fin 4) : Sem sig :=
  (((crA δ).slice (Rect.unit (s := S4) ![j.val] S1.size (inbC j))).squeeze S_ squeezes_S1_S_).sem
abbrev barS : Sem sig := (SemArray.scalar (sig.barrier 0 rfl) : Sems sig S_).sem

/-! ## The neighbours, the chunk of a step -/

/-- The left and the right neighbour, as the kernel computes them. -/
abbrev lftD (d : Dev nD) : Dev nD := ⟨k0_dev1 d, k0_dev1_lt d⟩
abbrev rgtD (d : Dev nD) : Dev nD := ⟨k0_dev2 d, k0_dev2_lt d⟩
/-- Where a direction sends to, and where it comes from. -/
abbrev dstD : Dir → Dev nD → Dev nD
  | .R => rgtD
  | .L => lftD
abbrev upsD : Dir → Dev nD → Dev nD
  | .R => lftD
  | .L => rgtD

/-- Where in the partial product the block added at step `s` lies, as the kernel computes it. -/
abbrev off : Dir → Fin 4 → Dev nD → BitVec 32 → Fin 2 → ℕ
  | .R, 0 => k0_off1
  | .R, 1 => k0_off2
  | .R, 2 => k0_off3
  | .R, 3 => k0_off4
  | .L, 0 => k0_off5
  | .L, 1 => k0_off6
  | .L, 2 => k0_off7
  | .L, 3 => k0_off8
theorem off_inb (δ : Dir) (j : Fin 4) (d : Dev nD) (s : Fin 31) : ∀ a, (off δ j d (BitVec.ofNat 32 s.val)) a + S128x256.size a ≤ S4096x2048.size a := by
  cases δ
  · match j with
    | 0 => exact k0_off1_inb d s
    | 1 => exact k0_off2_inb d s
    | 2 => exact k0_off3_inb d s
    | 3 => exact k0_off4_inb d s
  · match j with
    | 0 => exact k0_off5_inb d s
    | 1 => exact k0_off6_inb d s
    | 2 => exact k0_off7_inb d s
    | 3 => exact k0_off8_inb d s
/-- Where the device's own block lies. -/
abbrev offE : Dir → Fin 4 → Dev nD → Fin 2 → ℕ
  | .R, 0 => k0_off9
  | .R, 1 => k0_off10
  | .R, 2 => k0_off11
  | .R, 3 => k0_off12
  | .L, 0 => k0_off13
  | .L, 1 => k0_off14
  | .L, 2 => k0_off15
  | .L, 3 => k0_off16
theorem offE_inb (δ : Dir) (j : Fin 4) (d : Dev nD) : ∀ a, (offE δ j d) a + S128x256.size a ≤ S4096x2048.size a := by
  cases δ
  · match j with
    | 0 => exact k0_off9_inb d
    | 1 => exact k0_off10_inb d
    | 2 => exact k0_off11_inb d
    | 3 => exact k0_off12_inb d
  · match j with
    | 0 => exact k0_off13_inb d
    | 1 => exact k0_off14_inb d
    | 2 => exact k0_off15_inb d
    | 3 => exact k0_off16_inb d
abbrev partRect (δ : Dir) (j : Fin 4) (d : Dev nD) (s : ℕ) (hs : s < 31) : Rect S4096x2048 :=
  Rect.unit (s := S4096x2048) (off δ j d (BitVec.ofNat 32 s)) S128x256.size (off_inb δ j d ⟨s, hs⟩)
abbrev partRectE (δ : Dir) (j : Fin 4) (d : Dev nD) : Rect S4096x2048 :=
  Rect.unit (s := S4096x2048) (offE δ j d) S128x256.size (offE_inb δ j d)

/-- Where in the result the block of a direction and segment lies. -/
abbrev outCol : Dir → Fin 4 → ℕ
  | .R, j => 256 * j.val
  | .L, j => 1024 + 256 * j.val
theorem outCol_inb (δ : Dir) (j : Fin 4) : ∀ a, (![0, outCol δ j] : Fin 2 → Nat) a + S128x256.size a ≤ S128x2048.size a := by
  cases δ <;> revert j <;> decide
abbrev outRect (δ : Dir) (j : Fin 4) : Rect S128x2048 :=
  Rect.unit (s := S128x2048) ![0, outCol δ j] S128x256.size (outCol_inb δ j)

/-! ## The values stored -/

/-- The sum of a received block and the device's own, over f32. -/
def sumOf (a : Vec F S1x1x128x256 .bf16) (b : Vec F S128x256 .bf16) : FVec F S128x256 .f32 :=
  addf (extf .f32 (shapeCast S128x256 a shapeCasts_S1x1x128x256_S128x256) bitsLt_bf16_f32) (extf .f32 b bitsLt_bf16_f32)
/-- A block as a slot's contents. -/
def asSlot (b : FVec F S128x256 .bf16) : FVec F S1x1x128x256 .bf16 := shapeCast S1x1x128x256 b shapeCasts_S128x256_S1x1x128x256

/-! ## The operations, in order -/

/-- Wait until the send out of slot `p` (into the neighbour's slot `q`) of segment `j` has been read out. -/
def sendWait (δ : Dir) (j : Fin 4) (p : ℕ) (hp : p < 2) (q : ℕ) (hq : q < 4) (k : Code F) : Code F :=
  .op (.waitDma2 (ssS δ j p hp) (rbSlot δ j q hq) (sbSlot δ j p hp) (rbSlot_words δ j q hq) (sbSlot_words δ j p hp)) fun _ => k
/-- Wait until slot `q` of segment `j` has landed. -/
def recvWait (δ : Dir) (j : Fin 4) (p : ℕ) (hp : p < 2) (q : ℕ) (hq : q < 4) (k : Code F) : Code F :=
  .op (.waitDma2 (rsS δ j q hq) (sbSlot δ j p hp) (rbSlot δ j q hq) (sbSlot_words δ j p hp) (rbSlot_words δ j q hq)) fun _ => k
def creditWait (δ : Dir) (j : Fin 4) (n : BitVec 32) (k : Code F) : Code F :=
  .op (.semWait (crS δ j) n.toInt) fun _ => k
/-- Credit the neighbour that sends to us. -/
def creditSignal (δ : Dir) (j : Fin 4) (d : Dev nD) (k : Code F) : Code F :=
  .op (.semSignal ((upsD δ d : Dev nD), .tc) (crS δ j) (1#32).toInt) fun _ => k
def rbLoad (δ : Dir) (j : Fin 4) (q : ℕ) (hq : q < 4) (k : Vec F S1x1x128x256 .bf16 → Code F) : Code F :=
  .op (.load (rbM δ) (rbRect j q hq).toLoadRect (View.loadsAt_vmem h_S1x1x128x256)) k
def partLoad (δ : Dir) (j : Fin 4) (d : Dev nD) (s : ℕ) (hs : s < 31) (k : Vec F S128x256 .bf16 → Code F) : Code F :=
  .op (.load partM (partRect δ j d s hs).toLoadRect (View.loadsAt_vmem h_S128x256)) k
/-- Store a block in slot `p` of the send buffer (after a load of the slot, whose value is not used) and send it to
    the neighbour's slot `q`. -/
def put (δ : Dir) (j : Fin 4) (d : Dev nD) (p : ℕ) (hp : p < 2) (q : ℕ) (hq : q < 4) (b : FVec F S128x256 .bf16) (k : Code F) : Code F :=
  .op (.load (sbM δ) (sbRect j p hp).toLoadRect (View.loadsAt_vmem h_S1x1x128x256)) fun _ =>
  .op (.store (sbM δ) (sbRect j p hp) (asSlot b) Finset.univ
    (View.stores_vmem h_S1x1x128x256 ((sbM_whole δ).storeExact_slice rfl _ (packed2 j p hp)) (fun _ => rfl)) (.inl rfl)) fun _ =>
  .op (.enqueueDma (sbSlot δ j p hp) (.remote (Dev.tc (dstD δ d)) (rbSlot δ j q hq) (.dma (ssS δ j p hp))) (.dma (rsS δ j q hq))
    (sbSlot_words δ j p hp) (rbSlot_words δ j q hq) ⟨⟨rfl, Or.inl rfl⟩, trivial⟩) fun _ => k

theorem two (s : ℕ) : s % 2 < 2 := Nat.mod_lt _ (by decide)
theorem four (s : ℕ) : s % 4 < 4 := Nat.mod_lt _ (by decide)

/-- Message `s` of segment `j`. The first is the device's own block. Each later one waits for the message before,
    adds the device's own block to it, credits its sender, waits for a credit once all four slots of the neighbour
    have been used and for its own send buffer's slot once both have, and sends the sum, rounded. -/
def step (δ : Dir) (j : Fin 4) (d : Dev nD) : (s : ℕ) → s < 31 → Code F → Code F
  | 0, hs, k => partLoad δ j d 0 hs fun b => put δ j d 0 (two 0) 0 (four 0) b k
  | s + 1, hs, k =>
    recvWait δ j (s % 2) (two s) (s % 4) (four s) <|
    rbLoad δ j (s % 4) (four s) fun a =>
    partLoad δ j d (s + 1) hs fun b =>
    creditSignal δ j d <|
    (if 3 ≤ s then creditWait δ j 1#32 else id) <|
    (if 1 ≤ s then sendWait δ j ((s + 1) % 2) (two _) ((s + 3) % 4) (four _) else id) <|
    put δ j d ((s + 1) % 2) (two _) ((s + 1) % 4) (four _) (truncf .bf16 (sumOf a b) bitsLt_bf16_f32) k

/-- Step `s`: its message in both directions and all segments. -/
def steps (d : Dev nD) (s : ℕ) (hs : s < 31) (k : Code F) : Code F :=
  step .R 0 d s hs <| step .R 1 d s hs <| step .R 2 d s hs <| step .R 3 d s hs <|
  step .L 0 d s hs <| step .L 1 d s hs <| step .L 2 d s hs <| step .L 3 d s hs k

/-- The steps from `s` on, `n` of them. -/
def loop (d : Dev nD) : (n s : ℕ) → n + s = 31 → Code F → Code F
  | 0, _, _, k => k
  | n + 1, s, h, k => steps d s (by omega) (loop d n (s + 1) (by omega) k)

/-- The end of a segment: the last message is received, the device's own block added to it and the sum stored in the
    result; the last two sends and the last three credits are waited for. -/
def finish (δ : Dir) (j : Fin 4) (d : Dev nD) (k : Code F) : Code F :=
  recvWait δ j 0 (two 0) 2 (four 2) <|
  rbLoad δ j 2 (four 2) fun a =>
  .op (.load partM (partRectE δ j d).toLoadRect (View.loadsAt_vmem h_S128x256)) fun b =>
  .op (.load outM (outRect δ j).toLoadRect (View.loadsAt_vmem h_S128x256)) fun _ =>
  .op (.store outM (outRect δ j) (sumOf a b) Finset.univ (View.stores_vmem_bits_univ h_S128x256 rfl) (.inl rfl)) fun _ =>
  sendWait δ j 1 (two 1) 1 (four 1) <|
  sendWait δ j 0 (two 0) 2 (four 2) <|
  creditWait δ j 3#32 k

def finishes (d : Dev nD) (k : Code F) : Code F :=
  finish .R 0 d <| finish .R 1 d <| finish .R 2 d <| finish .R 3 d <|
  finish .L 0 d <| finish .L 1 d <| finish .L 2 d <| finish .L 3 d k

/-- The whole body. -/
def body : Code F :=
  .op .deviceId fun d =>
  .op (.semSignal ((lftD d : Dev nD), .tc) barS (1#32).toInt) fun _ =>
  .op (.semSignal ((rgtD d : Dev nD), .tc) barS (1#32).toInt) fun _ =>
  .op (.semWait barS (2#32).toInt) fun _ =>
  .op (.load xM (Rect.unit (s := S4096x128) ![0, 0] S4096x128.size inb_S4096x128_S4096x128_0_0).toLoadRect (View.loadsAt_vmem h_S4096x128)) fun x =>
  .op (.load wM (Rect.unit (s := S128x2048) ![0, 0] S128x2048.size inb_S128x2048_S128x2048_0_0).toLoadRect (View.loadsAt_vmem h_S128x2048)) fun w =>
  .op (.load partM (Rect.unit (s := S4096x2048) ![0, 0] S4096x2048.size inb_S4096x2048_S4096x2048_0_0).toLoadRect (View.loadsAt_vmem h_S4096x2048)) fun _ =>
  .op (.store partM (Rect.unit (s := S4096x2048) ![0, 0] S4096x2048.size inb_S4096x2048_S4096x2048_0_0) (k0_pay1 x w) Finset.univ
    (View.stores_vmem h_S4096x2048 ((Memref.isWhole_whole cc0_scratch0).storeExact_slice rfl _ packedbf16_S4096x2048_S4096x2048_0_0) (fun _ => rfl)) (.inl rfl)) fun _ =>
  loop d 31 0 rfl <| finishes d (.ret ⟨⟩)

set_option maxRecDepth 100000 in
/-- The printed body is that loop: by definitional unfolding. -/
theorem body_eq : cc0_body (F := F) xM (Memref.isWhole_whole _) wM (Memref.isWhole_whole _) outM (Memref.isWhole_whole _)
      (Memref.whole cc0_scratch0) (Memref.isWhole_whole _) (Memref.whole cc0_scratch1) (Memref.isWhole_whole _) (Memref.whole cc0_scratch2) (Memref.isWhole_whole _) cc0_scratch3 cc0_scratch4 cc0_scratch5 (Memref.whole cc0_scratch6) (Memref.isWhole_whole _) (Memref.whole cc0_scratch7) (Memref.isWhole_whole _) cc0_scratch8 cc0_scratch9 cc0_scratch10
    = body := by
  chain_rfl

end Cert.Exchange

end
-- ==== Proof.Schedule.lean ====
/-
# The protocol

Thirty-two devices in a ring. A LANE is a direction with a segment; in each of the eight lanes a device sends
thirty-one messages to its neighbour downstream, message `m` out of send slot `m % 2` into the neighbour's landing
slot `m % 4`. Per device and lane there are seven semaphores: one for each send slot (the slot has been read out), one
for each landing slot (the message has landed), and one counting the credits the neighbour downstream returns, one for
each message it has read. One barrier semaphore orders the entry of the neighbours.

A landing slot belongs to its reader; between the reader's release and the writer's next transfer it waits in an
invariant (`slotInv`), and what travels — with the barrier's signals and with the credits — is the fact that it has
been released so many times. The thirty credits of a lane are one round of thirty duties, credit `k` carrying the facts
of every message up to `k`: after `n` single waits at least `n` credits have been paid, so some credit `k ≥ n - 1` has.
-/
module

public import proofs.«01_k».proof.Proof.Flat
public import Idealize.ShloMosaic.Lib.Release
public import Idealize.ShloMosaic.Lib.Rounds
public import Idealize.ShloMosaic.Lib.Writes
public import Idealize.ShloMosaic.Lib.ViewIndex
public import Idealize.ShloMosaic.Lib.Pipeline.Launch
public import Idealize.ShloMosaic.Lib.Pipeline.Kit
public import Idealize.ShloMosaic.Lib.Tactic
public import Mathlib.Tactic.Abel
public import Mathlib.Algebra.BigOperators.Intervals

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## Lanes and cells -/

instance : Fintype Dir := ⟨{.R, .L}, fun δ => by cases δ <;> decide⟩

/-- A lane: a direction and a segment of it. -/
abbrev Lane : Type := Dir × Fin 4
/-- A lane's semaphores: of a send slot, of a landing slot, of the credits. -/
abbrev LKey : Type := Fin 2 ⊕ Fin 4 ⊕ Unit
/-- A device's semaphores: the barrier's, and every lane's. -/
abbrev Key : Type := Option (Lane × LKey)
abbrev kSS (ℓ : Lane) (p : Fin 2) : Key := some (ℓ, .inl p)
abbrev kRS (ℓ : Lane) (q : Fin 4) : Key := some (ℓ, .inr (.inl q))
abbrev kCR (ℓ : Lane) : Key := some (ℓ, .inr (.inr ()))

/-- The semaphore of a key. -/
def semOf : Key → SemLoc sig
  | none => .reg barS
  | some (ℓ, .inl p) => .dma (ssS ℓ.1 ℓ.2 p.val p.isLt)
  | some (ℓ, .inr (.inl q)) => .dma (rsS ℓ.1 ℓ.2 q.val q.isLt)
  | some (ℓ, .inr (.inr _)) => .reg (crS ℓ.1 ℓ.2)

/-- The number of a semaphore within the two pools. -/
def numOf : SemLoc sig → ℕ
  | .reg s => 2 * s.val
  | .dma s => 2 * s.val + 1
/-- The number of a key's semaphore. -/
def keyNum : Key → ℕ
  | none => 16
  | some ((.R, j), .inl p) => 2 * (3 + 2 * j.val + p.val) + 1
  | some ((.R, j), .inr (.inl q)) => 2 * (11 + 4 * j.val + q.val) + 1
  | some ((.R, j), .inr (.inr _)) => 2 * j.val
  | some ((.L, j), .inl p) => 2 * (27 + 2 * j.val + p.val) + 1
  | some ((.L, j), .inr (.inl q)) => 2 * (35 + 4 * j.val + q.val) + 1
  | some ((.L, j), .inr (.inr _)) => 2 * (4 + j.val)

theorem numOf_semOf : ∀ k, numOf (semOf k) = keyNum k
  | none => by decide
  | some ((δ, j), .inl p) => by cases δ <;> (revert p; revert j; decide)
  | some ((δ, j), .inr (.inl q)) => by cases δ <;> (revert q; revert j; decide)
  | some ((δ, j), .inr (.inr ())) => by cases δ <;> (revert j; decide)
theorem keyNum_inj : Function.Injective keyNum := by
  rintro (_ | ⟨⟨_ | _, j⟩, p | q | u⟩) (_ | ⟨⟨_ | _, j'⟩, p' | q' | u'⟩) h <;> simp only [keyNum] at h <;>
    first
      | rfl
      | (exfalso; omega)
      | (have e1 : j = j' := Fin.ext (by omega); have e2 : p = p' := Fin.ext (by omega); subst e1; subst e2; rfl)
      | (have e1 : j = j' := Fin.ext (by omega); have e2 : q = q' := Fin.ext (by omega); subst e1; subst e2; rfl)
      | (have e1 : j = j' := Fin.ext (by omega); subst e1; rfl)
/-- Different keys name different semaphores. -/
theorem semOf_inj : Function.Injective semOf := fun k k' h => keyNum_inj (by rw [← numOf_semOf, ← numOf_semOf, h])

/-- The key of a semaphore, if it is one of the exchange's. -/
def keyOf (sm : SemLoc sig) : Option Key := preimage? ⟨semOf, semOf_inj⟩ sm
theorem keyOf_semOf (k : Key) : keyOf (semOf k) = some k := preimage?_emb ⟨semOf, semOf_inj⟩ k

/-- The cell of a key on a device. -/
abbrev cell (c : Dev nD) (k : Key) : GSem nD τ sig := ((c : Thread nD τ), semOf k)

/-- The cells of message `m` of a lane: of the send slot it leaves, of the landing slot it reaches; the lane's
    credit cell; the device's barrier cell. -/
abbrev ssK (ℓ : Lane) (m : ℕ) : Key := kSS ℓ ⟨m % 2, two m⟩
abbrev rsK (ℓ : Lane) (m : ℕ) : Key := kRS ℓ ⟨m % 4, four m⟩
abbrev ssC (c : Dev nD) (ℓ : Lane) (m : ℕ) : GSem nD τ sig := cell c (ssK ℓ m)
abbrev rsC (c : Dev nD) (ℓ : Lane) (m : ℕ) : GSem nD τ sig := cell c (rsK ℓ m)
abbrev crC (c : Dev nD) (ℓ : Lane) : GSem nD τ sig := cell c (kCR ℓ)
abbrev barC (c : Dev nD) : GSem nD τ sig := cell c none

/-- A landing slot: whose it is, its lane, its number. -/
abbrev SKey : Type := Dev nD × Lane × Fin 4
abbrev slK (c : Dev nD) (ℓ : Lane) (m : ℕ) : SKey := (c, ℓ, ⟨m % 4, four m⟩)

abbrev dstL (ℓ : Lane) (c : Dev nD) : Dev nD := dstD ℓ.1 c
abbrev upsL (ℓ : Lane) (c : Dev nD) : Dev nD := upsD ℓ.1 c

theorem lft_rgt (c : Dev nD) : lftD (rgtD c) = c := by revert c; decide
theorem rgt_lft (c : Dev nD) : rgtD (lftD c) = c := by revert c; decide
theorem ups_dst (ℓ : Lane) (c : Dev nD) : upsL ℓ (dstL ℓ c) = c := by
  obtain ⟨δ, j⟩ := ℓ; cases δ
  · exact lft_rgt c
  · exact rgt_lft c
theorem dst_ups (ℓ : Lane) (c : Dev nD) : dstL ℓ (upsL ℓ c) = c := by
  obtain ⟨δ, j⟩ := ℓ; cases δ
  · exact rgt_lft c
  · exact lft_rgt c

/-! ## The resource algebra -/

abbrev UA : Type := URounds (GSem nD τ sig) ℕ
abbrev UC : Type := USlots SKey
abbrev UU : Type := UR sig nD τ × (UA × UC)

local notation "𝕄" => MT nD τ sig ℕ (Elt F) ℕ UU ℕ

abbrev EP : Emb (UR sig nD τ) (MT nD τ sig ℕ (Elt F) ℕ UU ℕ) := embL
abbrev ER : Emb UA (MT nD τ sig ℕ (Elt F) ℕ UU ℕ) := (Emb.inl : Emb UA (UA × UC)).trans embR
abbrev ES : Emb UC (MT nD τ sig ℕ (Elt F) ℕ UU ℕ) := (Emb.inr : Emb UC (UA × UC)).trans embR

/-! ## The slots -/

/-- The credit of one block's transfer. -/
abbrev N : ℕ := (rbSlot .R 0 0 (by decide)).view.dmaCredit
theorem N_pos : 0 < N := View.dmaCredit_pos _ (by decide)
theorem credit_rb (δ : Dir) (j : Fin 4) (q : ℕ) (hq : q < 4) : (rbSlot δ j q hq).view.dmaCredit = N := by cases δ <;> rfl
theorem credit_sb (δ : Dir) (j : Fin 4) (p : ℕ) (hp : p < 2) : (sbSlot δ j p hp).view.dmaCredit = N := by cases δ <;> rfl

/-- A send slot, a landing slot at any contents. -/
def sbAny (c : Dev nD) (ℓ : Lane) (p : Fin 2) : sProp 𝕄 :=
  slot ((sbSlot ℓ.1 ℓ.2 p.val p.isLt).view.loc (c : Thread nD τ)) (sbSlot ℓ.1 ℓ.2 p.val p.isLt).view.set
def rbAny (c : Dev nD) (ℓ : Lane) (q : Fin 4) : sProp 𝕄 :=
  slot ((rbSlot ℓ.1 ℓ.2 q.val q.isLt).view.loc (c : Thread nD τ)) (rbSlot ℓ.1 ℓ.2 q.val q.isLt).view.set
/-- A landing slot holding the block `b`. -/
def rbHas (c : Dev nD) (ℓ : Lane) (q : Fin 4) (b : FVec F S128x256 .bf16) : sProp 𝕄 :=
  iprop(∃ f : Buf (Elt F) ((rbSlot ℓ.1 ℓ.2 q.val q.isLt).view.loc (c : Thread nD τ)),
    ⌜((rbM ℓ.1).access (rbRect ℓ.2 q.val q.isLt)).read (Elt F) f = asSlot b⌝
      ∗ ((rbSlot ℓ.1 ℓ.2 q.val q.isLt).view.loc (c : Thread nD τ) ↦[(rbSlot ℓ.1 ℓ.2 q.val q.isLt).view.set]{fullShare} f))

omit [FloatOps F] in
instance sbAny_storable (c : Dev nD) (ℓ : Lane) (p : Fin 2) : Storable (upEmb : UEmb _ 𝕄) (sbAny (F := F) c ℓ p) := by
  unfold sbAny; infer_instance
omit [FloatOps F] in
instance rbAny_storable (c : Dev nD) (ℓ : Lane) (q : Fin 4) : Storable (upEmb : UEmb _ 𝕄) (rbAny (F := F) c ℓ q) := by
  unfold rbAny; infer_instance
instance rbHas_storable (c : Dev nD) (ℓ : Lane) (q : Fin 4) (b : FVec F S128x256 .bf16) : Storable (upEmb : UEmb _ 𝕄) (rbHas c ℓ q b) := by
  unfold rbHas; infer_instance

omit [FloatOps F] in
theorem rbAny_excl (c : Dev nD) (ℓ : Lane) (q : Fin 4) : iprop(rbAny (F := F) c ℓ q ∗ rbAny c ℓ q) ⊢ (False : sProp 𝕄) :=
  slot_slot_false (View.set_nonempty (by decide))

/-! ## What the semaphores carry -/

/-- Of device `c`'s landing slots in the lane: message `e` has been read and its slot given back, and its semaphore waited for. -/
def given (c : Dev nD) (ℓ : Lane) (e : ℕ) : sProp 𝕄 :=
  iprop(released ES (slK c ℓ e) (e / 4 + 2) ∗ reached ER (rsC c ℓ e) (e / 4 + 1))
omit [FloatOps F] in
instance given_persistent (c : Dev nD) (ℓ : Lane) (e : ℕ) : BI.Persistent (given (F := F) c ℓ e) := by unfold given; infer_instance
omit [FloatOps F] in
instance given_storable (c : Dev nD) (ℓ : Lane) (e : ℕ) : Storable (upEmb : UEmb _ 𝕄) (given (F := F) c ℓ e) := by unfold given; infer_instance

/-- What a neighbour's entry signal carries: that its landing slots of the direction are free. -/
def barPay (c : Dev nD) (δ : Dir) : sProp 𝕄 :=
  bigSep Finset.univ fun x : Fin 4 × Fin 4 => released ES (dstD δ c, (δ, x.1), x.2) 1
/-- What credit `k` carries: of every message up to `k` whose slot is used again, that it is given back. -/
def crPay (c : Dev nD) (ℓ : Lane) (k : ℕ) : sProp 𝕄 := bigSep (Finset.range (min (k + 1) 27)) fun e => given (dstL ℓ c) ℓ e

omit [FloatOps F] in
instance barPay_persistent (c : Dev nD) (δ : Dir) : BI.Persistent (barPay (F := F) c δ) := by unfold barPay; infer_instance
omit [FloatOps F] in
instance crPay_persistent (c : Dev nD) (ℓ : Lane) (k : ℕ) : BI.Persistent (crPay (F := F) c ℓ k) := by unfold crPay; infer_instance
omit [FloatOps F] in
instance barPay_storable (c : Dev nD) (δ : Dir) : Storable (upEmb : UEmb _ 𝕄) (barPay (F := F) c δ) := by unfold barPay; infer_instance
omit [FloatOps F] in
instance crPay_storable (c : Dev nD) (ℓ : Lane) (k : ℕ) : Storable (upEmb : UEmb _ 𝕄) (crPay (F := F) c ℓ k) := by unfold crPay; infer_instance

variable (M : Lane → ℕ → Dev nD → FVec F S128x256 .bf16)

/-- The duties of a key's rounds. -/
def kDuties : Key → ℕ → Finset ℕ
  | none, r => if r = 0 then {0, 1} else ∅
  | some (_, .inl p), r => if 2 * r + p.val ≤ 30 then {0} else ∅
  | some (_, .inr (.inl q)), r => if 4 * r + q.val ≤ 30 then {0} else ∅
  | some (_, .inr (.inr _)), r => if r = 0 then Finset.range 30 else ∅
/-- Their amounts. -/
def kAmount : Key → ℕ
  | none => 1
  | some (_, .inl _) => N
  | some (_, .inr (.inl _)) => N
  | some (_, .inr (.inr _)) => 1
/-- What they carry, where the device is `c` and message `m` of the lane sent by `c'` is `M ℓ m c'`. -/
def kPay (c : Dev nD) : Key → ℕ → ℕ → sProp 𝕄
  | none, _, d => barPay c (if d = 0 then .R else .L)
  | some (ℓ, .inl p), _, _ => sbAny c ℓ p
  | some (ℓ, .inr (.inl q)), r, _ => rbHas c ℓ q (M ℓ (4 * r + q.val) (upsL ℓ c))
  | some (ℓ, .inr (.inr _)), _, d => crPay c ℓ d

instance kPay_storable (c : Dev nD) : ∀ k r d, Storable (upEmb : UEmb _ 𝕄) (kPay M c k r d)
  | none, _, _ => by unfold kPay; infer_instance
  | some (_, .inl _), _, _ => by unfold kPay; infer_instance
  | some (_, .inr (.inl _)), _, _ => by unfold kPay; infer_instance
  | some (_, .inr (.inr _)), _, _ => by unfold kPay; infer_instance
theorem kAmount_pos : ∀ k, 0 < kAmount k
  | none => Nat.one_pos
  | some (_, .inl _) => N_pos
  | some (_, .inr (.inl _)) => N_pos
  | some (_, .inr (.inr _)) => Nat.one_pos

/-- The schedule of all the cells. -/
def sched : Rounds.Schedule (GSem nD τ sig) ℕ 𝕄 where
  duties g r := if g.1.2 = .tc then (match keyOf g.2 with | some k => kDuties k r | none => ∅) else ∅
  unitless _ := False
  amount g _ _ := match keyOf g.2 with | some k => kAmount k | none => 1
  payload g r d := match keyOf g.2 with | some k => kPay M g.1.1 k r d | none => iprop(emp)
  amount_pos g _ _ _ := by
    cases h : keyOf g.2 with
    | none => exact Nat.one_pos
    | some k => exact kAmount_pos k

instance sched_payload_storable (g : GSem nD τ sig) (r d : ℕ) : Storable (upEmb : UEmb _ 𝕄) ((sched M).payload g r d) := by
  show Storable upEmb (match keyOf g.2 with | some k => kPay M g.1.1 k r d | none => iprop(emp))
  cases keyOf g.2 <;> infer_instance

theorem duties_cell (c : Dev nD) (k : Key) (r : ℕ) : (sched M).duties (cell c k) r = kDuties k r := by
  dsimp only [sched]; rw [if_pos rfl, keyOf_semOf]
theorem amount_cell (c : Dev nD) (k : Key) (r d : ℕ) : (sched M).amount (cell c k) r d = kAmount k := by
  dsimp only [sched]; rw [keyOf_semOf]
theorem payload_cell (c : Dev nD) (k : Key) (r d : ℕ) : (sched M).payload (cell c k) r d = kPay M c k r d := by
  dsimp only [sched]; rw [keyOf_semOf]
theorem expect_cell (c : Dev nD) (k : Key) (r : ℕ) : (sched M).expect (cell c k) r = (kDuties k r).card * kAmount k := by
  unfold Schedule.expect Schedule.amountOf
  rw [duties_cell, Finset.sum_congr rfl fun d _ => amount_cell M c k r d, Finset.sum_const, smul_eq_mul]

theorem duties_ss (ℓ : Lane) (m : ℕ) (h : m ≤ 30) : kDuties (ssK ℓ m) (m / 2) = {0} := by
  show (if 2 * (m / 2) + m % 2 ≤ 30 then _ else _) = _
  rw [Nat.div_add_mod, if_pos h]
theorem duties_rs (ℓ : Lane) (m : ℕ) (h : m ≤ 30) : kDuties (rsK ℓ m) (m / 4) = {0} := by
  show (if 4 * (m / 4) + m % 4 ≤ 30 then _ else _) = _
  rw [Nat.div_add_mod, if_pos h]
theorem duties_cr (ℓ : Lane) : kDuties (kCR ℓ) 0 = Finset.range 30 := rfl
theorem duties_bar : kDuties none 0 = {0, 1} := rfl

theorem expect_ss (c : Dev nD) (ℓ : Lane) (m : ℕ) (h : m ≤ 30) : (sched M).expect (ssC c ℓ m) (m / 2) = N := by
  rw [expect_cell, duties_ss ℓ m h]; exact Nat.one_mul _
theorem expect_rs (c : Dev nD) (ℓ : Lane) (m : ℕ) (h : m ≤ 30) : (sched M).expect (rsC c ℓ m) (m / 4) = N := by
  rw [expect_cell, duties_rs ℓ m h]; exact Nat.one_mul _
theorem expect_cr (c : Dev nD) (ℓ : Lane) : (sched M).expect (crC c ℓ) 0 = 30 := by
  rw [expect_cell, duties_cr, Finset.card_range]; rfl
theorem expect_bar (c : Dev nD) : (sched M).expect (barC c) 0 = 2 := by
  rw [expect_cell, duties_bar]; rfl

theorem payload_rs (c : Dev nD) (ℓ : Lane) (m d : ℕ) :
    (sched M).payload (rsC c ℓ m) (m / 4) d = rbHas c ℓ ⟨m % 4, four m⟩ (M ℓ m (upsL ℓ c)) := by
  rw [payload_cell]; show rbHas c ℓ _ (M ℓ (4 * (m / 4) + m % 4) _) = _; rw [Nat.div_add_mod]
theorem payload_ss (c : Dev nD) (ℓ : Lane) (m r d : ℕ) : (sched M).payload (ssC c ℓ m) r d = sbAny c ℓ ⟨m % 2, two m⟩ := by
  rw [payload_cell]; rfl
theorem payload_cr (c : Dev nD) (ℓ : Lane) (r d : ℕ) : (sched M).payload (crC c ℓ) r d = crPay c ℓ d := by
  rw [payload_cell]; rfl

/-- Message `m + 2` leaves the slot of message `m`, message `m + 4` reaches its slot. -/
theorem ssK_add (ℓ : Lane) (m : ℕ) : ssK ℓ (m + 2) = ssK ℓ m := by
  have : (⟨(m + 2) % 2, two (m + 2)⟩ : Fin 2) = ⟨m % 2, two m⟩ := Fin.ext (Nat.add_mod_right m 2)
  show kSS ℓ _ = kSS ℓ _; rw [this]
theorem rsK_add (ℓ : Lane) (m : ℕ) : rsK ℓ (m + 4) = rsK ℓ m := by
  have : (⟨(m + 4) % 4, four (m + 4)⟩ : Fin 4) = ⟨m % 4, four m⟩ := Fin.ext (Nat.add_mod_right m 4)
  show kRS ℓ _ = kRS ℓ _; rw [this]
theorem slK_add (c : Dev nD) (ℓ : Lane) (m : ℕ) : slK c ℓ (m + 4) = slK c ℓ m := by
  have : (⟨(m + 4) % 4, four (m + 4)⟩ : Fin 4) = ⟨m % 4, four m⟩ := Fin.ext (Nat.add_mod_right m 4)
  show (c, ℓ, _) = (c, ℓ, _); rw [this]
theorem fin2_add (m : ℕ) : (⟨(m + 2) % 2, two (m + 2)⟩ : Fin 2) = ⟨m % 2, two m⟩ := Fin.ext (Nat.add_mod_right m 2)
theorem fin4_add (m : ℕ) : (⟨(m + 4) % 4, four (m + 4)⟩ : Fin 4) = ⟨m % 4, four m⟩ := Fin.ext (Nat.add_mod_right m 4)

/-- Past the last message no round has a duty. -/
theorem duties_ss_later (c : Dev nD) (ℓ : Lane) (m : ℕ) (h : 30 < m) : ∀ r, m / 2 ≤ r → (sched M).duties (ssC c ℓ m) r = ∅ := by
  intro r hr; rw [duties_cell]; exact if_neg (by show ¬ 2 * r + m % 2 ≤ 30; omega)
theorem duties_rs_later (c : Dev nD) (ℓ : Lane) (m : ℕ) (h : 30 < m) : ∀ r, m / 4 ≤ r → (sched M).duties (rsC c ℓ m) r = ∅ := by
  intro r hr; rw [duties_cell]; exact if_neg (by show ¬ 4 * r + m % 4 ≤ 30; omega)
theorem duties_cr_later (c : Dev nD) (ℓ : Lane) : ∀ r, 1 ≤ r → (sched M).duties (crC c ℓ) r = ∅ := by
  intro r hr; rw [duties_cell]; exact if_neg (by omega)
theorem duties_bar_later (c : Dev nD) : ∀ r, 1 ≤ r → (sched M).duties (barC c) r = ∅ := by
  intro r hr; rw [duties_cell]; exact if_neg (by omega)

/-! ## Levels and debts -/

/-- The indices of waits are the levels: 0 for staging and sends, 1 for the barrier, `2 m + 2` for the landing of
    message `m`, `2 k + 3` for credit `k`. -/
def L (g : GSem nD τ sig) : Finset ℕ := if g.1.2 = .tc then Finset.range 64 else ∅
def lv (_ : GSem nD τ sig) (ι : ℕ) : ℕ := ι
theorem L_of_ne (g : GSem nD τ sig) (h : g.1.2 ≠ .tc) : L g = ∅ := if_neg h
theorem L_tc (c : Dev nD) (sm : SemLoc sig) : L ((c : Thread nD τ), sm) = Finset.range 64 := if_pos rfl

abbrev Debt : Type := CellTallies nD τ sig ℕ
/-- Everything owed is owed to TensorCore cells at indices above `b`. -/
def Above (b : ℕ) (O : Debt) : Prop := ∀ g ι, 0 < O g ι → g.1.2 = .tc ∧ b < ι ∧ ι < 64

theorem above_zero (b : ℕ) : Above b 0 := fun g ι h => absurd h (Nat.lt_irrefl 0)
theorem above_add {b : ℕ} {O O' : Debt} (h : Above b O) (h' : Above b O') : Above b (O + O') := fun g ι hp => by
  rw [Pi.add_apply, Finsupp.add_apply] at hp
  rcases Nat.eq_zero_or_pos (O g ι) with h0 | h0
  · exact h' g ι (by omega)
  · exact h g ι h0
theorem above_tally {b : ℕ} (c : Dev nD) (sm : SemLoc sig) (ι n : ℕ) (h : b < ι) (h' : ι < 64) :
    Above b (tallyAt ((c : Thread nD τ), sm) ι n) := fun g i hp => by
  rw [tallyAt_apply] at hp
  by_cases hg : g = ((c : Thread nD τ), sm) ∧ i = ι
  · rw [hg.1, hg.2]; exact ⟨rfl, h, h'⟩
  · rw [if_neg hg] at hp; exact absurd hp (Nat.lt_irrefl 0)
theorem above_sum {b : ℕ} {I : Type} (S : Finset I) (f : I → Debt) (h : ∀ i ∈ S, Above b (f i)) : Above b (∑ i ∈ S, f i) := by
  classical
  induction S using Finset.induction_on with
  | empty => rw [Finset.sum_empty]; exact above_zero b
  | insert i S hi ih =>
    rw [Finset.sum_insert hi]
    exact above_add (h i (Finset.mem_insert_self _ _)) (ih fun j hj => h j (Finset.mem_insert_of_mem hj))
theorem Above.mono {b b' : ℕ} {O : Debt} (h : Above b' O) (hb : b ≤ b') : Above b O := fun g ι hp =>
  ⟨(h g ι hp).1, Nat.lt_of_le_of_lt hb (h g ι hp).2.1, (h g ι hp).2.2⟩

omit [FloatOps F] in
/-- A wait at indices up to `b` while everything owed is above. -/
theorem mayOwe_above (c : Dev nD) (W : Waits sig ℕ) (b : ℕ) (hb : b < 64) (hW : ∀ p ∈ W, p.2 ≤ b) {O : Debt} (hO : Above b O) :
    (levAts L lv : sProp 𝕄) ⊢ MayOwe (c : Thread nD τ) W O :=
  MayOwe.of_cut (L := L) (lev := lv) b (fun p hp => by rw [L_tc]; exact Finset.mem_range.mpr (Nat.lt_of_le_of_lt (hW p hp) hb))
    (fun g ι h => by unfold L; rw [if_pos (hO g ι h).1]; exact Finset.mem_range.mpr (hO g ι h).2.2)
    hW (fun g ι h => (hO g ι h).2.1)
omit [FloatOps F] in
theorem mayWait_above (c : Dev nD) (sm : SemLoc sig) (ι : ℕ) (hι : ι < 64) {O : Debt} (hO : Above ι O) :
    (levAts L lv : sProp 𝕄) ⊢ MayWait (c : Thread nD τ) sm ι O :=
  mayOwe_above c {(sm, ι)} ι hι (fun p hp => by rw [Finset.mem_singleton.mp hp]) hO

/-- What a device owes for message `m`: the neighbour's landing semaphore the block's credit; for credit `k`: one unit. -/
abbrev dMsg (c : Dev nD) (ℓ : Lane) (m : ℕ) : Debt := tallyAt (rsC (dstL ℓ c) ℓ m) (2 * m + 2) N
abbrev dCrd (c : Dev nD) (ℓ : Lane) (k : ℕ) : Debt := tallyAt (crC (upsL ℓ c) ℓ) (2 * k + 3) 1
/-- What a device owes in a lane before it sends message `t`. -/
def debt (c : Dev nD) (ℓ : Lane) (t : ℕ) : Debt := (∑ m ∈ Finset.Ico t 31, dMsg c ℓ m) + ∑ k ∈ Finset.Ico (t - 1) 30, dCrd c ℓ k

theorem debt_above (c : Dev nD) (ℓ : Lane) (t : ℕ) : Above (2 * t) (debt c ℓ t) :=
  above_add (above_sum _ _ fun m hm => above_tally _ _ _ _ (by have := (Finset.mem_Ico.mp hm).1; omega) (by have := (Finset.mem_Ico.mp hm).2; omega))
    (above_sum _ _ fun k hk => above_tally _ _ _ _ (by have := (Finset.mem_Ico.mp hk).1; omega) (by have := (Finset.mem_Ico.mp hk).2; omega))
theorem debt_end (c : Dev nD) (ℓ : Lane) : debt c ℓ 31 = 0 := by
  unfold debt; rw [Finset.Ico_self, Finset.Ico_self, Finset.sum_empty, Finset.sum_empty, add_zero]
theorem debt_zero (c : Dev nD) (ℓ : Lane) : debt c ℓ 0 = debt c ℓ 1 + dMsg c ℓ 0 := by
  unfold debt; rw [Finset.sum_eq_sum_Ico_succ_bot (by decide : 0 < 31)]
  show _ + (∑ k ∈ Finset.Ico 0 30, dCrd c ℓ k) = _ + (∑ k ∈ Finset.Ico 0 30, dCrd c ℓ k) + _
  abel
theorem debt_succ (c : Dev nD) (ℓ : Lane) (s : ℕ) (h : s < 30) : debt c ℓ (s + 1) = (debt c ℓ (s + 2) + dMsg c ℓ (s + 1)) + dCrd c ℓ s := by
  unfold debt
  rw [Finset.sum_eq_sum_Ico_succ_bot (show s + 1 < 31 by omega), show s + 1 - 1 = s from rfl, Finset.sum_eq_sum_Ico_succ_bot h]
  show _ = (_ + (∑ k ∈ Finset.Ico (s + 1) 30, dCrd c ℓ k)) + _ + _
  abel

end Cert.Exchange

end
-- ==== Proof.Moves.lean ====
/-
# The operations of the exchange, one rule each

What a device holds in a lane — credits, positions, tokens, slots, each indexed by the message it belongs to — and, for
each operation of the loop, what it takes and gives.
-/
module

public import proofs.«01_k».proof.Proof.Schedule
public import Idealize.SL.BI.BigOpNat

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

/-- What a device's program needs to run from here with the outcome `Q`. -/
abbrev WP (c : Dev nD) (p : Code F) (Q : PUnit → sProp 𝕄) : sProp 𝕄 :=
  wp frame (wpE (defs₀ (F := F)) 𝒱₀ (c : Thread nD τ) none) Set.univ p Q

/-- One member of a separating conjunction. -/
theorem bigSep_mem {X : Type*} [URA X] {I : Type*} {s : Finset I} {i : I} (h : i ∈ s) {Φ : I → sProp X} : bigSep s Φ ⊢ Φ i := by
  classical exact bigSep_elim h
/-- A separating conjunction cut along a part of its indices. -/
theorem bigSep_cut {X : Type*} [URA X] {I : Type*} [DecidableEq I] {s t : Finset I} (h : t ⊆ s) {Φ : I → sProp X} :
    bigSep s Φ = iprop(bigSep t Φ ∗ bigSep (s \ t) Φ) := bigSep_sdiff_split h

/-! ## What a device holds -/

section Holdings
variable (c : Dev nD) (ℓ : Lane) (m : ℕ)

def rcred : sProp 𝕄 := cred (tallyAt (rsC c ℓ m) (2 * m + 2) N)
def rpos : sProp 𝕄 := atPos ER (rsC c ℓ m) (m / 4) ∅ 0
/-- The reader's count for the slot of message `m`, for the messages there are. -/
def rdr : sProp 𝕄 := if m ≤ 30 then readerAt ES (slK c ℓ m) (m / 4 + 1) else iprop(emp)
def kept : sProp 𝕄 := rbAny c ℓ ⟨m % 4, four m⟩
def rtok : sProp 𝕄 := dutyTok ER (rsC (dstL ℓ c) ℓ m) (m / 4) 0
def wtok : sProp 𝕄 := writeTok ES (slK (dstL ℓ c) ℓ m) (m / 4 + 1)
def spos : sProp 𝕄 := atPos ER (ssC c ℓ m) (m / 2) ∅ 0
def stok : sProp 𝕄 := dutyTok ER (ssC c ℓ m) (m / 2) 0
def scred : sProp 𝕄 := cred (tallyAt (ssC c ℓ m) 0 N)
def sany : sProp 𝕄 := sbAny c ℓ ⟨m % 2, two m⟩
def sreach : sProp 𝕄 := reached ER (ssC c ℓ m) (m / 2)
def ctok : sProp 𝕄 := dutyTok ER (crC (upsL ℓ c) ℓ) 0 m
def ccred : sProp 𝕄 := cred (tallyAt (crC c ℓ) (2 * m + 3) 1)
/-- The credit cell after `m` waits: at least as many credits are known, with what they carry. -/
def cpos : sProp 𝕄 := iprop(∃ T : Finset ℕ, ⌜T ⊆ Finset.range 30 ∧ m ≤ T.card⌝ ∗ atPos ER (crC c ℓ) 0 T m ∗ bigSep T (crPay c ℓ))
/-- Message `m` may be sent: its landing slot has been given back and is waited for at the right round. -/
def gate : sProp 𝕄 := iprop(released ES (slK (dstL ℓ c) ℓ m) (m / 4 + 1) ∗ reached ER (rsC (dstL ℓ c) ℓ m) (m / 4))
/-- The messages below `m` whose slots are used again have been given back. -/
def gave : sProp 𝕄 := bigSep (Finset.range (min m 27)) fun e => given c ℓ e
end Holdings

omit [FloatOps F] in
instance gate_persistent (c : Dev nD) (ℓ : Lane) (m : ℕ) : BI.Persistent (gate (F := F) c ℓ m) := by unfold gate; infer_instance
omit [FloatOps F] in
instance gave_persistent (c : Dev nD) (ℓ : Lane) (m : ℕ) : BI.Persistent (gave (F := F) c ℓ m) := by unfold gave; infer_instance
omit [FloatOps F] in
instance sreach_persistent (c : Dev nD) (ℓ : Lane) (m : ℕ) : BI.Persistent (sreach (F := F) c ℓ m) := by unfold sreach; infer_instance

/-- What a device owes, whatever it has waited for. -/
def owesE (c : Dev nD) (O : Debt) : sProp 𝕄 := iprop(∃ W, owes (c : Thread nD τ) O W)

section Rules

variable (M : Lane → ℕ → Dev nD → FVec F S128x256 .bf16) (K : Dev nD × Key → ℕ) (κ : SKey → ℕ)

/-- What every device knows throughout: the cells' and slots' invariants, that the cells start at round 0, the levels. -/
def Know : sProp 𝕄 :=
  iprop((bigSep Finset.univ fun x : Dev nD × Key => cellInv ER (sched M) (K x) (cell x.1 x.2))
    ∗ (bigSep Finset.univ fun x : Dev nD × Key => reached ER (cell x.1 x.2) 0)
    ∗ (bigSep Finset.univ fun k : SKey => slotInv ES (κ k) k (rbAny k.1 k.2.1 k.2.2))
    ∗ levAts L lv)
instance Know_persistent : BI.Persistent (Know M K κ) := by unfold Know; infer_instance

theorem know_cell (c : Dev nD) (k : Key) : Know M K κ ⊢ (cellInv ER (sched M) (K (c, k)) (cell c k) : sProp 𝕄) := by
  unfold Know; iintro ⟨H, -⟩
  iapply (bigSep_mem (Finset.mem_univ (c, k)) (Φ := fun x : Dev nD × Key => cellInv ER (sched M) (K x) (cell x.1 x.2))) $$ H
theorem know_reached (c : Dev nD) (k : Key) : Know M K κ ⊢ (reached ER (cell c k) 0 : sProp 𝕄) := by
  unfold Know; iintro ⟨-, H, -⟩
  iapply (bigSep_mem (Finset.mem_univ (c, k)) (Φ := fun x : Dev nD × Key => (reached ER (cell x.1 x.2) 0 : sProp 𝕄))) $$ H
theorem know_slot (c : Dev nD) (ℓ : Lane) (q : Fin 4) : Know M K κ ⊢ (slotInv ES (κ (c, ℓ, q)) (c, ℓ, q) (rbAny c ℓ q) : sProp 𝕄) := by
  unfold Know; iintro ⟨-, -, H, -⟩
  iapply (bigSep_mem (Finset.mem_univ (c, ℓ, q)) (Φ := fun k : SKey => slotInv ES (κ k) k (rbAny (F := F) k.1 k.2.1 k.2.2))) $$ H
/-- A device may wait at index `ι` where it owes only above it. -/
theorem know_mayWait (c : Dev nD) (sm : SemLoc sig) (ι : ℕ) (hι : ι < 64) {O : Debt} (hO : Above ι O) :
    Know M K κ ⊢ (MayWait (c : Thread nD τ) sm ι O : sProp 𝕄) := by
  unfold Know; iintro ⟨-, -, -, H⟩
  iapply (mayWait_above (F := F) c sm ι hι hO) $$ H

/-! ## The contents of a slot -/

omit [FloatOps F] in
/-- What is stored in a send slot and sent is what is then read in the landing slot. -/
theorem read_sent (δ : Dir) (j : Fin 4) (p : ℕ) (hp : p < 2) (q : ℕ) (hq : q < 4)
    (fb : (sbM δ).view.ty.Contents (Elt F)) (fd : (rbM δ).view.ty.Contents (Elt F)) (w : (sbRect j p hp).shape.Idx → Elt F .bf16) :
    ((rbM δ).access (rbRect j q hq)).read (Elt F) ((rbSlot δ j q hq).view.write (Elt F) fd
      ((sbSlot δ j p hp).view.read (Elt F) (((sbM δ).access (sbRect j p hp)).write (Elt F) fb w Finset.univ)) Finset.univ) = w := by
  have e : (rbSlot δ j q hq).view = ((rbM δ).access (rbRect j q hq)).reshape S128x256 (Shape.Squeezes.numel_eq squeezes_S1x1x128x256_S128x256) := rfl
  have e' : (sbSlot δ j p hp).view = ((sbM δ).access (sbRect j p hp)).reshape S128x256 (Shape.Squeezes.numel_eq squeezes_S1x1x128x256_S128x256) := rfl
  refine (congrArg (((rbM δ).access (rbRect j q hq)).read (Elt F)) (View.write_reshape_univ (v := ((rbM δ).access (rbRect j q hq))) _ _ _)).trans ?_
  rw [View.read_write_univ]
  funext x
  show (((sbM δ).access (sbRect j p hp)).read (Elt F) (((sbM δ).access (sbRect j p hp)).write (Elt F) fb w Finset.univ)) (Shape.reshapeEquiv _ ((Shape.reshapeEquiv _).symm x)) = w x
  rw [View.read_write_univ, Equiv.apply_symm_apply]

omit [FloatOps F] in
theorem rb_set (δ : Dir) (j : Fin 4) (q : ℕ) (hq : q < 4) : (rbSlot δ j q hq).view.set = ((rbM δ).access (rbRect j q hq)).set := View.set_reshape _ _
omit [FloatOps F] in
theorem sb_set (δ : Dir) (j : Fin 4) (p : ℕ) (hp : p < 2) : (sbSlot δ j p hp).view.set = ((sbM δ).access (sbRect j p hp)).set := View.set_reshape _ _

theorem rbHas_any (c : Dev nD) (ℓ : Lane) (q : Fin 4) (b : FVec F S128x256 .bf16) : rbHas c ℓ q b ⊢ rbAny c ℓ q := by
  unfold rbHas rbAny slot
  iintro ⟨%f, -, H⟩; iexists f; iexact H

/-! ## The rules -/

/-- Reading a landed message. -/
theorem wp_rbLoad (c : Dev nD) (ℓ : Lane) (q : Fin 4) (b : FVec F S128x256 .bf16) (k : Vec F S1x1x128x256 .bf16 → Code F) (Q : PUnit → sProp 𝕄) :
    rbHas c ℓ q b ⊢ iprop((rbHas c ℓ q b -∗ WP c (k (asSlot b)) Q) -∗ WP c (rbLoad ℓ.1 ℓ.2 q.val q.isLt k) Q) := by
  unfold rbHas rbLoad
  iintro ⟨%f, %hf, H⟩ Hk
  iapply (wp_load_rect 𝒱₀ (c : Thread nD τ) none Set.univ (m := rbM ℓ.1) (r := rbRect ℓ.2 q.val q.isLt)
    (Finset.subset_of_eq (rb_set ℓ.1 ℓ.2 q.val q.isLt).symm)) $$ H
  iintro H
  rw [hf]
  iapply Hk
  iexists f; isplitr; · ipureintro; exact hf
  iexact H

/-- Waiting for message `s` to land. -/
theorem wp_recvWait (c : Dev nD) (ℓ : Lane) (s : ℕ) (hs : s ≤ 30) (p : ℕ) (hp : p < 2) (O : Debt) (hO : Above (2 * s + 2) O) (k : Code F) (Q : PUnit → sProp 𝕄) :
    iprop(Know M K κ ∗ rcred c ℓ s ∗ rpos c ℓ s ∗ owesE c O)
      ⊢ iprop(((rbHas c ℓ ⟨s % 4, four s⟩ (M ℓ s (upsL ℓ c)) ∗ rpos c ℓ (s + 4) ∗ reached ER (rsC c ℓ s) (s / 4 + 1) ∗ owesE c O) -∗ WP c k Q)
        -∗ WP c (recvWait ℓ.1 ℓ.2 p hp (s % 4) (four s) k) Q) := by
  unfold recvWait owesE rcred rpos
  iintro ⟨#HK, Hc, Hp, %W, HO⟩ Hk
  iapply (Rounds.wp_wait_rest_token 𝒱₀ ER (sched M) (c : Thread nD τ) none (sm := semOf (rsK ℓ s)) (k' := N) (κ := K (c, rsK ℓ s))
      (by rw [← credit_rb ℓ.1 ℓ.2 (s % 4) (four s)]; exact wpE_waitDma2_eq 𝒱₀ (c : Thread nD τ) none Set.univ) (Set.mem_univ _) (2 * s + 2) (O := O) (W := W) (R := s / 4) (m := 0) (T := ∅)
      (by rw [Nat.zero_add]; exact (expect_rs M c ℓ s hs).symm)) $$ [Hc HO Hp]
  · isplitr; · iapply (know_cell M K κ c (rsK ℓ s)); iexact HK
    isplitl [Hc]; · iexact Hc
    isplitl [HO]; · iexact HO
    isplitr; · iapply (know_mayWait M K κ c _ (2 * s + 2) (by omega) hO); iexact HK
    iexact Hp
  iintro ⟨HO, Hp, Hr, Hpay⟩
  iapply Hk
  isplitl [Hpay]
  · iapply (Entails.of_eq (show bigSep ((sched M).duties (rsC c ℓ s) (s / 4) \ ∅) (fun d => (sched M).payload (rsC c ℓ s) (s / 4) d) = _ by
      rw [Finset.sdiff_empty, duties_cell, duties_rs ℓ s hs, bigSep_singleton, payload_rs])) $$ Hpay
  isplitl [Hp]
  · rw [show s / 4 + 1 = (s + 4) / 4 by omega, show rsC c ℓ (s + 4) = rsC c ℓ s from congrArg (cell c) (rsK_add ℓ s)]; iexact Hp
  isplitl [Hr]; · iexact Hr
  iexists _; iexact HO

/-- Waiting for the send of message `m`: the slot is the device's again. -/
theorem wp_sendWait (c : Dev nD) (ℓ : Lane) (m : ℕ) (hm : m ≤ 30) (p : ℕ) (hp : p < 2) (hpm : p = m % 2) (q : ℕ) (hq : q < 4) (O : Debt) (hO : Above 0 O) (k : Code F) (Q : PUnit → sProp 𝕄) :
    iprop(Know M K κ ∗ scred c ℓ m ∗ spos c ℓ m ∗ owesE c O)
      ⊢ iprop(((sany c ℓ m ∗ spos c ℓ (m + 2) ∗ sreach c ℓ (m + 2) ∗ owesE c O) -∗ WP c k Q)
        -∗ WP c (sendWait ℓ.1 ℓ.2 p hp q hq k) Q) := by
  subst hpm
  unfold sendWait owesE scred spos sreach sany
  iintro ⟨#HK, Hc, Hp, %W, HO⟩ Hk
  iapply (Rounds.wp_wait_rest_token 𝒱₀ ER (sched M) (c : Thread nD τ) none (sm := semOf (ssK ℓ m)) (k' := N) (κ := K (c, ssK ℓ m))
      (by rw [← credit_sb ℓ.1 ℓ.2 (m % 2) (two m)]; exact wpE_waitDma2_eq 𝒱₀ (c : Thread nD τ) none Set.univ) (Set.mem_univ _) 0 (O := O) (W := W) (R := m / 2) (m := 0) (T := ∅)
      (by rw [Nat.zero_add]; exact (expect_ss M c ℓ m hm).symm)) $$ [Hc HO Hp]
  · isplitr; · iapply (know_cell M K κ c (ssK ℓ m)); iexact HK
    isplitl [Hc]; · iexact Hc
    isplitl [HO]; · iexact HO
    isplitr; · iapply (know_mayWait M K κ c _ 0 (by omega) hO); iexact HK
    iexact Hp
  iintro ⟨HO, Hp, Hr, Hpay⟩
  iapply Hk
  isplitl [Hpay]
  · iapply (Entails.of_eq (show bigSep ((sched M).duties (ssC c ℓ m) (m / 2) \ ∅) (fun d => (sched M).payload (ssC c ℓ m) (m / 2) d) = _ by
      rw [Finset.sdiff_empty, duties_cell, duties_ss ℓ m hm, bigSep_singleton, payload_ss])) $$ Hpay
  rw [show (m + 2) / 2 = m / 2 + 1 by omega, show ssC c ℓ (m + 2) = ssC c ℓ m from congrArg (cell c) (ssK_add ℓ m)]
  isplitl [Hp]; · iexact Hp
  isplitl [Hr]; · iexact Hr
  iexists _; iexact HO

/-- The `n + 1`st wait for a credit: message `n` has been given back. -/
theorem wp_creditWait (c : Dev nD) (ℓ : Lane) (n : ℕ) (hn : n < 27) (O : Debt) (hO : Above (2 * n + 3) O) (k : Code F) (Q : PUnit → sProp 𝕄) :
    iprop(Know M K κ ∗ ccred c ℓ n ∗ cpos c ℓ n ∗ owesE c O)
      ⊢ iprop(((cpos c ℓ (n + 1) ∗ given (dstL ℓ c) ℓ n ∗ owesE c O) -∗ WP c k Q)
        -∗ WP c (creditWait ℓ.1 ℓ.2 1#32 k) Q) := by
  unfold creditWait owesE ccred cpos
  iintro ⟨#HK, Hc, ⟨%T, %hT, Hp, #HT⟩, %W, HO⟩ Hk
  iapply (Rounds.wp_wait 𝒱₀ ER (sched M) (c : Thread nD τ) none (sm := semOf (kCR ℓ)) (k' := 1) (κ := K (c, kCR ℓ))
      (wpE_semWait_eq 𝒱₀ (c : Thread nD τ) none Set.univ) (Set.mem_univ _) (cr := Finsupp.single (2 * n + 3) 1) (O := O) (W := W) {(semOf (kCR ℓ), 2 * n + 3)} (R := 0) (m := n) (T := T)
      (by rw [Util.total_single]) (image_single_subset _ _ _)) $$ [Hc HO Hp]
  · isplitr; · iapply (know_cell M K κ c (kCR ℓ)); iexact HK
    isplitl [Hc]; · iexact Hc
    isplitl [HO]; · iexact HO
    isplitr; · iapply (know_mayWait M K κ c _ (2 * n + 3) (by omega) hO); iexact HK
    iexact Hp
  iintro %S ⟨%hS, HO, Hp, Hpay⟩
  obtain ⟨hTS, hSd, hcard⟩ := hS
  rw [duties_cell, duties_cr] at hSd
  rw [duties_cell, duties_cr, expect_cr, Finset.card_sdiff_of_subset hSd, Finset.card_range] at hcard
  have hSc : S.card ≤ 30 := (Finset.card_le_card hSd).trans (by rw [Finset.card_range])
  have hnS : n + 1 ≤ S.card := by omega
  obtain ⟨d, hdS, hdn⟩ : ∃ d ∈ S, n ≤ d := by
    by_contra hno
    have : S ⊆ Finset.range n := fun d hd => Finset.mem_range.mpr (by
      by_contra hlt; exact hno ⟨d, hd, by omega⟩)
    have := Finset.card_le_card this
    rw [Finset.card_range] at this; omega
  ihave Hpay' := (Entails.of_eq (show bigSep (S \ T) (fun d => (sched M).payload (crC c ℓ) 0 d) = bigSep (S \ T) (crPay c ℓ) from
    bigSep_congr fun d _ => payload_cr M c ℓ 0 d)) $$ Hpay
  have eS : iprop(bigSep T (crPay (F := F) c ℓ) ∗ bigSep (S \ T) (crPay c ℓ)) = (bigSep S (crPay c ℓ) : sProp 𝕄) := (bigSep_cut hTS).symm
  ihave #HS := (Entails.of_eq eS) $$ [Hpay']
  · isplitr; · iexact HT
    iexact Hpay'
  iapply Hk
  isplitl [Hp]
  · iexists S; isplitr; · ipureintro; exact ⟨hSd, hnS⟩
    isplitl [Hp]; · iexact Hp
    iexact HS
  isplitr
  · ihave #Hd := (bigSep_mem hdS (Φ := crPay (F := F) c ℓ)) $$ HS
    unfold crPay
    iapply (bigSep_mem (show n ∈ Finset.range (min (d + 1) 27) from Finset.mem_range.mpr (by omega)) (Φ := fun e => given (F := F) (dstL ℓ c) ℓ e)) $$ Hd
  iexists _; iexact HO

/-- Crediting the neighbour with message `n`. -/
theorem wp_creditSignal (c : Dev nD) (ℓ : Lane) (n : ℕ) (hn : n < 30) (O : Debt) (k : Code F) (Q : PUnit → sProp 𝕄) :
    iprop(Know M K κ ∗ ctok c ℓ n ∗ gave c ℓ (n + 1) ∗ owesE c (O + dCrd c ℓ n))
      ⊢ iprop((owesE c O -∗ WP c k Q) -∗ WP c (creditSignal ℓ.1 ℓ.2 c k) Q) := by
  unfold creditSignal owesE ctok gave
  iintro ⟨#HK, Ht, #Hg, %W, HO⟩ Hk
  iapply (Rounds.wp_signal 𝒱₀ ER (sched M) (c : Thread nD τ) none (dst := (upsL ℓ c : Thread nD τ)) (κ := K (upsL ℓ c, kCR ℓ)) (k' := 1) (r := 0)
      (d := n) (by show n ∈ (sched M).duties (crC (upsL ℓ c) ℓ) 0; rw [duties_cell, duties_cr]; exact Finset.mem_range.mpr hn) (amount_cell M (upsL ℓ c) (kCR ℓ) 0 n) (2 * n + 3) O rfl) $$ [HO Ht]
  · isplitr; · iapply (know_cell M K κ (upsL ℓ c) (kCR ℓ)); iexact HK
    isplitl [HO]; · iexact HO
    isplitl [Ht]; · iexact Ht
    isplitr
    · iapply (Entails.of_eq (show (bigSep (Finset.range (min (n + 1) 27)) fun e => given c ℓ e) = (sched M).payload ((upsL ℓ c : Thread nD τ), .reg (crS ℓ.1 ℓ.2)) 0 n by
        refine Eq.trans ?_ (payload_cr M (upsL ℓ c) ℓ 0 n).symm; unfold crPay; rw [dst_ups])); iexact Hg
    iapply (know_reached M K κ (upsL ℓ c) (kCR ℓ)); iexact HK
  iintro HO
  iapply Hk
  iexists _; iexact HO

/-- Sending message `m`. -/
theorem wp_put (c : Dev nD) (ℓ : Lane) (m : ℕ) (hm : m ≤ 30) (O : Debt) (b : FVec F S128x256 .bf16) (hb : b = M ℓ m c) (k : Code F) (Q : PUnit → sProp 𝕄) :
    iprop(Know M K κ ∗ sany c ℓ m ∗ gate c ℓ m ∗ rtok c ℓ m ∗ wtok c ℓ m ∗ stok c ℓ m ∗ sreach c ℓ m ∗ owesE c (O + dMsg c ℓ m))
      ⊢ iprop(((scred c ℓ m ∗ owesE c O) -∗ WP c k Q)
        -∗ WP c (put ℓ.1 ℓ.2 c (m % 2) (two m) (m % 4) (four m) b k) Q) := by
  subst hb
  unfold put owesE sany sbAny slot gate stok sreach rtok scred
  iintro ⟨#HK, ⟨%f, Hs⟩, ⟨#Hrel, #Hrch⟩, Hrt, Hwt, Hst, #Hsr, %W, HO⟩ Hk
  iapply (wp_load_rect 𝒱₀ (c : Thread nD τ) none Set.univ (m := sbM ℓ.1) (r := sbRect ℓ.2 (m % 2) (two m))
    (Finset.subset_of_eq (sb_set ℓ.1 ℓ.2 (m % 2) (two m)).symm)) $$ Hs
  iintro Hs
  iapply (wp_store 𝒱₀ (c : Thread nD τ) none Set.univ (m := sbM ℓ.1) (r := sbRect ℓ.2 (m % 2) (two m)) (Mk := Finset.univ)
    (by rw [View.setOn_univ]; exact Finset.subset_of_eq (sb_set ℓ.1 ℓ.2 (m % 2) (two m)).symm)) $$ Hs
  iintro Hs
  unfold wtok
  imod (slot_take ES (S := rbAny (dstL ℓ c) ℓ ⟨m % 4, four m⟩) (Set.mem_univ (κ (slK (dstL ℓ c) ℓ m))) (m / 4 + 1)) $$ [Hwt] with Hd
  · isplitr; · iapply (know_slot M K κ (dstL ℓ c) ℓ ⟨m % 4, four m⟩); iexact HK
    isplitr; · iexact Hrel
    iexact Hwt
  unfold rbAny slot
  icases Hd with ⟨%fd, Hd⟩
  iapply (Rounds.wp_send_pointsTo 𝒱₀ ER (sched M) (c : Thread nD τ) none (c' := (dstL ℓ c : Thread nD τ)) (src := sbSlot ℓ.1 ℓ.2 (m % 2) (two m)) (dst := rbSlot ℓ.1 ℓ.2 (m % 4) (four m))
    (sS := semOf (ssK ℓ m)) (sem := semOf (rsK ℓ m)) (κ₁ := K (c, ssK ℓ m)) (κ₂ := K (dstL ℓ c, rsK ℓ m))
    (fs := ((sbM ℓ.1).access (sbRect ℓ.2 (m % 2) (two m))).write (Elt F) f (asSlot (M ℓ m c)) Finset.univ)
    (r₁ := m / 2) (r₂ := m / 4) (d₁ := 0) (d₂ := 0) (fd := fd)
    (by show 0 ∈ (sched M).duties (ssC c ℓ m) (m / 2); rw [duties_cell, duties_ss ℓ m hm]; exact Finset.mem_singleton_self _)
    (by show 0 ∈ (sched M).duties (rsC (dstL ℓ c) ℓ m) (m / 4); rw [duties_cell, duties_rs ℓ m hm]; exact Finset.mem_singleton_self _)
    (2 * m + 2) 0 N (credit_rb ℓ.1 ℓ.2 (m % 4) (four m)) (amount_cell M c (ssK ℓ m) (m / 2) 0) (amount_cell M (dstL ℓ c) (rsK ℓ m) (m / 4) 0) O rfl (W := W)
    (by
      show _ ⊢ (sched M).payload (ssC c ℓ m) (m / 2) 0
      rw [payload_ss]; unfold sbAny slot; iintro H; iexists _; iexact H)
    (by
      show _ ⊢ (sched M).payload (rsC (dstL ℓ c) ℓ m) (m / 4) 0
      rw [payload_rs, ups_dst]; unfold rbHas
      iintro H; iexists _; isplitr
      · ipureintro; exact read_sent ℓ.1 ℓ.2 (m % 2) (two m) (m % 4) (four m) f fd (asSlot (M ℓ m c))
      iexact H)) $$ [Hs Hd HO Hst Hrt]
  · isplitr; · iapply (know_cell M K κ c (ssK ℓ m)); iexact HK
    isplitr; · iapply (know_cell M K κ (dstL ℓ c) (rsK ℓ m)); iexact HK
    isplitl [Hs]; · iexact Hs
    isplitl [Hd]; · iexact Hd
    isplitl [HO]; · iexact HO
    isplitl [Hst]; · iexact Hst
    isplitr; · iexact Hsr
    isplitl [Hrt]; · iexact Hrt
    iexact Hrch
  iintro ⟨Hc, HO⟩
  iapply Hk
  isplitl [Hc]; · iexact Hc
  iexists _; iexact HO

end Rules

end Cert.Exchange

end
-- ==== Proof.Lane.lean ====
/-
# One lane, step by step

The messages' contents; what a device holds in a lane between two messages; and that each step of the loop, at a
symbolic device, lane and message, takes the one holding to the next.
-/
module

public import proofs.«01_k».proof.Proof.Moves

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The messages -/

/-- The block of the device's own product that joins message `s`; the one of `s = 31` joins the last message where
    the sum ends. `P d` is the product as device `d` keeps it. -/
def blk (P : Dev nD → partM.view.ty.Contents (Elt F)) (ℓ : Lane) (c : Dev nD) (s : ℕ) : FVec F S128x256 .bf16 :=
  if hs : s < 31 then (partM.access (partRect ℓ.1 ℓ.2 c s hs)).read (Elt F) (P c) else (partM.access (partRectE ℓ.1 ℓ.2 c)).read (Elt F) (P c)

/-- Message `s` of a lane as device `c` sends it: the message before, from its neighbour, plus its own block, rounded. -/
def msg (P : Dev nD → partM.view.ty.Contents (Elt F)) (ℓ : Lane) : ℕ → Dev nD → FVec F S128x256 .bf16
  | 0, c => blk P ℓ c 0
  | s + 1, c => truncf .bf16 (sumOf (asSlot (msg P ℓ s (upsL ℓ c))) (blk P ℓ c (s + 1))) bitsLt_bf16_f32

/-- The product on device `c`. -/
def partPts (P : Dev nD → partM.view.ty.Contents (Elt F)) (c : Dev nD) : sProp 𝕄 :=
  partM.view.loc (c : Thread nD τ) ↦[Finset.univ]{fullShare} P c

/-- The first write of each of a lane's landing slots on the neighbour is open. -/
def open1 (c : Dev nD) (ℓ : Lane) : sProp 𝕄 := bigSep Finset.univ fun q : Fin 4 => released ES (dstL ℓ c, ℓ, q) 1
omit [FloatOps F] in
instance open1_persistent (c : Dev nD) (ℓ : Lane) : BI.Persistent (open1 (F := F) c ℓ) := by unfold open1; infer_instance

/-- What a device holds in a lane before it sends message `t`. -/
def State (c : Dev nD) (ℓ : Lane) (t : ℕ) : sProp 𝕄 :=
  iprop(bigSep (Finset.Ico (t - 1) 31) (rcred c ℓ) ∗ bigSep (Finset.Ico (t - 1) (t - 1 + 4)) (rpos c ℓ)
    ∗ bigSep (Finset.Ico (t - 1) (t - 1 + 4)) (rdr c ℓ) ∗ bigSep (Finset.Ico 27 (t - 1)) (kept c ℓ) ∗ gave c ℓ (t - 1)
    ∗ bigSep (Finset.Ico t 31) (rtok c ℓ) ∗ bigSep (Finset.Ico t 31) (wtok c ℓ) ∗ bigSep (Finset.Ico t 31) (stok c ℓ)
    ∗ bigSep (Finset.Ico (t - 2) (t - 2 + 2)) (spos c ℓ) ∗ bigSep (Finset.Ico (t - 2) t) (scred c ℓ) ∗ bigSep (Finset.Ico t 2) (sany c ℓ)
    ∗ bigSep (Finset.Ico (t - 1) 30) (ctok c ℓ) ∗ bigSep (Finset.Ico (t - 4) 30) (ccred c ℓ) ∗ cpos c ℓ (t - 4))

section Steps

variable (P : Dev nD → partM.view.ty.Contents (Elt F)) (K : Dev nD × Key → ℕ) (κ : SKey → ℕ)

theorem wp_partLoad (c : Dev nD) (ℓ : Lane) (s : ℕ) (hs : s < 31) (k : Vec F S128x256 .bf16 → Code F) (Q : PUnit → sProp 𝕄) :
    partPts P c ⊢ iprop((partPts P c -∗ WP c (k (blk P ℓ c s)) Q) -∗ WP c (partLoad ℓ.1 ℓ.2 c s hs k) Q) := by
  unfold partPts partLoad blk
  rw [dif_pos hs]
  iintro H Hk
  iapply (wp_load_rect 𝒱₀ (c : Thread nD τ) none Set.univ (m := partM) (r := partRect ℓ.1 ℓ.2 c s hs) (Finset.subset_univ _)) $$ H
  iexact Hk

/-- Message 0: the device's own block. -/
theorem wp_step_zero (c : Dev nD) (ℓ : Lane) (hs : 0 < 31) (X : Debt) (k : Code F) (Q : PUnit → sProp 𝕄) :
    iprop(Know (msg P) K κ ∗ open1 c ℓ ∗ partPts P c ∗ State c ℓ 0 ∗ owesE c (X + debt c ℓ 0))
      ⊢ iprop(((partPts P c ∗ State c ℓ 1 ∗ owesE c (X + debt c ℓ 1)) -∗ WP c k Q) -∗ WP c (step ℓ.1 ℓ.2 c 0 hs k) Q) := by
  unfold step State
  rw [debt_zero, ← add_assoc]
  simp only [Nat.zero_sub, Nat.sub_self, Nat.zero_add, show 1 - 2 = 0 from rfl, show 1 - 4 = 0 from rfl]
  rw [bigSep_Ico_succ_bot (show 0 < 31 by omega) (rtok (F := F) c ℓ), bigSep_Ico_succ_bot (show 0 < 31 by omega) (wtok (F := F) c ℓ), bigSep_Ico_succ_bot (show 0 < 31 by omega) (stok (F := F) c ℓ),
    bigSep_Ico_succ_bot (show 0 < 2 by omega) (sany (F := F) c ℓ), show Finset.Ico 0 0 = ∅ from Finset.Ico_self 0, bigSep_empty, bigSep_Ico_one 0 (scred (F := F) c ℓ)]
  iintro ⟨#HK, #Ho, Hp, ⟨Hrc, Hrp, Hrd, Hkp, Hgv, ⟨Hrt, Hrts⟩, ⟨Hwt, Hwts⟩, ⟨Hst, Hsts⟩, Hsp, -, ⟨Hs0, Hs1⟩, Hct, Hcc, Hcp⟩, HO⟩ Hk
  iapply (wp_partLoad P c ℓ 0 hs) $$ Hp
  iintro Hp
  iapply (wp_put (msg P) K κ c ℓ 0 (Nat.zero_le _) (X + debt c ℓ 1) (blk P ℓ c 0) rfl) $$ [Hs0 Hrt Hwt Hst HO]
  · isplitr; · iexact HK
    isplitl [Hs0]; · iexact Hs0
    isplitr
    · unfold gate open1
      isplitr; · iapply (bigSep_mem (Finset.mem_univ (0 : Fin 4)) (Φ := fun q : Fin 4 => (released ES (dstL ℓ c, ℓ, q) 1 : sProp 𝕄))) $$ Ho
      iapply (know_reached (msg P) K κ (dstL ℓ c) (rsK ℓ 0)); iexact HK
    isplitl [Hrt]; · iexact Hrt
    isplitl [Hwt]; · iexact Hwt
    isplitl [Hst]; · iexact Hst
    isplitr; · unfold sreach; iapply (know_reached (msg P) K κ c (ssK ℓ 0)); iexact HK
    iexact HO
  iintro ⟨Hsc, HO⟩
  iapply Hk
  isplitl [Hp]; · iexact Hp
  isplitr [HO]
  · isplitl [Hrc]; · iexact Hrc
    isplitl [Hrp]; · iexact Hrp
    isplitl [Hrd]; · iexact Hrd
    isplitl [Hkp]; · iexact Hkp
    isplitl [Hgv]; · iexact Hgv
    isplitl [Hrts]; · iexact Hrts
    isplitl [Hwts]; · iexact Hwts
    isplitl [Hsts]; · iexact Hsts
    isplitl [Hsp]; · iexact Hsp
    isplitl [Hsc]; · iexact Hsc
    isplitl [Hs1]; · iexact Hs1
    isplitl [Hct]; · iexact Hct
    isplitl [Hcc]; · iexact Hcc
    iexact Hcp
  iexact HO

omit [FloatOps F] in
/-- A window of `n` indices moved on by one: its first is gone, the next after its last is in. -/
theorem window (a n : ℕ) (Φ : ℕ → sProp 𝕄) :
    bigSep (Finset.Ico a (a + (n + 1))) Φ = iprop(Φ a ∗ bigSep (Finset.Ico (a + 1) (a + (n + 1))) Φ)
      ∧ bigSep (Finset.Ico (a + 1) (a + 1 + (n + 1))) Φ = iprop(Φ (a + (n + 1)) ∗ bigSep (Finset.Ico (a + 1) (a + (n + 1))) Φ) :=
  ⟨bigSep_Ico_succ_bot (by omega) Φ, by rw [show a + 1 + (n + 1) = a + (n + 1) + 1 by omega]; exact bigSep_Ico_succ_top (by omega) Φ⟩

/-- After message `s` has been read its slot is given back, if it is used again; else it is kept. -/
theorem give_back (M : Lane → ℕ → Dev nD → FVec F S128x256 .bf16) (c : Dev nD) (ℓ : Lane) (s : ℕ) :
    iprop(Know M K κ ∗ bigSep (Finset.Ico s (s + 4)) (rdr c ℓ) ∗ rbAny c ℓ ⟨s % 4, four s⟩ ∗ reached ER (rsC c ℓ s) (s / 4 + 1) ∗ bigSep (Finset.Ico 27 s) (kept c ℓ) ∗ gave c ℓ s)
      ⊢ (iprop(|={Set.univ}[frame]=> (bigSep (Finset.Ico (s + 1) (s + 1 + 4)) (rdr c ℓ) ∗ bigSep (Finset.Ico 27 (s + 1)) (kept c ℓ) ∗ gave c ℓ (s + 1))) : sProp 𝕄) := by
  rw [(window s 3 (rdr (F := F) c ℓ)).1, (window s 3 (rdr (F := F) c ℓ)).2]
  unfold gave
  rcases Nat.lt_or_ge s 27 with h | h
  · rw [show min (s + 1) 27 = s + 1 by omega, show min s 27 = s by omega, bigSep_range_succ, Finset.Ico_eq_empty (show ¬ 27 < s by omega), Finset.Ico_eq_empty (show ¬ 27 < s + 1 by omega),
      bigSep_empty]
    have e1 : rdr (F := F) c ℓ s = readerAt ES (slK c ℓ s) (s / 4 + 1) := if_pos (by omega)
    have e2 : rdr (F := F) c ℓ (s + 4) = readerAt ES (slK c ℓ s) (s / 4 + 2) := by
      unfold rdr; rw [if_pos (by omega), slK_add, show (s + 4) / 4 + 1 = s / 4 + 2 by omega]
    rw [e1, e2]
    iintro ⟨#HK, ⟨Hr, Hrs⟩, Hb, #Hc, -, Hg⟩
    imod (slot_release ES (S := rbAny c ℓ ⟨s % 4, four s⟩) (n := s / 4 + 1) (Set.mem_univ (κ (slK c ℓ s))) (rbAny_excl c ℓ _)) $$ [Hr Hb] with ⟨Hr, #Hrel⟩
    · isplitr; · iapply (know_slot M K κ c ℓ ⟨s % 4, four s⟩); iexact HK
      isplitl [Hr]; · iexact Hr
      iexact Hb
    imodintro
    isplitl [Hr Hrs]
    · isplitl [Hr]; · iexact Hr
      iexact Hrs
    isplitr; · iempintro
    isplitr
    · unfold given; isplitr; · iexact Hrel
      iexact Hc
    iexact Hg
  · rw [show min (s + 1) 27 = 27 by omega, show min s 27 = 27 by omega, bigSep_Ico_succ_top h]
    have e2 : rdr (F := F) c ℓ (s + 4) = iprop(emp) := if_neg (by omega)
    rw [e2]
    iintro ⟨#HK, ⟨-, Hrs⟩, Hb, -, Hk, Hg⟩
    imodintro
    isplitl [Hrs]; · isplitr; · iempintro
                     iexact Hrs
    isplitl [Hb Hk]
    · isplitl [Hb]; · unfold kept; iexact Hb
      iexact Hk
    iexact Hg

/-- Before message `s + 1` the device waits for the credit its slot needs, if the slot has been used. -/
theorem wp_gate (M : Lane → ℕ → Dev nD → FVec F S128x256 .bf16) (c : Dev nD) (ℓ : Lane) (s : ℕ) (hs : s < 30) (O : Debt) (hO : Above (2 * (s + 1)) O) (k : Code F) (Q : PUnit → sProp 𝕄) :
    iprop(Know M K κ ∗ open1 c ℓ ∗ bigSep (Finset.Ico (s - 3) 30) (ccred c ℓ) ∗ cpos c ℓ (s - 3) ∗ owesE c O)
      ⊢ iprop(((gate c ℓ (s + 1) ∗ bigSep (Finset.Ico (s - 2) 30) (ccred c ℓ) ∗ cpos c ℓ (s - 2) ∗ owesE c O) -∗ WP c k Q)
        -∗ WP c ((if 3 ≤ s then creditWait ℓ.1 ℓ.2 1#32 else id) k) Q) := by
  rcases Nat.lt_or_ge s 3 with h | h
  · rw [if_neg (by omega), show s - 3 = 0 by omega, show s - 2 = 0 by omega]
    iintro ⟨#HK, #Ho, Hc, Hp, HO⟩ Hk
    iapply Hk
    isplitr
    · unfold gate open1
      rw [show (s + 1) / 4 = 0 by omega]
      isplitr; · iapply (bigSep_mem (Finset.mem_univ (⟨(s + 1) % 4, four (s + 1)⟩ : Fin 4)) (Φ := fun q : Fin 4 => (released ES (dstL ℓ c, ℓ, q) 1 : sProp 𝕄))) $$ Ho
      iapply (know_reached M K κ (dstL ℓ c) (rsK ℓ (s + 1))); iexact HK
    isplitl [Hc]; · iexact Hc
    isplitl [Hp]; · iexact Hp
    iexact HO
  · obtain ⟨n, rfl⟩ := Nat.exists_eq_add_of_le' h
    rw [if_pos h, show n + 3 - 3 = n by omega, show n + 3 - 2 = n + 1 by omega, bigSep_Ico_succ_bot (show n < 30 by omega)]
    iintro ⟨#HK, #Ho, ⟨Hc, Hcs⟩, Hp, HO⟩ Hk
    iapply (wp_creditWait M K κ c ℓ n (by omega) O (hO.mono (by omega))) $$ [Hc Hp HO]
    · isplitr; · iexact HK
      isplitl [Hc]; · iexact Hc
      isplitl [Hp]; · iexact Hp
      iexact HO
    iintro ⟨Hp, #Hg, HO⟩
    iapply Hk
    isplitr
    · unfold gate given
      rw [show (n + 3 + 1) / 4 = n / 4 + 1 by omega, show slK (dstL ℓ c) ℓ (n + 3 + 1) = slK (dstL ℓ c) ℓ n from slK_add _ _ _,
        show rsC (dstL ℓ c) ℓ (n + 3 + 1) = rsC (dstL ℓ c) ℓ n from congrArg (cell _) (rsK_add _ _)]
      iexact Hg
    isplitl [Hcs]; · iexact Hcs
    isplitl [Hp]; · iexact Hp
    iexact HO

/-- Before message `s + 1` the device waits for the send that last used the send slot, if there was one. -/
theorem wp_free (M : Lane → ℕ → Dev nD → FVec F S128x256 .bf16) (c : Dev nD) (ℓ : Lane) (s : ℕ) (hs : s < 30) (O : Debt) (hO : Above (2 * (s + 1)) O) (k : Code F) (Q : PUnit → sProp 𝕄) :
    iprop(Know M K κ ∗ bigSep (Finset.Ico (s - 1) (s - 1 + 2)) (spos c ℓ) ∗ bigSep (Finset.Ico (s - 1) (s + 1)) (scred c ℓ) ∗ bigSep (Finset.Ico (s + 1) 2) (sany c ℓ) ∗ owesE c O)
      ⊢ iprop(((sany c ℓ (s + 1) ∗ sreach c ℓ (s + 1) ∗ bigSep (Finset.Ico s (s + 2)) (spos c ℓ) ∗ bigSep (Finset.Ico s (s + 1)) (scred c ℓ) ∗ bigSep (Finset.Ico (s + 2) 2) (sany c ℓ) ∗ owesE c O)
          -∗ WP c k Q)
        -∗ WP c ((if 1 ≤ s then sendWait ℓ.1 ℓ.2 ((s + 1) % 2) (two _) ((s + 3) % 4) (four _) else id) k) Q) := by
  rcases s with _ | r
  · rw [if_neg (by omega)]
    simp only [Nat.zero_sub, Nat.zero_add]
    rw [bigSep_Ico_succ_bot (show 1 < 2 by omega) (sany (F := F) c ℓ)]
    iintro ⟨#HK, Hp, Hc, ⟨Hs, Hss⟩, HO⟩ Hk
    iapply Hk
    isplitl [Hs]; · iexact Hs
    isplitr; · unfold sreach; iapply (know_reached M K κ c (ssK ℓ 1)); iexact HK
    isplitl [Hp]; · iexact Hp
    isplitl [Hc]; · iexact Hc
    isplitl [Hss]; · iexact Hss
    iexact HO
  · rw [if_pos (by omega), show r + 1 - 1 = r by omega, (window r 1 (spos (F := F) c ℓ)).1, show r + 1 + 2 = r + 1 + (1 + 1) from rfl, (window r 1 (spos (F := F) c ℓ)).2,
      bigSep_Ico_succ_bot (show r < r + 1 + 1 by omega) (scred (F := F) c ℓ), Finset.Ico_eq_empty (show ¬ r + 1 + (1 + 1) < 2 by omega), Finset.Ico_eq_empty (show ¬ r + 1 + 1 < 2 by omega), bigSep_empty]
    iintro ⟨#HK, ⟨Hp, Hps⟩, ⟨Hc, Hcs⟩, -, HO⟩ Hk
    iapply (wp_sendWait M K κ c ℓ r (by omega) ((r + 1 + 1) % 2) (two _) (by omega) ((r + 1 + 3) % 4) (four _) O (hO.mono (by omega))) $$ [Hc Hp HO]
    · isplitr; · iexact HK
      isplitl [Hc]; · iexact Hc
      isplitl [Hp]; · iexact Hp
      iexact HO
    iintro ⟨Hs, Hp, #Hr, HO⟩
    iapply Hk
    isplitl [Hs]
    · have e : sany (F := F) c ℓ (r + 1 + 1) = sany c ℓ r := by
        unfold sany; exact congrArg (sbAny c ℓ) (Fin.ext (Nat.add_mod_right r 2))
      rw [e]; iexact Hs
    isplitr; · iexact Hr
    isplitl [Hp Hps]
    · isplitl [Hp]; · iexact Hp
      iexact Hps
    isplitl [Hcs]; · iexact Hcs
    isplitr; · iempintro
    iexact HO

/-- Message `s + 1`, from message `s` to its being sent. -/
theorem wp_step_succ (c : Dev nD) (ℓ : Lane) (s : ℕ) (hs : s + 1 < 31) (X : Debt) (hX : Above (2 * (s + 1)) X) (k : Code F) (Q : PUnit → sProp 𝕄) :
    iprop(Know (msg P) K κ ∗ open1 c ℓ ∗ partPts P c ∗ State c ℓ (s + 1) ∗ owesE c (X + debt c ℓ (s + 1)))
      ⊢ iprop(((partPts P c ∗ State c ℓ (s + 2) ∗ owesE c (X + debt c ℓ (s + 2))) -∗ WP c k Q) -∗ WP c (step ℓ.1 ℓ.2 c (s + 1) hs k) Q) := by
  have hO₁ : Above (2 * s + 2) (X + debt c ℓ (s + 1)) := above_add hX (debt_above c ℓ (s + 1))
  have hO₂ : Above (2 * (s + 1)) (X + debt c ℓ (s + 2) + dMsg c ℓ (s + 1)) :=
    above_add (above_add hX ((debt_above c ℓ (s + 2)).mono (by omega))) (above_tally _ _ _ _ (by omega) (by omega))
  have eO : X + debt c ℓ (s + 1) = X + debt c ℓ (s + 2) + dMsg c ℓ (s + 1) + dCrd c ℓ s := by
    rw [debt_succ c ℓ s (by omega), add_assoc, add_assoc, add_assoc]
  unfold step State
  simp only [show s + 1 - 1 = s from rfl, show s + 1 - 2 = s - 1 from rfl, show s + 1 - 4 = s - 3 from rfl, show s + 2 - 1 = s + 1 from rfl, show s + 2 - 2 = s from rfl, show s + 2 - 4 = s - 2 from rfl]
  rw [bigSep_Ico_succ_bot (show s < 31 by omega) (rcred (F := F) c ℓ), (window s 3 (rpos (F := F) c ℓ)).1, (window s 3 (rpos (F := F) c ℓ)).2,
    bigSep_Ico_succ_bot (show s + 1 < 31 by omega) (rtok (F := F) c ℓ), bigSep_Ico_succ_bot (show s + 1 < 31 by omega) (wtok (F := F) c ℓ), bigSep_Ico_succ_bot (show s + 1 < 31 by omega) (stok (F := F) c ℓ),
    bigSep_Ico_succ_bot (show s < 30 by omega) (ctok (F := F) c ℓ), bigSep_Ico_succ_top (show s ≤ s + 1 by omega) (scred (F := F) c ℓ)]
  iintro ⟨#HK, #Ho, HP, ⟨⟨Hrc, Hrcs⟩, ⟨Hrp, Hrps⟩, Hrd, Hkp, Hgv, ⟨Hrt, Hrts⟩, ⟨Hwt, Hwts⟩, ⟨Hst, Hsts⟩, Hsp, Hsc, Hsa, ⟨Hct, Hcts⟩, Hcc, Hcp⟩, HO⟩ Hk
  iapply (wp_recvWait (msg P) K κ c ℓ s (by omega) (s % 2) (two s) _ hO₁) $$ [Hrc Hrp HO]
  · isplitr; · iexact HK
    isplitl [Hrc]; · iexact Hrc
    isplitl [Hrp]; · iexact Hrp
    iexact HO
  iintro ⟨Hb, Hrp, #Hrr, HO⟩
  iapply (wp_rbLoad c ℓ ⟨s % 4, four s⟩ (msg P ℓ s (upsL ℓ c))) $$ Hb
  iintro Hb
  ihave Hb := (rbHas_any c ℓ ⟨s % 4, four s⟩ (msg P ℓ s (upsL ℓ c))) $$ Hb
  iapply (wp_partLoad P c ℓ (s + 1) hs) $$ HP
  iintro HP
  imod (give_back K κ (msg P) c ℓ s) $$ [Hrd Hb Hkp Hgv] with ⟨Hrd, Hkp, #Hgv⟩
  · isplitr; · iexact HK
    isplitl [Hrd]; · iexact Hrd
    isplitl [Hb]; · iexact Hb
    isplitr; · iexact Hrr
    isplitl [Hkp]; · iexact Hkp
    iexact Hgv
  rw [eO]
  iapply (wp_creditSignal (msg P) K κ c ℓ s (by omega) _) $$ [Hct HO]
  · isplitr; · iexact HK
    isplitl [Hct]; · iexact Hct
    isplitr; · iexact Hgv
    iexact HO
  iintro HO
  iapply (wp_gate K κ (msg P) c ℓ s (by omega) _ hO₂) $$ [Hcc Hcp HO]
  · isplitr; · iexact HK
    isplitr; · iexact Ho
    isplitl [Hcc]; · iexact Hcc
    isplitl [Hcp]; · iexact Hcp
    iexact HO
  iintro ⟨#Hg, Hcc, Hcp, HO⟩
  iapply (wp_free K κ (msg P) c ℓ s (by omega) _ hO₂) $$ [Hsp Hsc Hsa HO]
  · isplitr; · iexact HK
    isplitl [Hsp]; · iexact Hsp
    isplitl [Hsc]; · iexact Hsc
    isplitl [Hsa]; · iexact Hsa
    iexact HO
  iintro ⟨Hs, #Hsr, Hsp, Hscs, Hsa, HO⟩
  iapply (wp_put (msg P) K κ c ℓ (s + 1) (by omega) (X + debt c ℓ (s + 2)) _ rfl) $$ [Hs Hrt Hwt Hst HO]
  · isplitr; · iexact HK
    isplitl [Hs]; · iexact Hs
    isplitr; · iexact Hg
    isplitl [Hrt]; · iexact Hrt
    isplitl [Hwt]; · iexact Hwt
    isplitl [Hst]; · iexact Hst
    isplitr; · iexact Hsr
    iexact HO
  iintro ⟨Hsc, HO⟩
  iapply Hk
  isplitl [HP]; · iexact HP
  isplitr [HO]
  · isplitl [Hrcs]; · iexact Hrcs
    isplitl [Hrp Hrps]
    · isplitl [Hrp]; · iexact Hrp
      iexact Hrps
    isplitl [Hrd]; · iexact Hrd
    isplitl [Hkp]; · iexact Hkp
    isplitr; · iexact Hgv
    isplitl [Hrts]; · iexact Hrts
    isplitl [Hwts]; · iexact Hwts
    isplitl [Hsts]; · iexact Hsts
    isplitl [Hsp]; · iexact Hsp
    isplitl [Hsc Hscs]
    · isplitl [Hsc]; · iexact Hsc
      iexact Hscs
    isplitl [Hsa]; · iexact Hsa
    isplitl [Hcts]; · iexact Hcts
    isplitl [Hcc]; · iexact Hcc
    iexact Hcp
  iexact HO

end Steps

end Cert.Exchange

end
-- ==== Proof.Loop.lean ====
/-
# All lanes together

The steps of the eight lanes one after another, the loop of 31 of them, and the end of each lane.
-/
module

public import proofs.«01_k».proof.Proof.Lane

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- The lanes in the order the program runs them. -/
def lanes : List Lane := [(.R, 0), (.R, 1), (.R, 2), (.R, 3), (.L, 0), (.L, 1), (.L, 2), (.L, 3)]

theorem lanes_univ : (Finset.univ : Finset Lane) = lanes.toFinset := by decide
theorem lanes_nodup : lanes.Nodup := by decide

/-- What is held in each of the lanes of a list. -/
def laneSep (Φ : Lane → sProp 𝕄) : List Lane → sProp 𝕄
  | [] => iprop(emp)
  | ℓ :: ls => iprop(Φ ℓ ∗ laneSep Φ ls)

omit [FloatOps F] in
theorem laneSep_eq (Φ : Lane → sProp 𝕄) : ∀ ls : List Lane, ls.Nodup → laneSep Φ ls = bigSep ls.toFinset Φ
  | [], _ => by rw [List.toFinset_nil, bigSep_empty]; rfl
  | ℓ :: ls, h => by
    rw [List.toFinset_cons, bigSep_insert (by rw [List.mem_toFinset]; exact (List.nodup_cons.mp h).1), ← laneSep_eq Φ ls (List.nodup_cons.mp h).2]; rfl
omit [FloatOps F] in
theorem laneSep_lanes (Φ : Lane → sProp 𝕄) : laneSep Φ lanes = bigSep Finset.univ Φ := by
  rw [laneSep_eq Φ lanes lanes_nodup, ← lanes_univ]

/-- What is owed in the lanes of a list. -/
def laneSum (D : Lane → Debt) : List Lane → Debt
  | [] => 0
  | ℓ :: ls => laneSum D ls + D ℓ

theorem laneSum_above {b : ℕ} {D : Lane → Debt} (h : ∀ ℓ, Above b (D ℓ)) : ∀ ls, Above b (laneSum D ls)
  | [] => above_zero b
  | ℓ :: ls => above_add (laneSum_above h ls) (h ℓ)
theorem laneSum_lanes (D : Lane → Debt) : laneSum D lanes = ∑ ℓ, D ℓ := by
  have gen : ∀ ls : List Lane, ls.Nodup → laneSum D ls = ∑ ℓ ∈ ls.toFinset, D ℓ := by
    intro ls; induction ls with
    | nil => intro _; rfl
    | cons ℓ ls ih =>
      intro h
      rw [List.toFinset_cons, Finset.sum_insert (by rw [List.mem_toFinset]; exact (List.nodup_cons.mp h).1), ← ih (List.nodup_cons.mp h).2, add_comm]; rfl
  rw [gen lanes lanes_nodup, ← lanes_univ]
theorem laneSum_zero {D : Lane → Debt} (h : ∀ ℓ, D ℓ = 0) : ∀ ls, laneSum D ls = 0
  | [] => rfl
  | ℓ :: ls => by show laneSum D ls + D ℓ = 0; rw [laneSum_zero h ls, h ℓ, add_zero]

section Rules

variable (P : Dev nD → partM.view.ty.Contents (Elt F)) (K : Dev nD × Key → ℕ) (κ : SKey → ℕ)

/-- All the landing slots on the neighbours are open for a first write. -/
def opens (c : Dev nD) : sProp 𝕄 := bigSep Finset.univ (open1 c)
omit [FloatOps F] in
instance opens_persistent (c : Dev nD) : BI.Persistent (opens (F := F) c) := by unfold opens; infer_instance

/-- A step of a lane. -/
theorem wp_step (c : Dev nD) (ℓ : Lane) (t : ℕ) (ht : t < 31) (X : Debt) (hX : Above (2 * t) X) (k : Code F) (Q : PUnit → sProp 𝕄) :
    iprop(Know (msg P) K κ ∗ opens c ∗ partPts P c ∗ State c ℓ t ∗ owesE c (X + debt c ℓ t))
      ⊢ iprop(((partPts P c ∗ State c ℓ (t + 1) ∗ owesE c (X + debt c ℓ (t + 1))) -∗ WP c k Q) -∗ WP c (step ℓ.1 ℓ.2 c t ht k) Q) := by
  rcases t with _ | s
  · iintro ⟨HK, Ho, H⟩
    iapply (wp_step_zero P K κ c ℓ ht X k Q)
    isplitl [HK]; · iexact HK
    isplitl [Ho]; · unfold opens; iapply (bigSep_mem (Finset.mem_univ ℓ) (Φ := open1 (F := F) c)) $$ Ho
    iexact H
  · iintro ⟨HK, Ho, H⟩
    iapply (wp_step_succ P K κ c ℓ s ht X hX k Q)
    isplitl [HK]; · iexact HK
    isplitl [Ho]; · unfold opens; iapply (bigSep_mem (Finset.mem_univ ℓ) (Φ := open1 (F := F) c)) $$ Ho
    iexact H

/-- A step of each lane of a list. -/
def stepsOf (c : Dev nD) (s : ℕ) (hs : s < 31) (k : Code F) : List Lane → Code F
  | [] => k
  | ℓ :: ls => step ℓ.1 ℓ.2 c s hs (stepsOf c s hs k ls)

theorem steps_eq (c : Dev nD) (s : ℕ) (hs : s < 31) (k : Code F) : steps c s hs k = stepsOf c s hs k lanes := rfl

theorem wp_stepsOf (c : Dev nD) (t : ℕ) (ht : t < 31) (k : Code F) (Q : PUnit → sProp 𝕄) : ∀ (ls : List Lane) (X : Debt), Above (2 * t) X →
    iprop(Know (msg P) K κ ∗ opens c ∗ partPts P c ∗ laneSep (fun ℓ => State c ℓ t) ls ∗ owesE c (X + laneSum (fun ℓ => debt c ℓ t) ls))
      ⊢ iprop(((partPts P c ∗ laneSep (fun ℓ => State c ℓ (t + 1)) ls ∗ owesE c (X + laneSum (fun ℓ => debt c ℓ (t + 1)) ls)) -∗ WP c k Q) -∗ WP c (stepsOf c t ht k ls) Q)
  | [], X, hX => by
    unfold stepsOf laneSep laneSum
    iintro ⟨-, -, H⟩ Hk
    iapply Hk; iexact H
  | ℓ :: ls, X, hX => by
    unfold stepsOf laneSep laneSum
    iintro ⟨#HK, #Ho, HP, ⟨Hs, Hss⟩, HO⟩ Hk
    rw [← add_assoc]
    iapply (wp_step P K κ c ℓ t ht (X + laneSum (fun ℓ => debt c ℓ t) ls) (above_add hX (laneSum_above (fun ℓ => debt_above c ℓ t) ls))) $$ [HP Hs HO]
    · isplitr; · iexact HK
      isplitr; · iexact Ho
      isplitl [HP]; · iexact HP
      isplitl [Hs]; · iexact Hs
      iexact HO
    iintro ⟨HP, Hs, HO⟩
    rw [add_right_comm]
    iapply (wp_stepsOf c t ht k Q ls (X + debt c ℓ (t + 1)) (above_add hX ((debt_above c ℓ (t + 1)).mono (by omega)))) $$ [HP Hss HO]
    · isplitr; · iexact HK
      isplitr; · iexact Ho
      isplitl [HP]; · iexact HP
      isplitl [Hss]; · iexact Hss
      iexact HO
    iintro ⟨HP, Hss, HO⟩
    iapply Hk
    isplitl [HP]; · iexact HP
    isplitl [Hs Hss]
    · isplitl [Hs]; · iexact Hs
      iexact Hss
    rw [← add_assoc, add_right_comm]
    iexact HO

/-- The loop. -/
theorem wp_loop (c : Dev nD) (k : Code F) (Q : PUnit → sProp 𝕄) : ∀ (n s : ℕ) (h : n + s = 31),
    iprop(Know (msg P) K κ ∗ opens c ∗ partPts P c ∗ laneSep (fun ℓ => State c ℓ s) lanes ∗ owesE c (laneSum (fun ℓ => debt c ℓ s) lanes))
      ⊢ iprop(((partPts P c ∗ laneSep (fun ℓ => State c ℓ 31) lanes ∗ owesE c 0) -∗ WP c k Q) -∗ WP c (loop c n s h k) Q)
  | 0, s, h => by
    obtain rfl : s = 31 := by omega
    unfold loop
    rw [laneSum_zero (fun ℓ => debt_end c ℓ)]
    iintro ⟨-, -, H⟩ Hk
    iapply Hk; iexact H
  | n + 1, s, h => by
    unfold loop
    rw [steps_eq, ← zero_add (laneSum (fun ℓ => debt c ℓ s) lanes)]
    iintro ⟨#HK, #Ho, H⟩ Hk
    iapply (wp_stepsOf P K κ c s _ _ Q lanes 0 (above_zero _)) $$ [H]
    · isplitr; · iexact HK
      isplitr; · iexact Ho
      iexact H
    iintro H
    rw [zero_add]
    iapply (wp_loop c k Q n (s + 1) _) $$ [H]
    · isplitr; · iexact HK
      isplitr; · iexact Ho
      iexact H
    iexact Hk

/-! ## The end of a lane -/

/-- What a lane adds up to on device `c`: the last message it receives plus its own block. -/
def outVal (ℓ : Lane) (c : Dev nD) : FVec F S128x256 .f32 := sumOf (asSlot (msg P ℓ 30 (upsL ℓ c))) (blk P ℓ c 31)

/-- The result with a lane's block in its place. -/
def outPut (c : Dev nD) (f : outM.view.ty.Contents (Elt F)) (ℓ : Lane) : outM.view.ty.Contents (Elt F) :=
  (outM.access (outRect ℓ.1 ℓ.2)).write (Elt F) f (outVal P ℓ c) Finset.univ

def outPts (c : Dev nD) (f : outM.view.ty.Contents (Elt F)) : sProp 𝕄 := outM.view.loc (c : Thread nD τ) ↦[Finset.univ]{fullShare} f

/-- What a device holds in a lane at the end: all slots, and its positions past every round of the lane's cells. -/
def Done (c : Dev nD) (ℓ : Lane) : sProp 𝕄 :=
  iprop(bigSep (Finset.Ico 27 31) (kept c ℓ) ∗ bigSep (Finset.Ico 29 31) (sany c ℓ)
    ∗ bigSep (Finset.Ico 31 (31 + 4)) (rpos c ℓ) ∗ bigSep (Finset.Ico 31 (31 + 2)) (spos c ℓ) ∗ atPos ER (crC c ℓ) 1 ∅ 0)

omit [FloatOps F] in
theorem cred_two (a b : Debt) : (cred (a + b) : sProp 𝕄) = iprop(cred a ∗ cred b) := BI.Entails.antisymm (cred_add a b).1 (cred_add a b).2

/-- The wait for the last three credits. -/
theorem wp_lastCredits (M : Lane → ℕ → Dev nD → FVec F S128x256 .bf16) (c : Dev nD) (ℓ : Lane) (k : Code F) (Q : PUnit → sProp 𝕄) :
    iprop(Know M K κ ∗ bigSep (Finset.Ico 27 30) (ccred c ℓ) ∗ cpos c ℓ 27 ∗ owesE c 0)
      ⊢ iprop(((atPos ER (crC c ℓ) 1 ∅ 0 ∗ owesE c 0) -∗ WP c k Q) -∗ WP c (creditWait ℓ.1 ℓ.2 3#32 k) Q) := by
  have e3 : bigSep (Finset.Ico 27 30) (ccred (F := F) c ℓ)
      = (cred (tallyOn (crC c ℓ) (Finsupp.single 57 1 + Finsupp.single 59 1 + Finsupp.single 61 1)) : sProp 𝕄) := by
    rw [tallyOn_add, tallyOn_add, cred_two, cred_two, bigSep_Ico_succ_top (show 27 ≤ 29 by omega), bigSep_Ico_succ_top (show 27 ≤ 28 by omega), bigSep_Ico_one]
    show iprop(ccred c ℓ 29 ∗ ccred c ℓ 28 ∗ ccred c ℓ 27) = iprop((ccred c ℓ 27 ∗ ccred c ℓ 28) ∗ ccred c ℓ 29)
    refine BI.Entails.antisymm ?_ ?_
    · show iprop(ccred c ℓ 29 ∗ ccred c ℓ 28 ∗ ccred c ℓ 27) ⊢ iprop((ccred c ℓ 27 ∗ ccred c ℓ 28) ∗ ccred c ℓ 29)
      iintro ⟨H1, H2, H3⟩; isplitl [H2 H3]
      · isplitl [H3]; · iexact H3
        iexact H2
      iexact H1
    · show iprop((ccred c ℓ 27 ∗ ccred c ℓ 28) ∗ ccred c ℓ 29) ⊢ iprop(ccred c ℓ 29 ∗ ccred c ℓ 28 ∗ ccred c ℓ 27)
      iintro ⟨⟨H1, H2⟩, H3⟩; isplitl [H3]; · iexact H3
      isplitl [H2]; · iexact H2
      iexact H1
  rw [e3]
  unfold creditWait owesE cpos
  iintro ⟨#HK, Hc, ⟨%T, %hT, Hp, #HT⟩, %W, HO⟩ Hk
  iapply (Rounds.wp_wait_rest 𝒱₀ ER (sched M) (c : Thread nD τ) none (sm := semOf (kCR ℓ)) (k' := 3) (κ := K (c, kCR ℓ))
      (wpE_semWait_eq 𝒱₀ (c : Thread nD τ) none Set.univ) (Set.mem_univ _) (cr := Finsupp.single 57 1 + Finsupp.single 59 1 + Finsupp.single 61 1) (O := 0) (W := W)
      (((Finsupp.single 57 1 + Finsupp.single 59 1 + Finsupp.single 61 1 : ℕ →₀ ℕ).support.image (semOf (kCR ℓ), ·))) (R := 0) (m := 27) (T := T)
      (by rw [expect_cr]) (by rw [Util.total_add, Util.total_add, Util.total_single, Util.total_single, Util.total_single]) (Finset.Subset.refl _)) $$ [Hc HO Hp]
  · isplitr; · iapply (know_cell M K κ c (kCR ℓ)); iexact HK
    isplitl [Hc]; · iexact Hc
    isplitl [HO]; · iexact HO
    isplitr; · rw [MayOwe_zero]; iempintro
    iexact Hp
  iintro ⟨HO, Hp, -, -⟩
  iapply Hk
  isplitl [Hp]; · iexact Hp
  iexists _; iexact HO

/-- The end of a lane: its block of the result is in its place, and all of its slots and semaphores are the device's again. -/
theorem wp_finish (c : Dev nD) (ℓ : Lane) (f : outM.view.ty.Contents (Elt F)) (k : Code F) (Q : PUnit → sProp 𝕄) :
    iprop(Know (msg P) K κ ∗ partPts P c ∗ outPts c f ∗ State c ℓ 31 ∗ owesE c 0)
      ⊢ iprop(((partPts P c ∗ outPts c (outPut P c f ℓ) ∗ Done c ℓ ∗ owesE c 0) -∗ WP c k Q) -∗ WP c (finish ℓ.1 ℓ.2 c k) Q) := by
  unfold finish State Done
  simp only [show 31 - 1 = 30 from rfl, show 31 - 2 = 29 from rfl, show 31 - 4 = 27 from rfl]
  rw [bigSep_Ico_one 30 (rcred (F := F) c ℓ), (window 30 3 (rpos (F := F) c ℓ)).1, (window 30 3 (rpos (F := F) c ℓ)).2, bigSep_Ico_succ_top (show 27 ≤ 30 by omega) (kept (F := F) c ℓ),
    bigSep_Ico_succ_bot (show 29 < 29 + 2 by omega) (spos (F := F) c ℓ), bigSep_Ico_one (29 + 1) (spos (F := F) c ℓ), bigSep_Ico_succ_bot (show 31 < 31 + 2 by omega) (spos (F := F) c ℓ), bigSep_Ico_one (31 + 1) (spos (F := F) c ℓ),
    bigSep_Ico_succ_bot (show 29 < 31 by omega) (scred (F := F) c ℓ), bigSep_Ico_one (29 + 1) (scred (F := F) c ℓ), bigSep_Ico_succ_bot (show 29 < 31 by omega) (sany (F := F) c ℓ), bigSep_Ico_one (29 + 1) (sany (F := F) c ℓ)]
  iintro ⟨#HK, HP, Hf, ⟨Hrc, ⟨Hrp, Hrps⟩, -, Hkp, -, -, -, -, ⟨Hsp, Hsp'⟩, ⟨Hsc, Hsc'⟩, -, -, Hcc, Hcp⟩, HO⟩ Hk
  iapply (wp_recvWait (msg P) K κ c ℓ 30 (by omega) 0 (two 0) 0 (above_zero _)) $$ [Hrc Hrp HO]
  · isplitr; · iexact HK
    isplitl [Hrc]; · iexact Hrc
    isplitl [Hrp]; · iexact Hrp
    iexact HO
  iintro ⟨Hb, Hrp, -, HO⟩
  iapply (wp_rbLoad c ℓ ⟨30 % 4, four 30⟩ (msg P ℓ 30 (upsL ℓ c))) $$ Hb
  iintro Hb
  ihave Hb := (rbHas_any c ℓ ⟨30 % 4, four 30⟩ (msg P ℓ 30 (upsL ℓ c))) $$ Hb
  unfold partPts
  iapply (wp_load_rect 𝒱₀ (c : Thread nD τ) none Set.univ (m := partM) (r := partRectE ℓ.1 ℓ.2 c) (Finset.subset_univ _)) $$ HP
  iintro HP
  unfold outPts
  iapply (wp_load_rect 𝒱₀ (c : Thread nD τ) none Set.univ (m := outM) (r := outRect ℓ.1 ℓ.2) (Finset.subset_univ _)) $$ Hf
  iintro Hf
  iapply (wp_store 𝒱₀ (c : Thread nD τ) none Set.univ (m := outM) (r := outRect ℓ.1 ℓ.2) (Mk := Finset.univ) (Finset.subset_univ _)) $$ Hf
  iintro Hf
  iapply (wp_sendWait (msg P) K κ c ℓ 29 (by omega) 1 (two 1) rfl 1 (four 1) 0 (above_zero _)) $$ [Hsc Hsp HO]
  · isplitr; · iexact HK
    isplitl [Hsc]; · iexact Hsc
    isplitl [Hsp]; · iexact Hsp
    iexact HO
  iintro ⟨Hs, Hsp, -, HO⟩
  iapply (wp_sendWait (msg P) K κ c ℓ 30 (by omega) 0 (two 0) rfl 2 (four 2) 0 (above_zero _)) $$ [Hsc' Hsp' HO]
  · isplitr; · iexact HK
    isplitl [Hsc']; · iexact Hsc'
    isplitl [Hsp']; · iexact Hsp'
    iexact HO
  iintro ⟨Hs', Hsp', -, HO⟩
  iapply (wp_lastCredits K κ (msg P) c ℓ) $$ [Hcc Hcp HO]
  · isplitr; · iexact HK
    isplitl [Hcc]; · iexact Hcc
    isplitl [Hcp]; · iexact Hcp
    iexact HO
  iintro ⟨Hcp, HO⟩
  iapply Hk
  isplitl [HP]; · iexact HP
  isplitl [Hf]
  · unfold outPut outVal blk
    rw [dif_neg (by omega)]
    iexact Hf
  isplitr [HO]
  · isplitl [Hb Hkp]
    · isplitl [Hb]; · unfold kept; iexact Hb
      iexact Hkp
    isplitl [Hs Hs']
    · isplitl [Hs]; · iexact Hs
      iexact Hs'
    isplitl [Hrp Hrps]
    · isplitl [Hrp]; · iexact Hrp
      iexact Hrps
    isplitl [Hsp Hsp']
    · isplitl [Hsp]; · iexact Hsp
      iexact Hsp'
    iexact Hcp
  iexact HO

/-- The ends of the lanes of a list. -/
def finishesOf (c : Dev nD) (k : Code F) : List Lane → Code F
  | [] => k
  | ℓ :: ls => finish ℓ.1 ℓ.2 c (finishesOf c k ls)

theorem finishes_eq (c : Dev nD) (k : Code F) : finishes c k = finishesOf c k lanes := rfl

theorem wp_finishesOf (c : Dev nD) (k : Code F) (Q : PUnit → sProp 𝕄) : ∀ (ls : List Lane) (f : outM.view.ty.Contents (Elt F)),
    iprop(Know (msg P) K κ ∗ partPts P c ∗ outPts c f ∗ laneSep (fun ℓ => State c ℓ 31) ls ∗ owesE c 0)
      ⊢ iprop(((partPts P c ∗ outPts c (ls.foldl (outPut P c) f) ∗ laneSep (Done c) ls ∗ owesE c 0) -∗ WP c k Q) -∗ WP c (finishesOf c k ls) Q)
  | [], f => by
    unfold finishesOf laneSep
    iintro ⟨-, H⟩ Hk
    iapply Hk; iexact H
  | ℓ :: ls, f => by
    unfold finishesOf laneSep
    iintro ⟨#HK, HP, Hf, ⟨Hs, Hss⟩, HO⟩ Hk
    iapply (wp_finish P K κ c ℓ f) $$ [HP Hf Hs HO]
    · isplitr; · iexact HK
      isplitl [HP]; · iexact HP
      isplitl [Hf]; · iexact Hf
      isplitl [Hs]; · iexact Hs
      iexact HO
    iintro ⟨HP, Hf, Hd, HO⟩
    iapply (wp_finishesOf c k Q ls (outPut P c f ℓ)) $$ [HP Hf Hss HO]
    · isplitr; · iexact HK
      isplitl [HP]; · iexact HP
      isplitl [Hf]; · iexact Hf
      isplitl [Hss]; · iexact Hss
      iexact HO
    iintro ⟨HP, Hf, Hds, HO⟩
    iapply Hk
    isplitl [HP]; · iexact HP
    isplitl [Hf]; · iexact Hf
    isplitl [Hd Hds]
    · isplitl [Hd]; · iexact Hd
      iexact Hds
    iexact HO

end Rules

end Cert.Exchange

end
-- ==== Proof.Slots.lean ====
/-
# The buffers and their slots

A landing buffer whole is its sixteen slots, a send buffer its eight; a lane's slots are its messages' slots.
-/
module

public import proofs.«01_k».proof.Proof.Loop

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

omit [FloatOps F] in
/-- A buffer at any contents is each part of a disjoint covering family at any contents. -/
theorem slot_parts {b : Loc nD τ sig} {T : Type} [Fintype T] [DecidableEq T] [Nonempty T] (I : T → Finset (Idx b))
    (hd : ∀ t t', t ≠ t' → Disjoint (I t) (I t')) (hc : Finset.univ.biUnion I = Finset.univ) :
    (slot b Finset.univ : sProp 𝕄) = bigSep Finset.univ fun t => slot b (I t) := by
  have hd' : ∀ t ∈ (Finset.univ : Finset T), ∀ t' ∈ (Finset.univ : Finset T), t ≠ t' → Disjoint (I t) (I t') := fun t _ t' _ h => hd t t' h
  have h1 : (slot b Finset.univ : sProp 𝕄) ⊢ bigSep Finset.univ fun t => slot b (I t) := by
    unfold slot
    refine exists_elim fun f => ?_
    rw [← hc, pointsTo_biUnion Finset.univ I hd']
    exact bigSep_mono fun t _ => (show (b ↦[I t]{fullShare} f : sProp 𝕄) ⊢ iprop(∃ f, b ↦[I t]{fullShare} f) by iintro H; iexists f; iexact H)
  have h2 : (bigSep Finset.univ fun t => slot b (I t)) ⊢ (slot b Finset.univ : sProp 𝕄) := by
    unfold slot
    by_cases hn : Nonempty (Buf (Elt F) b)
    · refine (bigSep_exists_pi Finset.univ fun t (f : Buf (Elt F) b) => (b ↦[I t]{fullShare} f : sProp 𝕄)).trans ?_
      iintro ⟨%fs, H⟩
      ihave H := (pointsTo_biUnion_join Finset.univ I fs (Classical.choice hn) hd') $$ H
      icases H with ⟨%g, -, H⟩
      rw [hc]
      iexists g; iexact H
    · refine (bigSep_mem (Finset.mem_univ (Classical.arbitrary T)) (Φ := fun t => (iprop(∃ f, b ↦[I t]{fullShare} f) : sProp 𝕄))).trans ?_
      iintro ⟨%f, -⟩
      exact absurd ⟨f⟩ hn
  exact BI.Entails.antisymm h1 h2

/-- A landing buffer, a send buffer, whole. -/
def rbWhole (c : Dev nD) (δ : Dir) : sProp 𝕄 := slot ((rbM δ).view.loc (c : Thread nD τ)) Finset.univ
def sbWhole (c : Dev nD) (δ : Dir) : sProp 𝕄 := slot ((sbM δ).view.loc (c : Thread nD τ)) Finset.univ

/-- The places of a slot in its buffer. -/
abbrev rbSet (δ : Dir) (x : Fin 4 × Fin 4) : Finset (rbM δ).view.ty.Idx := ((rbM δ).access (rbRect x.1 x.2.val x.2.isLt)).set
abbrev sbSet (δ : Dir) (x : Fin 4 × Fin 2) : Finset (sbM δ).view.ty.Idx := ((sbM δ).access (sbRect x.1 x.2.val x.2.isLt)).set

theorem rb_disjoint (δ : Dir) (x x' : Fin 4 × Fin 4) (h : x ≠ x') :
    Disjoint (rbSet δ x) (rbSet δ x') := by
  apply View.disjoint_slice
  by_cases h1 : x.1 = x'.1
  · have h2 : x.2.val ≠ x'.2.val := fun e => h (Prod.ext h1 (Fin.ext e))
    refine Rect.unit_disjoint 1 ?_
    show x.2.val + 1 ≤ x'.2.val ∨ x'.2.val + 1 ≤ x.2.val
    omega
  · have h2 : x.1.val ≠ x'.1.val := fun e => h1 (Fin.ext e)
    refine Rect.unit_disjoint 0 ?_
    show x.1.val + 1 ≤ x'.1.val ∨ x'.1.val + 1 ≤ x.1.val
    omega
theorem sb_disjoint (δ : Dir) (x x' : Fin 4 × Fin 2) (h : x ≠ x') :
    Disjoint (sbSet δ x) (sbSet δ x') := by
  apply View.disjoint_slice
  by_cases h1 : x.1 = x'.1
  · have h2 : x.2.val ≠ x'.2.val := fun e => h (Prod.ext h1 (Fin.ext e))
    refine Rect.unit_disjoint 1 ?_
    show x.2.val + 1 ≤ x'.2.val ∨ x'.2.val + 1 ≤ x.2.val
    omega
  · have h2 : x.1.val ≠ x'.1.val := fun e => h1 (Fin.ext e)
    refine Rect.unit_disjoint 0 ?_
    show x.1.val + 1 ≤ x'.1.val ∨ x'.1.val + 1 ≤ x.1.val
    omega

theorem rb_cover (δ : Dir) : Finset.univ.biUnion (rbSet δ) = Finset.univ := by
  refine Finset.eq_univ_of_forall fun i => ?_
  obtain ⟨y, rfl⟩ : ∃ y : S4x4x128x256.Idx, (rbM δ).view.emb y = i := by cases δ <;> exact ⟨i, rfl⟩
  refine Finset.mem_biUnion.mpr ⟨(y 0, y 1), Finset.mem_univ _, ?_⟩
  show _ ∈ (View.slice _ _).set
  rw [View.set_slice]
  refine Finset.mem_map_of_mem _ (Rect.mem_set_unit.mpr ?_)
  intro a
  match a with
  | 0 => exact ⟨le_refl _, Nat.lt_succ_self _⟩
  | 1 => exact ⟨le_refl _, Nat.lt_succ_self _⟩
  | 2 => exact ⟨Nat.zero_le _, (Nat.zero_add 128).symm ▸ (y 2).isLt⟩
  | 3 => exact ⟨Nat.zero_le _, (Nat.zero_add 256).symm ▸ (y 3).isLt⟩
theorem sb_cover (δ : Dir) : Finset.univ.biUnion (sbSet δ) = Finset.univ := by
  refine Finset.eq_univ_of_forall fun i => ?_
  obtain ⟨y, rfl⟩ : ∃ y : S4x2x128x256.Idx, (sbM δ).view.emb y = i := by cases δ <;> exact ⟨i, rfl⟩
  refine Finset.mem_biUnion.mpr ⟨(y 0, y 1), Finset.mem_univ _, ?_⟩
  show _ ∈ (View.slice _ _).set
  rw [View.set_slice]
  refine Finset.mem_map_of_mem _ (Rect.mem_set_unit.mpr ?_)
  intro a
  match a with
  | 0 => exact ⟨le_refl _, Nat.lt_succ_self _⟩
  | 1 => exact ⟨le_refl _, Nat.lt_succ_self _⟩
  | 2 => exact ⟨Nat.zero_le _, (Nat.zero_add 128).symm ▸ (y 2).isLt⟩
  | 3 => exact ⟨Nat.zero_le _, (Nat.zero_add 256).symm ▸ (y 3).isLt⟩

omit [FloatOps F] in
theorem rbWhole_eq (c : Dev nD) (δ : Dir) : rbWhole (F := F) c δ = bigSep Finset.univ fun x : Fin 4 × Fin 4 => rbAny c (δ, x.1) x.2 := by
  unfold rbWhole rbAny
  rw [slot_parts (F := F) (b := (rbM δ).view.loc (c : Thread nD τ)) (rbSet δ) (rb_disjoint δ) (rb_cover δ)]
  exact bigSep_congr fun x _ => congrArg (slot ((rbM δ).view.loc (c : Thread nD τ))) (rb_set δ x.1 x.2.val x.2.isLt).symm
omit [FloatOps F] in
theorem sbWhole_eq (c : Dev nD) (δ : Dir) : sbWhole (F := F) c δ = bigSep Finset.univ fun x : Fin 4 × Fin 2 => sbAny c (δ, x.1) x.2 := by
  unfold sbWhole sbAny
  rw [slot_parts (F := F) (b := (sbM δ).view.loc (c : Thread nD τ)) (sbSet δ) (sb_disjoint δ) (sb_cover δ)]
  exact bigSep_congr fun x _ => congrArg (slot ((sbM δ).view.loc (c : Thread nD τ))) (sb_set δ x.1 x.2.val x.2.isLt).symm

omit [FloatOps F] in
/-- Something for each of four, told in any order of them. -/
theorem four_of (Φ : ℕ → sProp 𝕄) (Ψ : Fin 4 → sProp 𝕄) (a : ℕ) (h : ∀ m, Φ m = Ψ ⟨m % 4, four m⟩) :
    bigSep (Finset.Ico a (a + 4)) Φ = bigSep Finset.univ Ψ := by
  have hinj : Set.InjOn (fun m => (⟨m % 4, four m⟩ : Fin 4)) (Finset.Ico a (a + 4) : Set ℕ) := by
    intro m hm m' hm' e
    have := Fin.mk.inj_iff.mp e
    have h1 := Finset.mem_Ico.mp (Finset.mem_coe.mp hm); have h2 := Finset.mem_Ico.mp (Finset.mem_coe.mp hm'); omega
  have himg : (Finset.Ico a (a + 4)).image (fun m => (⟨m % 4, four m⟩ : Fin 4)) = Finset.univ :=
    Finset.eq_univ_of_card _ (by rw [Finset.card_image_of_injOn hinj, Nat.card_Ico, Fintype.card_fin]; omega)
  rw [← himg, bigSep_image_of_injOn hinj]
  exact bigSep_congr fun m _ => h m
omit [FloatOps F] in
theorem two_of (Φ : ℕ → sProp 𝕄) (Ψ : Fin 2 → sProp 𝕄) (a : ℕ) (h : ∀ m, Φ m = Ψ ⟨m % 2, two m⟩) :
    bigSep (Finset.Ico a (a + 2)) Φ = bigSep Finset.univ Ψ := by
  have hinj : Set.InjOn (fun m => (⟨m % 2, two m⟩ : Fin 2)) (Finset.Ico a (a + 2) : Set ℕ) := by
    intro m hm m' hm' e
    have := Fin.mk.inj_iff.mp e
    have h1 := Finset.mem_Ico.mp (Finset.mem_coe.mp hm); have h2 := Finset.mem_Ico.mp (Finset.mem_coe.mp hm'); omega
  have himg : (Finset.Ico a (a + 2)).image (fun m => (⟨m % 2, two m⟩ : Fin 2)) = Finset.univ :=
    Finset.eq_univ_of_card _ (by rw [Finset.card_image_of_injOn hinj, Nat.card_Ico, Fintype.card_fin]; omega)
  rw [← himg, bigSep_image_of_injOn hinj]
  exact bigSep_congr fun m _ => h m

omit [FloatOps F] in
/-- All the lanes, of a family over directions and segments. -/
theorem lanes_dirs (Φ : Lane → sProp 𝕄) : bigSep Finset.univ Φ = iprop((bigSep Finset.univ fun j => Φ (.R, j)) ∗ (bigSep Finset.univ fun j => Φ (.L, j))) := by
  rw [bigSep_univ_prod, bigSep_univ_eq_bigSepL [Dir.R, Dir.L] (by decide) (by decide)]
  rfl

omit [FloatOps F] in
/-- The two landing buffers are the lanes' four slots each; the two send buffers the lanes' two slots each. -/
theorem rb_lanes (c : Dev nD) (a : ℕ) : (bigSep Finset.univ fun ℓ => bigSep (Finset.Ico a (a + 4)) (kept (F := F) c ℓ)) = iprop(rbWhole c .R ∗ rbWhole c .L) := by
  rw [lanes_dirs, rbWhole_eq, rbWhole_eq, bigSep_univ_prod, bigSep_univ_prod]
  have e (ℓ : Lane) : bigSep (Finset.Ico a (a + 4)) (kept (F := F) c ℓ) = bigSep Finset.univ (rbAny c ℓ) := four_of _ _ a fun m => rfl
  simp only [e]
omit [FloatOps F] in
theorem sb_lanes (c : Dev nD) (a : ℕ) : (bigSep Finset.univ fun ℓ => bigSep (Finset.Ico a (a + 2)) (sany (F := F) c ℓ)) = iprop(sbWhole c .R ∗ sbWhole c .L) := by
  rw [lanes_dirs, sbWhole_eq, sbWhole_eq, bigSep_univ_prod, bigSep_univ_prod]
  have e (ℓ : Lane) : bigSep (Finset.Ico a (a + 2)) (sany (F := F) c ℓ) = bigSep Finset.univ (sbAny c ℓ) := two_of _ _ a fun m => rfl
  simp only [e]

end Cert.Exchange

end
-- ==== Proof.Entry.lean ====
/-
# The whole body on one device

What a device starts with; that its landing slots, given up, open the neighbours' first writes; the handshake on the
barrier semaphore; the product; the loop; and that every semaphore is at zero again at the end.
-/
module

public import proofs.«01_k».proof.Proof.Slots

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## What a device starts with -/

/-- In a lane, before its landing slots are given up. -/
def Seed (c : Dev nD) (ℓ : Lane) : sProp 𝕄 :=
  iprop(bigSep (Finset.Ico 0 31) (rcred c ℓ) ∗ bigSep (Finset.Ico 0 4) (rpos c ℓ) ∗ (bigSep (Finset.Ico 0 4) fun m => readerAt ES (slK c ℓ m) 0)
    ∗ bigSep (Finset.Ico 0 31) (rtok c ℓ) ∗ bigSep (Finset.Ico 0 31) (wtok c ℓ) ∗ bigSep (Finset.Ico 0 31) (stok c ℓ)
    ∗ bigSep (Finset.Ico 0 2) (spos c ℓ) ∗ bigSep (Finset.Ico 0 30) (ctok c ℓ) ∗ bigSep (Finset.Ico 0 30) (ccred c ℓ) ∗ atPos ER (crC c ℓ) 0 ∅ 0)

/-- In all: the lanes' and the barrier's. -/
def Hold (c : Dev nD) : sProp 𝕄 :=
  iprop(bigSep Finset.univ (Seed c) ∗ atPos ER (barC c) 0 ∅ 0 ∗ dutyTok ER (barC (lftD c)) 0 0 ∗ dutyTok ER (barC (rgtD c)) 0 1 ∗ cred (tallyAt (barC c) 1 2))

/-- What a device owes at first: the lanes' messages and credits, and the two signals of the handshake. -/
def O₀ (c : Dev nD) : Debt := laneSum (fun ℓ => debt c ℓ 0) lanes + tallyAt (barC (rgtD c)) 1 1 + tallyAt (barC (lftD c)) 1 1

theorem debt_zero_above (c : Dev nD) (ℓ : Lane) : Above 1 (debt c ℓ 0) :=
  above_add (above_sum _ _ fun m hm => above_tally _ _ _ _ (by omega) (by have := (Finset.mem_Ico.mp hm).2; omega))
    (above_sum _ _ fun k hk => above_tally _ _ _ _ (by omega) (by have := (Finset.mem_Ico.mp hk).2; omega))

/-- The device's own landing slots in the lane, given up once. -/
def mine (c : Dev nD) (ℓ : Lane) : sProp 𝕄 := bigSep Finset.univ fun q : Fin 4 => released ES (c, ℓ, q) 1
instance mine_persistent (c : Dev nD) (ℓ : Lane) : BI.Persistent (mine (F := F) c ℓ) := by unfold mine; infer_instance

/-- The two handshake signals carry that the device's own landing slots are given up. -/
theorem mines_pays (c : Dev nD) : bigSep Finset.univ (mine (F := F) c) = iprop(barPay (lftD c) .R ∗ barPay (rgtD c) .L) := by
  rw [lanes_dirs]
  unfold mine barPay
  rw [bigSep_univ_prod, bigSep_univ_prod]
  show _ = iprop((bigSep Finset.univ fun j : Fin 4 => bigSep Finset.univ fun q : Fin 4 => released ES (rgtD (lftD c), (Dir.R, j), q) 1)
    ∗ (bigSep Finset.univ fun j : Fin 4 => bigSep Finset.univ fun q : Fin 4 => released ES (lftD (rgtD c), (Dir.L, j), q) 1))
  rw [rgt_lft, lft_rgt]
/-- What the handshake brings is that the neighbours' landing slots are open. -/
theorem opens_pays (c : Dev nD) : opens (F := F) c = iprop(barPay c .R ∗ barPay c .L) := by
  unfold opens
  rw [lanes_dirs]
  unfold open1 barPay
  rw [bigSep_univ_prod, bigSep_univ_prod]

section Entry

variable (M : Lane → ℕ → Dev nD → FVec F S128x256 .bf16) (K : Dev nD × Key → ℕ) (κ : SKey → ℕ)

/-- A landing slot is given up for the first write. -/
theorem give_first (c : Dev nD) (ℓ : Lane) (m : ℕ) (hm : m < 4) :
    iprop(Know M K κ ∗ readerAt ES (slK c ℓ m) 0 ∗ kept c ℓ m)
      ⊢ (iprop(|={Set.univ}[frame]=> (rdr c ℓ m ∗ released ES (slK c ℓ m) 1)) : sProp 𝕄) := by
  unfold rdr kept
  rw [if_pos (by omega), show m / 4 + 1 = 1 by omega]
  iintro ⟨#HK, Hr, Hs⟩
  iapply (slot_release ES (S := rbAny c ℓ ⟨m % 4, four m⟩) (n := 0) (Set.mem_univ (κ (slK c ℓ m))) (rbAny_excl c ℓ _))
  isplitr; · iapply (know_slot M K κ c ℓ ⟨m % 4, four m⟩); iexact HK
  isplitl [Hr]; · iexact Hr
  iexact Hs

/-- A lane before its first message. -/
theorem seed_state (c : Dev nD) (ℓ : Lane) :
    iprop(Know M K κ ∗ Seed c ℓ ∗ bigSep (Finset.Ico 0 4) (kept c ℓ) ∗ bigSep (Finset.Ico 0 2) (sany c ℓ))
      ⊢ (iprop(|={Set.univ}[frame]=> (State c ℓ 0 ∗ mine c ℓ)) : sProp 𝕄) := by
  have hg : iprop(Know M K κ ∗ bigSep (Finset.Ico 0 4) fun m => iprop(readerAt ES (slK c ℓ m) 0 ∗ kept c ℓ m))
      ⊢ (iprop(|={Set.univ}[frame]=> (bigSep (Finset.Ico 0 4) (rdr c ℓ) ∗ mine c ℓ)) : sProp 𝕄) := by
    have e : iprop(bigSep (Finset.Ico 0 4) (rdr (F := F) c ℓ) ∗ mine c ℓ) = bigSep (Finset.Ico 0 4) fun m => iprop(rdr c ℓ m ∗ released ES (slK c ℓ m) 1) := by
      rw [bigSep_sep']; unfold mine
      rw [← four_of (fun m => released ES (slK c ℓ m) 1) (fun q : Fin 4 => (released ES (c, ℓ, q) 1 : sProp 𝕄)) 0 fun m => rfl]
    rw [e]
    exact (bigSep_with_persistent fun m hm => give_first M K κ c ℓ m (Finset.mem_Ico.mp hm).2).trans (bigSep_fupd _ _)
  rw [bigSep_sep'] at hg
  unfold Seed State cpos gave
  simp only [Nat.zero_sub, Nat.zero_add]
  rw [Finset.Ico_eq_empty (show ¬ 27 < 0 by omega), Finset.Ico_self, bigSep_empty, bigSep_empty, show Finset.range (min 0 27) = ∅ from rfl, bigSep_empty]
  iintro ⟨#HK, ⟨Hrc, Hrp, Hra, Hrt, Hwt, Hst, Hsp, Hct, Hcc, Hcp⟩, Hk, Hs⟩
  imod hg $$ [Hra Hk] with ⟨Hrd, #Hm⟩
  · isplitr; · iexact HK
    isplitl [Hra]; · iexact Hra
    iexact Hk
  imodintro
  isplitl
  · isplitl [Hrc]; · iexact Hrc
    isplitl [Hrp]; · iexact Hrp
    isplitl [Hrd]; · iexact Hrd
    isplitr; · iempintro
    isplitr; · iempintro
    isplitl [Hrt]; · iexact Hrt
    isplitl [Hwt]; · iexact Hwt
    isplitl [Hst]; · iexact Hst
    isplitl [Hsp]; · iexact Hsp
    isplitr; · iempintro
    isplitl [Hs]; · iexact Hs
    isplitl [Hct]; · iexact Hct
    isplitl [Hcc]; · iexact Hcc
    iexists (∅ : Finset ℕ)
    isplitr; · ipureintro; exact ⟨Finset.empty_subset _, Nat.zero_le _⟩
    isplitl [Hcp]; · iexact Hcp
    rw [bigSep_empty]; iempintro
  iexact Hm

/-- All the lanes before their first messages. -/
theorem seeds_states (c : Dev nD) :
    iprop(Know M K κ ∗ bigSep Finset.univ (Seed c) ∗ (rbWhole c .R ∗ rbWhole c .L) ∗ (sbWhole c .R ∗ sbWhole c .L))
      ⊢ (iprop(|={Set.univ}[frame]=> (laneSep (fun ℓ => State c ℓ 0) lanes ∗ barPay (lftD c) .R ∗ barPay (rgtD c) .L)) : sProp 𝕄) := by
  rw [← rb_lanes c 0, ← sb_lanes c 0, laneSep_lanes, ← mines_pays, ← bigSep_sep', ← bigSep_sep', ← bigSep_sep']
  exact (bigSep_with_persistent fun ℓ _ => seed_state M K κ c ℓ).trans (bigSep_fupd _ _)

/-! ## The handshake -/

theorem wp_handshake (c : Dev nD) (X : Debt) (hX : Above 1 X) (k : Code F) (Q : PUnit → sProp 𝕄) :
    iprop(Know M K κ ∗ (barPay (lftD c) .R ∗ barPay (rgtD c) .L) ∗ atPos ER (barC c) 0 ∅ 0 ∗ dutyTok ER (barC (lftD c)) 0 0 ∗ dutyTok ER (barC (rgtD c)) 0 1
        ∗ cred (tallyAt (barC c) 1 2) ∗ owesE c (X + tallyAt (barC (rgtD c)) 1 1 + tallyAt (barC (lftD c)) 1 1))
      ⊢ iprop(((opens c ∗ atPos ER (barC c) 1 ∅ 0 ∗ owesE c X) -∗ WP c k Q)
        -∗ WP c (.op (.semSignal ((lftD c : Dev nD), .tc) barS (1#32).toInt) fun _ => .op (.semSignal ((rgtD c : Dev nD), .tc) barS (1#32).toInt) fun _ =>
            .op (.semWait barS (2#32).toInt) fun _ => k) Q) := by
  unfold owesE
  rw [opens_pays]
  iintro ⟨#HK, ⟨#HR, #HL⟩, Hp, Ht, Ht', Hc, %W, HO⟩ Hk
  iapply (Rounds.wp_signal 𝒱₀ ER (sched M) (c : Thread nD τ) none (dst := (lftD c : Thread nD τ)) (κ := K (lftD c, none)) (k' := 1) (r := 0)
      (d := 0) (by show 0 ∈ (sched M).duties (barC (lftD c)) 0; rw [duties_cell, duties_bar]; decide) (amount_cell M (lftD c) none 0 0) 1 (X + tallyAt (barC (rgtD c)) 1 1) rfl) $$ [HO Ht]
  · isplitr; · iapply (know_cell M K κ (lftD c) none); iexact HK
    isplitl [HO]; · iexact HO
    isplitl [Ht]; · iexact Ht
    isplitr
    · iapply (Entails.of_eq (show barPay (lftD c) .R = (sched M).payload ((lftD c : Thread nD τ), .reg barS) 0 0 from (payload_cell M (lftD c) none 0 0).symm)); iexact HR
    iapply (know_reached M K κ (lftD c) none); iexact HK
  iintro HO
  iapply (Rounds.wp_signal 𝒱₀ ER (sched M) (c : Thread nD τ) none (dst := (rgtD c : Thread nD τ)) (κ := K (rgtD c, none)) (k' := 1) (r := 0)
      (d := 1) (by show 1 ∈ (sched M).duties (barC (rgtD c)) 0; rw [duties_cell, duties_bar]; decide) (amount_cell M (rgtD c) none 0 1) 1 X rfl) $$ [HO Ht']
  · isplitr; · iapply (know_cell M K κ (rgtD c) none); iexact HK
    isplitl [HO]; · iexact HO
    isplitl [Ht']; · iexact Ht'
    isplitr
    · iapply (Entails.of_eq (show barPay (rgtD c) .L = (sched M).payload ((rgtD c : Thread nD τ), .reg barS) 0 1 from (payload_cell M (rgtD c) none 0 1).symm)); iexact HL
    iapply (know_reached M K κ (rgtD c) none); iexact HK
  iintro HO
  iapply (Rounds.wp_wait_rest_token 𝒱₀ ER (sched M) (c : Thread nD τ) none (sm := semOf none) (k' := 2) (κ := K (c, none))
      (wpE_semWait_eq 𝒱₀ (c : Thread nD τ) none Set.univ) (Set.mem_univ _) 1 (O := X) (W := W) (R := 0) (m := 0) (T := ∅)
      (by rw [Nat.zero_add]; exact (expect_bar M c).symm)) $$ [Hc HO Hp]
  · isplitr; · iapply (know_cell M K κ c none); iexact HK
    isplitl [Hc]; · iexact Hc
    isplitl [HO]; · iexact HO
    isplitr; · iapply (know_mayWait M K κ c _ 1 (by omega) hX); iexact HK
    iexact Hp
  iintro ⟨HO, Hp, -, Hpay⟩
  iapply Hk
  isplitl [Hpay]
  · iapply (Entails.of_eq (show bigSep ((sched M).duties (barC c) 0 \ ∅) (fun d => (sched M).payload (barC c) 0 d) = iprop(barPay c .R ∗ barPay c .L) by
      rw [Finset.sdiff_empty, duties_cell, duties_bar, bigSep_congr fun d _ => payload_cell M c none 0 d, show ({0, 1} : Finset ℕ) = insert 0 {1} from rfl, bigSep_insert (by decide), bigSep_singleton]; rfl)) $$ Hpay
  isplitl [Hp]; · iexact Hp
  iexists _; iexact HO

/-! ## The end -/

/-- All the lanes' semaphores at zero. -/
def laneSems0 (c : Dev nD) : sProp 𝕄 := bigSep Finset.univ fun k : Lane × LKey => semVal (cell c (some k)) 0

theorem close_lane (c : Dev nD) (ℓ : Lane) :
    iprop(Know M K κ ∗ bigSep (Finset.Ico 31 (31 + 4)) (rpos c ℓ) ∗ bigSep (Finset.Ico 31 (31 + 2)) (spos c ℓ) ∗ atPos ER (crC c ℓ) 1 ∅ 0)
      ⊢ (iprop(|={Set.univ}[frame]=> bigSep Finset.univ fun k : LKey => semVal (cell c (some (ℓ, k))) 0) : sProp 𝕄) := by
  have hr : iprop(Know M K κ ∗ bigSep (Finset.Ico 31 (31 + 4)) (rpos c ℓ)) ⊢ (iprop(|={Set.univ}[frame]=> bigSep Finset.univ fun q : Fin 4 => semVal (cell c (kRS ℓ q)) 0) : sProp 𝕄) := by
    rw [← four_of (fun m => semVal (rsC c ℓ m) 0) (fun q : Fin 4 => (semVal (cell c (kRS ℓ q)) 0 : sProp 𝕄)) 31 fun m => rfl]
    refine (bigSep_with_persistent fun m hm => ?_).trans (bigSep_fupd _ _)
    show iprop(Know M K κ ∗ rpos c ℓ m) ⊢ _
    unfold rpos
    iintro ⟨#HK, H⟩
    iapply (Rounds.cell_close ER (sched M) (Set.mem_univ (K (c, rsK ℓ m))) (fun h => h) (R := m / 4) (duties_rs_later M c ℓ m (Finset.mem_Ico.mp hm).1))
    isplitr; · iapply (know_cell M K κ c (rsK ℓ m)); iexact HK
    iexact H
  have hs : iprop(Know M K κ ∗ bigSep (Finset.Ico 31 (31 + 2)) (spos c ℓ)) ⊢ (iprop(|={Set.univ}[frame]=> bigSep Finset.univ fun p : Fin 2 => semVal (cell c (kSS ℓ p)) 0) : sProp 𝕄) := by
    rw [← two_of (fun m => semVal (ssC c ℓ m) 0) (fun p : Fin 2 => (semVal (cell c (kSS ℓ p)) 0 : sProp 𝕄)) 31 fun m => rfl]
    refine (bigSep_with_persistent fun m hm => ?_).trans (bigSep_fupd _ _)
    show iprop(Know M K κ ∗ spos c ℓ m) ⊢ _
    unfold spos
    iintro ⟨#HK, H⟩
    iapply (Rounds.cell_close ER (sched M) (Set.mem_univ (K (c, ssK ℓ m))) (fun h => h) (R := m / 2) (duties_ss_later M c ℓ m (Finset.mem_Ico.mp hm).1))
    isplitr; · iapply (know_cell M K κ c (ssK ℓ m)); iexact HK
    iexact H
  have e : (bigSep Finset.univ fun k : LKey => (semVal (cell c (some (ℓ, k))) 0 : sProp 𝕄))
      = iprop((bigSep Finset.univ fun p : Fin 2 => semVal (cell c (kSS ℓ p)) 0) ∗ (bigSep Finset.univ fun q : Fin 4 => semVal (cell c (kRS ℓ q)) 0) ∗ semVal (crC c ℓ) 0) := by
    rw [bigSep_univ_sum, bigSep_univ_sum, show (Finset.univ : Finset Unit) = {()} from rfl, bigSep_singleton]; rfl
  rw [e]
  iintro ⟨#HK, Hr, Hs, Hc⟩
  imod hr $$ [Hr] with Hr
  · isplitr; · iexact HK
    iexact Hr
  imod hs $$ [Hs] with Hs
  · isplitr; · iexact HK
    iexact Hs
  imod (Rounds.cell_close ER (sched M) (Set.mem_univ (K (c, kCR ℓ))) (fun h => h) (R := 1) (duties_cr_later M c ℓ)) $$ [Hc] with Hc
  · isplitr; · iapply (know_cell M K κ c (kCR ℓ)); iexact HK
    iexact Hc
  imodintro
  isplitl [Hs]; · iexact Hs
  isplitl [Hr]; · iexact Hr
  iexact Hc

/-- Everything is the device's again. -/
theorem close_all (c : Dev nD) :
    iprop(Know M K κ ∗ laneSep (Done c) lanes ∗ atPos ER (barC c) 1 ∅ 0)
      ⊢ (iprop(|={Set.univ}[frame]=> ((rbWhole c .R ∗ rbWhole c .L) ∗ (sbWhole c .R ∗ sbWhole c .L) ∗ laneSems0 c ∗ semVal (barC c) 0)) : sProp 𝕄) := by
  have hl : iprop(Know M K κ ∗ bigSep Finset.univ fun ℓ => iprop(bigSep (Finset.Ico 31 (31 + 4)) (rpos c ℓ) ∗ bigSep (Finset.Ico 31 (31 + 2)) (spos c ℓ) ∗ atPos ER (crC c ℓ) 1 ∅ 0))
      ⊢ (iprop(|={Set.univ}[frame]=> laneSems0 c) : sProp 𝕄) := by
    unfold laneSems0
    rw [bigSep_univ_prod (fun k : Lane × LKey => (semVal (cell c (some k)) 0 : sProp 𝕄))]
    exact (bigSep_with_persistent fun ℓ _ => close_lane M K κ c ℓ).trans (bigSep_fupd _ _)
  rw [laneSep_lanes]
  unfold Done
  rw [bigSep_sep', bigSep_sep', ← rb_lanes c 27, ← sb_lanes c 29]
  iintro ⟨#HK, ⟨Hk, Hs, Hl⟩, Hb⟩
  imod hl $$ [Hl] with Hl
  · isplitr; · iexact HK
    iexact Hl
  imod (Rounds.cell_close ER (sched M) (Set.mem_univ (K (c, none))) (fun h => h) (R := 1) (duties_bar_later M c)) $$ [Hb] with Hb
  · isplitr; · iapply (know_cell M K κ c none); iexact HK
    iexact Hb
  imodintro
  isplitl [Hk]; · iexact Hk
  isplitl [Hs]; · iexact Hs
  isplitl [Hl]; · iexact Hl
  iexact Hb

end Entry

end Cert.Exchange

end
-- ==== Proof.Run.lean ====
/-
# The body's run

The result as the eight lanes' blocks, whatever it held before; and the body from what a device starts with to what it
ends with.
-/
module

public import proofs.«01_k».proof.Proof.Entry

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The result's blocks -/

section Out

variable (P : Dev nD → partM.view.ty.Contents (Elt F))

/-- The place of a block's element in the result. -/
abbrev outIdx (ℓ : Lane) (x : S128x256.Idx) : outM.view.ty.Idx := (outRect ℓ.1 ℓ.2).emb x

theorem outCol_apart : ∀ ℓ ℓ' : Lane, ℓ ≠ ℓ' → outCol ℓ.1 ℓ.2 + 256 ≤ outCol ℓ'.1 ℓ'.2 ∨ outCol ℓ'.1 ℓ'.2 + 256 ≤ outCol ℓ.1 ℓ.2 := by
  rintro ⟨_ | _, j⟩ ⟨_ | _, j'⟩ h
  · have : j.val ≠ j'.val := fun e => h (by rw [Fin.ext e])
    show 256 * j.val + 256 ≤ 256 * j'.val ∨ 256 * j'.val + 256 ≤ 256 * j.val; omega
  · left; show 256 * j.val + 256 ≤ 1024 + 256 * j'.val; omega
  · right; show 256 * j'.val + 256 ≤ 1024 + 256 * j.val; omega
  · have : j.val ≠ j'.val := fun e => h (by rw [Fin.ext e])
    show 1024 + 256 * j.val + 256 ≤ 1024 + 256 * j'.val ∨ 1024 + 256 * j'.val + 256 ≤ 1024 + 256 * j.val; omega

theorem outIdx_not_mem (ℓ ℓ' : Lane) (h : ℓ ≠ ℓ') (x : S128x256.Idx) : outIdx ℓ x ∉ (outRect ℓ'.1 ℓ'.2).set := fun hm =>
  Finset.disjoint_left.mp (Rect.unit_disjoint (inb := outCol_inb ℓ.1 ℓ.2) (inb' := outCol_inb ℓ'.1 ℓ'.2) 1 (outCol_apart ℓ ℓ' h))
    ((outRect ℓ.1 ℓ.2).map_emb_univ ▸ Finset.mem_map_of_mem _ (Finset.mem_univ x)) hm

/-- Every place of the result is in a lane's block. -/
theorem outIdx_surj (i : S128x2048.Idx) : ∃ ℓ x, outIdx ℓ x = i := by
  have key : ∃ ℓ : Lane, outCol ℓ.1 ℓ.2 ≤ (i 1).val ∧ (i 1).val < outCol ℓ.1 ℓ.2 + 256 := by
    have hi : (i 1).val < 2048 := (i 1).isLt
    by_cases h : (i 1).val < 1024
    · exact ⟨(.R, ⟨(i 1).val / 256, by omega⟩), by show 256 * ((i 1).val / 256) ≤ _; omega, by show _ < 256 * ((i 1).val / 256) + 256; omega⟩
    · exact ⟨(.L, ⟨((i 1).val - 1024) / 256, by omega⟩), by show 1024 + 256 * (((i 1).val - 1024) / 256) ≤ _; omega, by show _ < 1024 + 256 * (((i 1).val - 1024) / 256) + 256; omega⟩
  obtain ⟨ℓ, h1, h2⟩ := key
  have hm : i ∈ (outRect ℓ.1 ℓ.2).set := Rect.mem_set_unit.mpr fun a => match a with
    | 0 => ⟨Nat.zero_le _, (Nat.zero_add 128).symm ▸ (i 0).isLt⟩
    | 1 => ⟨h1, h2⟩
  rw [← Rect.map_emb_univ, Finset.mem_map] at hm
  obtain ⟨x, -, hx⟩ := hm
  exact ⟨ℓ, x, hx⟩

theorem outPut_hit (c : Dev nD) (f : outM.view.ty.Contents (Elt F)) (ℓ : Lane) (x : S128x256.Idx) : outPut P c f ℓ (outIdx ℓ x) = outVal P ℓ c x := by
  have h := congrFun (View.read_write_univ (v := outM.access (outRect ℓ.1 ℓ.2)) (Val := Elt F) f (outVal P ℓ c)) x
  exact h
theorem outPut_miss (c : Dev nD) (f : outM.view.ty.Contents (Elt F)) (ℓ ℓ' : Lane) (h : ℓ ≠ ℓ') (x : S128x256.Idx) : outPut P c f ℓ' (outIdx ℓ x) = f (outIdx ℓ x) := by
  unfold outPut
  refine View.write_of_not_mem _ _ _ fun hm => outIdx_not_mem ℓ ℓ' h x ?_
  obtain ⟨y, -, hy⟩ := Finset.mem_map.mp hm
  have hy' : (outRect ℓ'.1 ℓ'.2).emb y = outIdx ℓ x := hy
  rw [← hy']
  exact (outRect ℓ'.1 ℓ'.2).map_emb_univ ▸ Finset.mem_map_of_mem _ (Finset.mem_univ y)

/-- After a list of lanes' blocks a block in the list is its lane's, one outside it is as before. -/
theorem fold_outPut (c : Dev nD) (ℓ : Lane) (x : S128x256.Idx) : ∀ (ls : List Lane) (f : outM.view.ty.Contents (Elt F)), ls.Nodup →
    (ls.foldl (outPut P c) f) (outIdx ℓ x) = if ℓ ∈ ls then outVal P ℓ c x else f (outIdx ℓ x)
  | [], f, _ => by rw [if_neg (List.not_mem_nil)]; rfl
  | ℓ' :: ls, f, h => by
    rw [List.foldl_cons, fold_outPut c ℓ x ls _ (List.nodup_cons.mp h).2]
    by_cases e : ℓ = ℓ'
    · subst e
      rw [if_neg (List.nodup_cons.mp h).1, if_pos List.mem_cons_self, outPut_hit]
    · rw [outPut_miss P c f ℓ ℓ' e]
      simp only [List.mem_cons, e, false_or]

/-- What the result holds at the end. -/
def outAt (c : Dev nD) : outM.view.ty.Contents (Elt F) := lanes.foldl (outPut P c) fun _ => Classical.arbitrary _

theorem outAt_idx (c : Dev nD) (ℓ : Lane) (x : S128x256.Idx) : outAt P c (outIdx ℓ x) = outVal P ℓ c x := by
  unfold outAt
  rw [fold_outPut P c ℓ x lanes _ lanes_nodup, if_pos (by rw [← List.mem_toFinset, ← lanes_univ]; exact Finset.mem_univ ℓ)]
theorem fold_outAt (c : Dev nD) (f : outM.view.ty.Contents (Elt F)) : lanes.foldl (outPut P c) f = outAt P c := by
  funext i
  obtain ⟨ℓ, x, rfl⟩ := outIdx_surj i
  rw [outAt_idx, fold_outPut P c ℓ x lanes _ lanes_nodup, if_pos (by rw [← List.mem_toFinset, ← lanes_univ]; exact Finset.mem_univ ℓ)]

end Out

/-! ## The run -/

section Run

variable (X : Dev nD → xM.view.ty.Contents (Elt F)) (Wt : Dev nD → wM.view.ty.Contents (Elt F)) (K : Dev nD × Key → ℕ) (κ : SKey → ℕ)

/-- The product a device keeps. -/
def prod (c : Dev nD) : partM.view.ty.Contents (Elt F) := k0_pay1 (X c) (Wt c)

def xPts (c : Dev nD) : sProp 𝕄 := xM.view.loc (c : Thread nD τ) ↦[Finset.univ]{fullShare} X c
def wPts (c : Dev nD) : sProp 𝕄 := wM.view.loc (c : Thread nD τ) ↦[Finset.univ]{fullShare} Wt c
def partAny (c : Dev nD) : sProp 𝕄 := slot (partM.view.loc (c : Thread nD τ)) Finset.univ

theorem zero2 : (![0, 0] : Fin 2 → ℕ) = fun _ => 0 := by decide

theorem wp_body (c : Dev nD) (Q : PUnit → sProp 𝕄) :
    iprop(Know (msg (prod X Wt)) K κ ∗ Hold c ∗ partAny c ∗ (sbWhole c .R ∗ sbWhole c .L) ∗ (rbWhole c .R ∗ rbWhole c .L)
        ∗ xPts X c ∗ wPts Wt c ∗ (∃ f, outPts c f) ∗ owesE c (O₀ c))
      ⊢ iprop(((partAny c ∗ (sbWhole c .R ∗ sbWhole c .L) ∗ (rbWhole c .R ∗ rbWhole c .L) ∗ laneSems0 c ∗ semVal (barC c) 0
          ∗ xPts X c ∗ wPts Wt c ∗ outPts c (outAt (prod X Wt) c) ∗ owesE c 0) -∗ Q ⟨⟩) -∗ WP c body Q) := by
  unfold body Hold O₀ partAny slot xPts wPts
  simp only [WP, wp_deviceId]
  iintro ⟨#HK, ⟨Hseed, Hbp, Hbt, Hbt', Hbc⟩, ⟨%f, Hp⟩, Hsb, Hrb, Hx, Hw, ⟨%fo, Hf⟩, HO⟩ Hk
  imod (seeds_states (msg (prod X Wt)) K κ c) $$ [Hseed Hsb Hrb] with ⟨Hst, #HR, #HL⟩
  · isplitr; · iexact HK
    isplitl [Hseed]; · iexact Hseed
    isplitl [Hrb]; · iexact Hrb
    iexact Hsb
  iapply (wp_handshake (msg (prod X Wt)) K κ c (laneSum (fun ℓ => debt c ℓ 0) lanes) (laneSum_above (debt_zero_above c) lanes)) $$ [Hbp Hbt Hbt' Hbc HO]
  · isplitr; · iexact HK
    isplitr
    · isplitr; · iexact HR
      iexact HL
    isplitl [Hbp]; · iexact Hbp
    isplitl [Hbt]; · iexact Hbt
    isplitl [Hbt']; · iexact Hbt'
    isplitl [Hbc]; · iexact Hbc
    iexact HO
  iintro ⟨#Ho, Hbp, HO⟩
  iapply (wp_load_rect 𝒱₀ (c : Thread nD τ) none Set.univ (m := xM) (r := Rect.unit (s := S4096x128) ![0, 0] S4096x128.size inb_S4096x128_S4096x128_0_0) (Finset.subset_univ _)) $$ Hx
  iintro Hx
  iapply (wp_load_rect 𝒱₀ (c : Thread nD τ) none Set.univ (m := wM) (r := Rect.unit (s := S128x2048) ![0, 0] S128x2048.size inb_S128x2048_S128x2048_0_0) (Finset.subset_univ _)) $$ Hw
  iintro Hw
  rw [show (xM.access (Rect.unit (s := S4096x128) ![0, 0] S4096x128.size inb_S4096x128_S4096x128_0_0)).read (Elt F) (X c) = X c from
      Memref.read_access_unit_zero (Elt F) cc0_stg0_0 zero2 inb_S4096x128_S4096x128_0_0 (X c),
    show (wM.access (Rect.unit (s := S128x2048) ![0, 0] S128x2048.size inb_S128x2048_S128x2048_0_0)).read (Elt F) (Wt c) = Wt c from
      Memref.read_access_unit_zero (Elt F) cc0_stg1_0 zero2 inb_S128x2048_S128x2048_0_0 (Wt c)]
  iapply (wp_load_rect 𝒱₀ (c : Thread nD τ) none Set.univ (m := partM) (r := Rect.unit (s := S4096x2048) ![0, 0] S4096x2048.size inb_S4096x2048_S4096x2048_0_0) (Finset.subset_univ _)) $$ Hp
  iintro Hp
  iapply (wp_store 𝒱₀ (c : Thread nD τ) none Set.univ (m := partM) (r := Rect.unit (s := S4096x2048) ![0, 0] S4096x2048.size inb_S4096x2048_S4096x2048_0_0) (Mk := Finset.univ) (Finset.subset_univ _)) $$ Hp
  iintro Hp
  rw [show (partM.access (Rect.unit (s := S4096x2048) ![0, 0] S4096x2048.size inb_S4096x2048_S4096x2048_0_0)).write (Elt F) f (k0_pay1 (X c) (Wt c)) Finset.univ = prod X Wt c from
    Memref.write_access_unit_zero_univ (Elt F) cc0_scratch0 zero2 inb_S4096x2048_S4096x2048_0_0 f (k0_pay1 (X c) (Wt c))]
  iapply (wp_loop (prod X Wt) K κ c) $$ [Hp Hst HO]
  · isplitr; · iexact HK
    isplitr; · iexact Ho
    isplitl [Hp]; · unfold partPts; iexact Hp
    isplitl [Hst]; · iexact Hst
    iexact HO
  iintro ⟨Hp, Hst, HO⟩
  rw [finishes_eq]
  iapply (wp_finishesOf (prod X Wt) K κ c _ _ lanes fo) $$ [Hp Hf Hst HO]
  · isplitr; · iexact HK
    isplitl [Hp]; · iexact Hp
    isplitl [Hf]; · iexact Hf
    isplitl [Hst]; · iexact Hst
    iexact HO
  iintro ⟨Hp, Hf, Hd, HO⟩
  imod (close_all (msg (prod X Wt)) K κ c) $$ [Hd Hbp] with ⟨Hrb, Hsb, Hl, Hb⟩
  · isplitr; · iexact HK
    isplitl [Hd]; · iexact Hd
    iexact Hbp
  rw [fold_outAt, wp_ret]
  imodintro
  iapply Hk
  isplitl [Hp]; · iexists prod X Wt c; unfold partPts; iexact Hp
  isplitl [Hsb]; · iexact Hsb
  isplitl [Hrb]; · iexact Hrb
  isplitl [Hl]; · iexact Hl
  isplitl [Hb]; · iexact Hb
  isplitl [Hx]; · iexact Hx
  isplitl [Hw]; · iexact Hw
  isplitl [Hf]; · iexact Hf
  iexact HO

end Run

end Cert.Exchange

end
-- ==== Proof.Fund.lean ====
/-
# What the launch deals

The protocol's ghost state is made once for the whole mesh: the cells at round 0 with one token for every duty of every
round, the landing slots not yet released with one token for every transfer. Each token goes to the device that pays
the duty, each position to the device that waits, and the launch's credits are the neighbours' debts read from the
other side.
-/
module

public import proofs.«01_k».proof.Proof.Run

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Counting -/

omit [FloatOps F] in
/-- Over the first `n` numbers, as over `Fin n`. -/
theorem fin_ico (n : ℕ) (Φ : ℕ → sProp 𝕄) : (bigSep Finset.univ fun i : Fin n => Φ i.val) = bigSep (Finset.Ico 0 n) Φ := by
  have e : Finset.Ico 0 n = (Finset.univ : Finset (Fin n)).map Fin.valEmbedding := by
    ext i; constructor
    · intro h; exact Finset.mem_map.mpr ⟨⟨i, (Finset.mem_Ico.mp h).2⟩, Finset.mem_univ _, rfl⟩
    · intro h; obtain ⟨j, -, rfl⟩ := Finset.mem_map.mp h; exact Finset.mem_Ico.mpr ⟨Nat.zero_le _, j.isLt⟩
  rw [e, bigSep_map]; rfl

omit [FloatOps F] in
/-- Over a device's semaphores: the barrier's and, lane by lane, the seven of the lane. -/
theorem keys_split (Φ : Key → sProp 𝕄) : bigSep Finset.univ Φ
    = iprop(Φ none ∗ bigSep Finset.univ fun ℓ : Lane =>
        iprop((bigSep Finset.univ fun p : Fin 2 => Φ (kSS ℓ p)) ∗ (bigSep Finset.univ fun q : Fin 4 => Φ (kRS ℓ q)) ∗ Φ (kCR ℓ))) := by
  have e : (Finset.univ : Finset Key) = insert none (Finset.univ.map Function.Embedding.some) := by
    ext k; cases k <;> simp
  rw [e, bigSep_insert (by simp), bigSep_map]
  have e2 : (bigSep Finset.univ fun i : Lane × LKey => Φ (Function.Embedding.some i))
      = bigSep Finset.univ fun ℓ : Lane => bigSep Finset.univ fun k : LKey => Φ (some (ℓ, k)) :=
    bigSep_univ_prod (fun i : Lane × LKey => Φ (some i))
  rw [e2]
  refine congrArg (fun X => iprop(Φ none ∗ X)) (bigSep_congr fun ℓ _ => ?_)
  rw [bigSep_univ_sum, bigSep_univ_sum, show (Finset.univ : Finset Unit) = {()} from rfl, bigSep_singleton]; rfl

/-- Downstream along a lane, as a permutation of the devices. -/
def dstE (ℓ : Lane) : Dev nD ≃ Dev nD := ⟨dstL ℓ, upsL ℓ, ups_dst ℓ, dst_ups ℓ⟩
/-- To the left around the ring. -/
def lftE : Dev nD ≃ Dev nD := ⟨lftD, rgtD, rgt_lft, lft_rgt⟩

omit [FloatOps F] in
/-- Over all devices and lanes, whether each is counted at itself or at its image. -/
theorem redeal (σ : Lane → (Dev nD ≃ Dev nD)) (Φ : Dev nD → Lane → sProp 𝕄) :
    (bigSep Finset.univ fun c => bigSep Finset.univ fun ℓ => Φ (σ ℓ c) ℓ) = bigSep Finset.univ fun c => bigSep Finset.univ fun ℓ => Φ c ℓ := by
  rw [bigSep_univ_comm, bigSep_univ_comm (fun c ℓ => Φ c ℓ)]
  exact bigSep_congr fun ℓ _ => (bigSep_univ_equiv (σ ℓ) (fun c => Φ c ℓ)).symm

/-! ## The ghost state -/

theorem cell_inj {c c' : Dev nD} {k k' : Key} (h : cell c k = cell c' k') : c = c' ∧ k = k' :=
  ⟨congrArg (fun g : GSem nD τ sig => g.1.1) h, semOf_inj (congrArg Prod.snd h)⟩
def cellE : Dev nD × Key ↪ GSem nD τ sig :=
  ⟨fun x => cell x.1 x.2, fun x x' h => Prod.ext (cell_inj h).1 (cell_inj h).2⟩

/-- The duties there are: of each device's cells, lane by lane — landings, sends, credits — and the barrier's two. -/
abbrev TKey : Type := (Dev nD × Lane × (Fin 31 ⊕ Fin 31 ⊕ Fin 30)) ⊕ (Dev nD × Fin 2)
def tokOf : TKey → GSem nD τ sig × ℕ × ℕ
  | .inl (c, ℓ, .inl m) => (rsC c ℓ m.val, m.val / 4, 0)
  | .inl (c, ℓ, .inr (.inl m)) => (ssC c ℓ m.val, m.val / 2, 0)
  | .inl (c, ℓ, .inr (.inr k)) => (crC c ℓ, 0, k.val)
  | .inr (c, d) => (barC c, 0, d.val)

theorem tokOf_cell : ∀ {c c' : Dev nD} {k k' : Key} {r r' d d' : ℕ}, ((cell c k, r, d) : GSem nD τ sig × ℕ × ℕ) = (cell c' k', r', d') →
    c = c' ∧ k = k' ∧ r = r' ∧ d = d' := fun h =>
  ⟨(cell_inj (congrArg Prod.fst h)).1, (cell_inj (congrArg Prod.fst h)).2, congrArg (fun x => x.2.1) h, congrArg (fun x => x.2.2) h⟩

theorem tokOf_inj : Function.Injective tokOf := by
  rintro (⟨c, ℓ, m | m | m⟩ | ⟨c, d⟩) (⟨c', ℓ', m' | m' | m'⟩ | ⟨c', d'⟩) h <;> obtain ⟨rfl, h2, h3, h4⟩ := tokOf_cell h
  · obtain ⟨rfl, h5⟩ := Prod.mk.inj (Option.some.inj h2)
    have h6 : m.val % 4 = m'.val % 4 := congrArg Fin.val (Sum.inl.inj (Sum.inr.inj h5))
    have : m = m' := Fin.ext (by omega)
    rw [this]
  · exact absurd (congrArg Prod.snd (Option.some.inj h2)) (by rintro ⟨⟩)
  · exact absurd (Sum.inr.inj (congrArg Prod.snd (Option.some.inj h2))) (by rintro ⟨⟩)
  · exact absurd h2 (by rintro ⟨⟩)
  · exact absurd (congrArg Prod.snd (Option.some.inj h2)) (by rintro ⟨⟩)
  · obtain ⟨rfl, h5⟩ := Prod.mk.inj (Option.some.inj h2)
    have h6 : m.val % 2 = m'.val % 2 := congrArg Fin.val (Sum.inl.inj h5)
    have : m = m' := Fin.ext (by omega)
    rw [this]
  · exact absurd (congrArg Prod.snd (Option.some.inj h2)) (by rintro ⟨⟩)
  · exact absurd h2 (by rintro ⟨⟩)
  · exact absurd (Sum.inr.inj (congrArg Prod.snd (Option.some.inj h2))) (by rintro ⟨⟩)
  · exact absurd (congrArg Prod.snd (Option.some.inj h2)) (by rintro ⟨⟩)
  · obtain ⟨rfl, h5⟩ := Prod.mk.inj (Option.some.inj h2)
    have : m = m' := Fin.ext h4
    rw [this]
  · exact absurd h2 (by rintro ⟨⟩)
  · exact absurd h2 (by rintro ⟨⟩)
  · exact absurd h2 (by rintro ⟨⟩)
  · exact absurd h2 (by rintro ⟨⟩)
  · have : d = d' := Fin.ext h4
    rw [this]

/-- All the cells, all the duties' tokens; the launch element of the protocol. -/
def cells : Finset (GSem nD τ sig) := Finset.univ.map cellE
def toks : Finset (GSem nD τ sig × ℕ × ℕ) := Finset.univ.map ⟨tokOf, tokOf_inj⟩
def u₁ : UA × UC := (initOf cells toks, initSlots Finset.univ 8)

/-! ## Dealing -/

/-- What a lane's device gets of the ghost state. -/
def Deal1 (c : Dev nD) (ℓ : Lane) : sProp 𝕄 :=
  iprop(bigSep (Finset.Ico 0 4) (rpos c ℓ) ∗ (bigSep (Finset.Ico 0 4) fun m => readerAt ES (slK c ℓ m) 0)
    ∗ bigSep (Finset.Ico 0 31) (rtok c ℓ) ∗ bigSep (Finset.Ico 0 31) (wtok c ℓ) ∗ bigSep (Finset.Ico 0 31) (stok c ℓ)
    ∗ bigSep (Finset.Ico 0 2) (spos c ℓ) ∗ bigSep (Finset.Ico 0 30) (ctok c ℓ) ∗ atPos ER (crC c ℓ) 0 ∅ 0)
/-- What a device gets of it. -/
def Deal (c : Dev nD) : sProp 𝕄 :=
  iprop(bigSep Finset.univ (Deal1 c) ∗ atPos ER (barC c) 0 ∅ 0 ∗ dutyTok ER (barC (lftD c)) 0 0 ∗ dutyTok ER (barC (rgtD c)) 0 1)

omit [FloatOps F] in
theorem toks_deal : (bigSep toks fun x => (dutyTok ER x.1 x.2.1 x.2.2 : sProp 𝕄))
    = iprop(((bigSep Finset.univ fun c => bigSep Finset.univ fun ℓ => bigSep (Finset.Ico 0 31) (rtok c ℓ))
        ∗ (bigSep Finset.univ fun c => bigSep Finset.univ fun ℓ => bigSep (Finset.Ico 0 31) (stok c ℓ))
        ∗ (bigSep Finset.univ fun c => bigSep Finset.univ fun ℓ => bigSep (Finset.Ico 0 30) (ctok c ℓ)))
      ∗ (bigSep Finset.univ fun c => dutyTok ER (barC (lftD c)) 0 0) ∗ (bigSep Finset.univ fun c => dutyTok ER (barC (rgtD c)) 0 1)) := by
  have h1 : (bigSep Finset.univ fun c => bigSep Finset.univ fun ℓ => bigSep (Finset.Ico 0 31) (rtok (F := F) c ℓ))
      = bigSep Finset.univ fun c => bigSep Finset.univ fun ℓ => bigSep Finset.univ fun m : Fin 31 => dutyTok ER (rsC c ℓ m.val) (m.val / 4) 0 := by
    refine Eq.trans ?_ (redeal dstE fun c ℓ => bigSep Finset.univ fun m : Fin 31 => dutyTok ER (rsC c ℓ m.val) (m.val / 4) 0)
    exact bigSep_congr fun c _ => bigSep_congr fun ℓ _ => (fin_ico 31 (rtok c ℓ)).symm
  have h2 : (bigSep Finset.univ fun c => bigSep Finset.univ fun ℓ => bigSep (Finset.Ico 0 31) (stok (F := F) c ℓ))
      = bigSep Finset.univ fun c => bigSep Finset.univ fun ℓ => bigSep Finset.univ fun m : Fin 31 => dutyTok ER (ssC c ℓ m.val) (m.val / 2) 0 :=
    bigSep_congr fun c _ => bigSep_congr fun ℓ _ => (fin_ico 31 (stok c ℓ)).symm
  have h3 : (bigSep Finset.univ fun c => bigSep Finset.univ fun ℓ => bigSep (Finset.Ico 0 30) (ctok (F := F) c ℓ))
      = bigSep Finset.univ fun c => bigSep Finset.univ fun ℓ => bigSep Finset.univ fun k : Fin 30 => dutyTok ER (crC c ℓ) 0 k.val := by
    refine Eq.trans ?_ (redeal (fun ℓ => (dstE ℓ).symm) fun c ℓ => bigSep Finset.univ fun k : Fin 30 => dutyTok ER (crC c ℓ) 0 k.val)
    exact bigSep_congr fun c _ => bigSep_congr fun ℓ _ => (fin_ico 30 (ctok c ℓ)).symm
  have h4 : (bigSep Finset.univ fun c => (dutyTok ER (barC (lftD c)) 0 0 : sProp 𝕄)) = bigSep Finset.univ fun c => dutyTok ER (barC c) 0 0 :=
    (bigSep_univ_equiv lftE fun c => (dutyTok ER (barC c) 0 0 : sProp 𝕄)).symm
  have h5 : (bigSep Finset.univ fun c => (dutyTok ER (barC (rgtD c)) 0 1 : sProp 𝕄)) = bigSep Finset.univ fun c => dutyTok ER (barC c) 0 1 :=
    (bigSep_univ_equiv lftE.symm fun c => (dutyTok ER (barC c) 0 1 : sProp 𝕄)).symm
  rw [h1, h2, h3, h4, h5]
  unfold toks
  rw [bigSep_map, bigSep_univ_sum]
  have e1 : (bigSep Finset.univ fun a : Dev nD × Lane × (Fin 31 ⊕ Fin 31 ⊕ Fin 30) =>
        (dutyTok ER (tokOf (.inl a)).1 (tokOf (.inl a)).2.1 (tokOf (.inl a)).2.2 : sProp 𝕄))
      = iprop((bigSep Finset.univ fun c => bigSep Finset.univ fun ℓ => bigSep Finset.univ fun m : Fin 31 => dutyTok ER (rsC c ℓ m.val) (m.val / 4) 0)
        ∗ (bigSep Finset.univ fun c => bigSep Finset.univ fun ℓ => bigSep Finset.univ fun m : Fin 31 => dutyTok ER (ssC c ℓ m.val) (m.val / 2) 0)
        ∗ (bigSep Finset.univ fun c => bigSep Finset.univ fun ℓ => bigSep Finset.univ fun k : Fin 30 => dutyTok ER (crC c ℓ) 0 k.val)) := by
    simp only [← bigSep_sep']
    refine (bigSep_univ_prod _).trans (bigSep_congr fun c _ => (bigSep_univ_prod _).trans (bigSep_congr fun ℓ _ => ?_))
    rw [bigSep_univ_sum, bigSep_univ_sum]; rfl
  have e2 : (bigSep Finset.univ fun b : Dev nD × Fin 2 => (dutyTok ER (tokOf (.inr b)).1 (tokOf (.inr b)).2.1 (tokOf (.inr b)).2.2 : sProp 𝕄))
      = iprop((bigSep Finset.univ fun c => dutyTok ER (barC c) 0 0) ∗ (bigSep Finset.univ fun c => dutyTok ER (barC c) 0 1)) := by
    rw [bigSep_univ_prod, ← bigSep_sep']
    exact bigSep_congr fun c _ => by rw [bigSep_univ_two]; rfl
  exact congrArg₂ (fun A B => iprop(A ∗ B)) e1 e2

omit [FloatOps F] in
theorem pos_deal : (bigSep cells fun g => (atPos ER g 0 ∅ 0 : sProp 𝕄))
    = iprop((bigSep Finset.univ fun c => atPos ER (barC c) 0 ∅ 0)
      ∗ (bigSep Finset.univ fun c => bigSep Finset.univ fun ℓ => bigSep (Finset.Ico 0 2) (spos c ℓ))
      ∗ (bigSep Finset.univ fun c => bigSep Finset.univ fun ℓ => bigSep (Finset.Ico 0 4) (rpos c ℓ))
      ∗ (bigSep Finset.univ fun c => bigSep Finset.univ fun ℓ => atPos ER (crC c ℓ) 0 ∅ 0)) := by
  unfold cells
  rw [bigSep_map, bigSep_univ_prod]
  have e2 (c : Dev nD) (ℓ : Lane) : bigSep (Finset.Ico 0 2) (spos (F := F) c ℓ) = bigSep Finset.univ fun p : Fin 2 => atPos ER (cell c (kSS ℓ p)) 0 ∅ 0 := by
    rw [← two_of (fun m => (atPos ER (ssC c ℓ m) 0 ∅ 0 : sProp 𝕄)) _ 0 fun m => rfl]
    exact bigSep_congr fun m hm => by unfold spos; rw [Nat.div_eq_of_lt (Finset.mem_Ico.mp hm).2]
  have e4 (c : Dev nD) (ℓ : Lane) : bigSep (Finset.Ico 0 4) (rpos (F := F) c ℓ) = bigSep Finset.univ fun q : Fin 4 => atPos ER (cell c (kRS ℓ q)) 0 ∅ 0 := by
    rw [← four_of (fun m => (atPos ER (rsC c ℓ m) 0 ∅ 0 : sProp 𝕄)) _ 0 fun m => rfl]
    exact bigSep_congr fun m hm => by unfold rpos; rw [Nat.div_eq_of_lt (Finset.mem_Ico.mp hm).2]
  simp only [e2, e4, ← bigSep_sep']
  exact bigSep_congr fun c _ => keys_split fun k => (atPos ER (cell c k) 0 ∅ 0 : sProp 𝕄)

/-- Which slot, and which transfer into it, a message is. -/
def wOf (x : Dev nD × Lane × Fin 31) : SKey × ℕ := (slK x.1 x.2.1 x.2.2.val, x.2.2.val / 4)
theorem wOf_inj : Function.Injective wOf := by
  rintro ⟨c, ℓ, m⟩ ⟨c', ℓ', m'⟩ h
  have h1 : c = c' := congrArg (fun x => x.1.1) h
  have h2 : ℓ = ℓ' := congrArg (fun x => x.1.2.1) h
  have h3 : m.val % 4 = m'.val % 4 := congrArg (fun x => x.1.2.2.val) h
  have h4 : m.val / 4 = m'.val / 4 := congrArg (fun x => x.2) h
  have : m = m' := Fin.ext (by omega)
  rw [h1, h2, this]

def wE : Dev nD × Lane × Fin 31 ↪ SKey × ℕ := ⟨wOf, wOf_inj⟩

omit [FloatOps F] in
theorem wtoks_deal : (bigSep ((Finset.univ : Finset SKey) ×ˢ Finset.range 8) fun x => (writeTok ES x.1 (x.2 + 1) : sProp 𝕄))
    ⊢ bigSep Finset.univ fun c => bigSep Finset.univ fun ℓ => bigSep (Finset.Ico 0 31) (wtok c ℓ) := by
  have h8 (x : Dev nD × Lane × Fin 31) : (wOf x).2 < 8 := by
    have h := x.2.2.isLt
    unfold wOf; dsimp only; omega
  have hsub : Finset.univ.map wE ⊆ (Finset.univ : Finset SKey) ×ˢ Finset.range 8 := by
    intro y hy
    rw [Finset.mem_map] at hy
    cases hy with
    | intro x hx =>
      have h9 : y.2 < 8 := by rw [← hx.2]; exact h8 x
      rw [Finset.mem_product, Finset.mem_range]
      exact ⟨Finset.mem_univ y.1, h9⟩
  have h1 : (bigSep Finset.univ fun c => bigSep Finset.univ fun ℓ => bigSep (Finset.Ico 0 31) (wtok (F := F) c ℓ))
      = bigSep Finset.univ fun c => bigSep Finset.univ fun ℓ => bigSep Finset.univ fun m : Fin 31 => writeTok ES (slK c ℓ m.val) (m.val / 4 + 1) := by
    refine Eq.trans ?_ (redeal dstE fun c ℓ => bigSep Finset.univ fun m : Fin 31 => writeTok ES (slK c ℓ m.val) (m.val / 4 + 1))
    exact bigSep_congr fun c _ => bigSep_congr fun ℓ _ => (fin_ico 31 (wtok c ℓ)).symm
  have e : (bigSep (Finset.univ.map wE) fun x => (writeTok ES x.1 (x.2 + 1) : sProp 𝕄))
      = bigSep Finset.univ fun c => bigSep Finset.univ fun ℓ => bigSep (Finset.Ico 0 31) (wtok (F := F) c ℓ) := by
    rw [h1, bigSep_map]
    exact (bigSep_univ_prod _).trans (bigSep_congr fun c _ => bigSep_univ_prod _)
  rw [← e]
  exact bigSep_subset hsub

omit [FloatOps F] in
theorem readers_deal : (bigSep Finset.univ fun k : SKey => (readerAt ES k 0 : sProp 𝕄))
    = bigSep Finset.univ fun c => bigSep Finset.univ fun ℓ => bigSep (Finset.Ico 0 4) fun m => readerAt ES (slK c ℓ m) 0 := by
  rw [bigSep_univ_prod]
  refine bigSep_congr fun c _ => ?_
  rw [bigSep_univ_prod]
  exact bigSep_congr fun ℓ _ => (four_of (fun m => readerAt ES (slK c ℓ m) 0) (fun q : Fin 4 => (readerAt ES (c, ℓ, q) 0 : sProp 𝕄)) 0 fun m => rfl).symm

section Fund

variable (M : Lane → ℕ → Dev nD → FVec F S128x256 .bf16)

/-- What is known of the cells and the slots before the cells' invariants are made. -/
def Pre (κ : SKey → ℕ) : sProp 𝕄 :=
  iprop((bigSep Finset.univ fun x : Dev nD × Key => reached ER (cell x.1 x.2) 0)
    ∗ (bigSep Finset.univ fun k : SKey => slotInv ES (κ k) k (rbAny k.1 k.2.1 k.2.2)))
omit [FloatOps F] in
instance Pre_persistent (κ : SKey → ℕ) : BI.Persistent (Pre (F := F) κ) := by unfold Pre; infer_instance

/-- What the launch element deals each device. -/
def G (c : Dev nD) : sProp 𝕄 :=
  iprop((bigSep Finset.univ fun k : Key => roundState ER (sched M) (cell c k) 0) ∗ (∃ κ, Pre κ) ∗ Deal c)

theorem fund : (BI.own (embR u₁) : sProp 𝕄) ⊢ |={Set.univ}=> bigSep Finset.univ (G M) := by
  unfold u₁
  iintro H
  ihave H' := (own_pair_emb (embR : Emb (UA × UC) 𝕄) (initOf cells toks) (initSlots Finset.univ 8)) $$ H
  icases H' with ⟨HA, HC⟩
  imod (Rounds.fund ER (sched M) cells toks) $$ HA with ⟨Hst, #Hr, Hat, Htok⟩
  imod (slots_init ES Finset.univ 8 (fun k : SKey => rbAny (F := F) k.1 k.2.1 k.2.2)) $$ HC with ⟨%κ, -, #Hinv, Hread, Hw⟩
  imodintro
  ihave Hst' := (Entails.of_eq (show (bigSep cells fun g => roundState ER (sched M) g 0)
    = bigSep Finset.univ fun c : Dev nD => bigSep Finset.univ fun k : Key => roundState ER (sched M) (cell c k) 0 by
      unfold cells; rw [bigSep_map, bigSep_univ_prod]; rfl)) $$ Hst
  ihave #Hr' := (Entails.of_eq (show (bigSep cells fun g => (reached ER g 0 : sProp 𝕄))
    = bigSep Finset.univ fun x : Dev nD × Key => reached ER (cell x.1 x.2) 0 by
      unfold cells; rw [bigSep_map]; rfl)) $$ Hr
  ihave Hat' := (Entails.of_eq pos_deal) $$ Hat
  icases Hat' with ⟨Hb, Hs, Hrp, Hc⟩
  ihave Htok' := (Entails.of_eq toks_deal) $$ Htok
  icases Htok' with ⟨⟨Hrt, Hstk, Hct⟩, Hb0, Hb1⟩
  ihave Hw' := wtoks_deal $$ Hw
  ihave Hread' := (Entails.of_eq readers_deal) $$ Hread
  iapply (bigSep_with_persistent (R := Pre κ) (Φ := fun c => iprop((bigSep Finset.univ fun k : Key => roundState ER (sched M) (cell c k) 0) ∗ Deal c)) fun c _ => by
    show iprop(Pre κ ∗ _) ⊢ G M c
    unfold G
    iintro ⟨#Hp, H1, H2⟩
    isplitl [H1]; · iexact H1
    isplitr; · iexists κ; iexact Hp
    iexact H2)
  isplitr
  · unfold Pre; isplitr; · iexact Hr'
    iexact Hinv
  unfold Deal Deal1
  simp only [bigSep_sep']
  isplitl [Hst']; · iexact Hst'
  isplitr [Hb Hb0 Hb1]
  · isplitl [Hrp]; · iexact Hrp
    isplitl [Hread']; · iexact Hread'
    isplitl [Hrt]; · iexact Hrt
    isplitl [Hw']; · iexact Hw'
    isplitl [Hstk]; · iexact Hstk
    isplitl [Hs]; · iexact Hs
    isplitl [Hct]; · iexact Hct
    iexact Hc
  isplitl [Hb]; · iexact Hb
  isplitl [Hb0]; · iexact Hb0
  iexact Hb1

/-! ## The cells' invariants -/

/-- The exchange's own semaphores, of the lanes. -/
abbrev osem (k : Lane × LKey) : SemLoc sig := semOf (some k)

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

/-- What a device has once its cells are invariants. -/
def G₁ (c : Dev nD) : sProp 𝕄 :=
  iprop((bigSep Finset.univ fun k : Key => iprop(∃ κ : ℕ, cellInv ER (sched M) κ (cell c k))) ∗ (∃ κ, Pre κ) ∗ Deal c)
/-- What each device starts from. -/
def G' (c : Dev nD) : sProp 𝕄 :=
  iprop((∃ K : Dev nD × Key → ℕ, ∃ κ : SKey → ℕ, (bigSep Finset.univ fun x : Dev nD × Key => cellInv ER (sched M) (K x) (cell x.1 x.2)) ∗ Pre κ) ∗ Deal c)

theorem alloc (c : Dev nD) :
    iprop(Pipeline.ownSems0 (Ix := ℕ) (Name := ℕ) (U := UU) (Lvl := ℕ) (Val := Elt F) (τ := τ) osem c ∗ unscopedSems0 c ∗ G M c) ⊢ |={Set.univ}=> G₁ M c := by
  have hv : iprop(Pipeline.ownSems0 (Ix := ℕ) (Name := ℕ) (U := UU) (Lvl := ℕ) (Val := Elt F) (τ := τ) osem c ∗ unscopedSems0 c)
      ⊢ (bigSep Finset.univ fun k : Key => semVal (cell c k) 0 : sProp 𝕄) := by
    rw [keys_split fun k => (semVal (cell c k) 0 : sProp 𝕄), unscopedSems0_eq]
    have e : (Pipeline.ownSems0 (Ix := ℕ) (Name := ℕ) (U := UU) (Lvl := ℕ) (Val := Elt F) (τ := τ) osem c : sProp 𝕄)
        = bigSep Finset.univ fun ℓ : Lane => iprop((bigSep Finset.univ fun p : Fin 2 => semVal (cell c (kSS ℓ p)) 0)
          ∗ (bigSep Finset.univ fun q : Fin 4 => semVal (cell c (kRS ℓ q)) 0) ∗ semVal (cell c (kCR ℓ)) 0) := by
      refine (bigSep_univ_prod (fun k : Lane × LKey => (semVal (cell c (some k)) 0 : sProp 𝕄))).trans (bigSep_congr fun ℓ _ => ?_)
      rw [bigSep_univ_sum, bigSep_univ_sum, show (Finset.univ : Finset Unit) = {()} from rfl, bigSep_singleton]; rfl
    rw [e]
    iintro ⟨H1, H2⟩
    isplitl [H2]; · iexact H2
    iexact H1
  have ha : iprop((bigSep Finset.univ fun k : Key => semVal (cell c k) 0) ∗ bigSep Finset.univ fun k : Key => roundState ER (sched M) (cell c k) 0)
      ⊢ (|={Set.univ}=> bigSep Finset.univ fun k : Key => iprop(∃ κ : ℕ, cellInv ER (sched M) κ (cell c k)) : sProp 𝕄) := by
    rw [← bigSep_sep']
    exact (bigSep_mono fun k _ => (Rounds.body_intro ER (sched M) (cell c k)).trans inv_alloc).trans (bigSep_fupd _ _)
  unfold G G₁
  iintro ⟨Ho, Hu, Hst, Hp, Hd⟩
  ihave Hv := hv $$ [Ho Hu]
  · isplitl [Ho] <;> iassumption
  imod ha $$ [Hv Hst] with Hi
  · isplitl [Hv] <;> iassumption
  imodintro
  isplitl [Hi]; · iexact Hi
  isplitl [Hp] <;> iassumption

theorem regroup : bigSep Finset.univ (G₁ M) ⊢ bigSep Finset.univ (G' M) := by
  have : DecidableEq Key := inferInstance
  unfold G₁
  rw [bigSep_sep', bigSep_sep', ← bigSep_univ_prod (fun x : Dev nD × Key => iprop(∃ κ : ℕ, cellInv ER (sched M) κ (cell x.1 x.2)))]
  iintro ⟨HI, HP, HD⟩
  ihave HK := (BI.bigSep_exists_pi Finset.univ (fun (x : Dev nD × Key) (κ : ℕ) => (cellInv ER (sched M) κ (cell x.1 x.2) : sProp 𝕄))) $$ HI
  icases HK with ⟨%K, #HI⟩
  have hG (c : Dev nD) : iprop((bigSep Finset.univ fun x : Dev nD × Key => cellInv ER (sched M) (K x) (cell x.1 x.2)) ∗ (∃ κ, Pre (F := F) κ) ∗ Deal c) ⊢ G' M c := by
    unfold G'
    iintro ⟨#HI, ⟨%κ, #HP⟩, HD⟩
    isplitr
    · iexists K; iexists κ
      isplitr; · iexact HI
      iexact HP
    iexact HD
  iapply (bigSep_with_persistent (R := bigSep Finset.univ fun x : Dev nD × Key => cellInv ER (sched M) (K x) (cell x.1 x.2))
    (Φ := fun c => iprop((∃ κ, Pre (F := F) κ) ∗ Deal c)) fun c _ => hG c)
  isplitr; · iexact HI
  rw [bigSep_sep']
  isplitl [HP] <;> iassumption

/-- The one step of the whole mesh at launch. -/
theorem glob : (bigSep Finset.univ fun c => iprop(Pipeline.ownSems0 (Ix := ℕ) (Name := ℕ) (U := UU) (Lvl := ℕ) (Val := Elt F) (τ := τ) osem c ∗ unscopedSems0 c ∗ G M c) : sProp 𝕄)
    ⊢ |={Set.univ}=> bigSep Finset.univ (G' M) :=
  ((bigSep_mono fun c _ => alloc M c).trans (bigSep_fupd _ _)).trans (BI.fupd_mono (regroup M))

/-! ## The credits -/

omit [FloatOps F] in
/-- What the neighbours owe a device, as its credits. -/
theorem creds (c : Dev nD) : (Pipeline.launchCred O₀ c : sProp 𝕄)
    ⊢ iprop((bigSep Finset.univ fun ℓ : Lane => iprop(bigSep (Finset.Ico 0 31) (rcred c ℓ) ∗ bigSep (Finset.Ico 0 30) (ccred c ℓ))) ∗ cred (tallyAt (barC c) 1 2)) := by
  have e : (O₀ : Dev nD → Debt) = fun d => (∑ ℓ : Lane, ((∑ m ∈ Finset.Ico 0 31, dMsg d ℓ m) + ∑ k ∈ Finset.Ico 0 30, dCrd d ℓ k))
      + tallyAt (barC (rgtD d)) 1 1 + tallyAt (barC (lftD d)) 1 1 := by
    funext d; unfold O₀; rw [laneSum_lanes]; rfl
  rw [e, Pipeline.launchCred_add, Pipeline.launchCred_add, Pipeline.launchCred_sum]
  have hl (ℓ : Lane) : (Pipeline.launchCred (fun d => (∑ m ∈ Finset.Ico 0 31, dMsg d ℓ m) + ∑ k ∈ Finset.Ico 0 30, dCrd d ℓ k) c : sProp 𝕄)
      ⊢ iprop(bigSep (Finset.Ico 0 31) (rcred c ℓ) ∗ bigSep (Finset.Ico 0 30) (ccred c ℓ)) := by
    rw [Pipeline.launchCred_add, Pipeline.launchCred_sum, Pipeline.launchCred_sum]
    have h1 : (bigSep (Finset.Ico 0 31) fun m => Pipeline.launchCred (fun d => dMsg d ℓ m) c : sProp 𝕄) ⊢ bigSep (Finset.Ico 0 31) (rcred c ℓ) :=
      bigSep_mono fun m _ => Pipeline.launchCred_tallyAt (semOf (rsK ℓ m)) (dstL ℓ) (upsL ℓ) (dst_ups ℓ) (ups_dst ℓ) (2 * m + 2) N c
    have h2 : (bigSep (Finset.Ico 0 30) fun k => Pipeline.launchCred (fun d => dCrd d ℓ k) c : sProp 𝕄) ⊢ bigSep (Finset.Ico 0 30) (ccred c ℓ) :=
      bigSep_mono fun k _ => Pipeline.launchCred_tallyAt (semOf (kCR ℓ)) (upsL ℓ) (dstL ℓ) (ups_dst ℓ) (dst_ups ℓ) (2 * k + 3) 1 c
    iintro ⟨H1, H2⟩
    isplitl [H1]
    · iapply h1 $$ H1
    · iapply h2 $$ H2
  have hb1 : (Pipeline.launchCred (fun d => tallyAt (barC (rgtD d)) 1 1) c : sProp 𝕄) ⊢ cred (tallyAt (barC c) 1 1) :=
    Pipeline.launchCred_tallyAt (semOf none) rgtD lftD rgt_lft lft_rgt 1 1 c
  have hb2 : (Pipeline.launchCred (fun d => tallyAt (barC (lftD d)) 1 1) c : sProp 𝕄) ⊢ cred (tallyAt (barC c) 1 1) :=
    Pipeline.launchCred_tallyAt (semOf none) lftD rgtD lft_rgt rgt_lft 1 1 c
  have hall : (bigSep Finset.univ fun ℓ : Lane => Pipeline.launchCred (fun d => (∑ m ∈ Finset.Ico 0 31, dMsg d ℓ m) + ∑ k ∈ Finset.Ico 0 30, dCrd d ℓ k) c : sProp 𝕄)
      ⊢ bigSep Finset.univ fun ℓ : Lane => iprop(bigSep (Finset.Ico 0 31) (rcred c ℓ) ∗ bigSep (Finset.Ico 0 30) (ccred c ℓ)) := bigSep_mono fun ℓ _ => hl ℓ
  iintro ⟨⟨H, H1⟩, H2⟩
  isplitl [H]
  · iapply hall $$ H
  ihave H1' := hb1 $$ H1
  ihave H2' := hb2 $$ H2
  iapply (show iprop(cred (tallyAt (barC c) 1 1) ∗ cred (tallyAt (barC c) 1 1)) ⊢ (cred (tallyAt (barC c) 1 2) : sProp 𝕄) by
    rw [show (tallyAt (barC c) 1 2 : Debt) = tallyAt (barC c) 1 1 + tallyAt (barC c) 1 1 from (tallyAt_add _ _ 1 1).symm]
    exact (cred_add _ _).2)
  isplitl [H1'] <;> iassumption

/-- A device's start: what it knows and what it holds. -/
theorem start_of (c : Dev nD) : iprop(levAts L lv ∗ Pipeline.launchCred O₀ c ∗ G' M c) ⊢ (∃ K κ, Know M K κ ∗ Hold c : sProp 𝕄) := by
  unfold G' Pre Know Deal Hold
  iintro ⟨#Hl, Hc, ⟨%K, %κ, #HI, #Hr, #Hs⟩, Hd, Hb, Hb0, Hb1⟩
  ihave Hc' := (creds c) $$ Hc
  icases Hc' with ⟨Hc, Hcb⟩
  iexists K; iexists κ
  isplitr
  · isplitr; · iexact HI
    isplitr; · iexact Hr
    isplitr; · iexact Hs
    iexact Hl
  isplitl [Hc Hd]
  · have e : iprop((bigSep Finset.univ fun ℓ : Lane => iprop(bigSep (Finset.Ico 0 31) (rcred (F := F) c ℓ) ∗ bigSep (Finset.Ico 0 30) (ccred c ℓ))) ∗ bigSep Finset.univ (Deal1 c))
        ⊢ (bigSep Finset.univ (Seed c) : sProp 𝕄) := by
      rw [← bigSep_sep']
      refine bigSep_mono fun ℓ _ => ?_
      show iprop((bigSep (Finset.Ico 0 31) (rcred (F := F) c ℓ) ∗ bigSep (Finset.Ico 0 30) (ccred c ℓ)) ∗ Deal1 c ℓ) ⊢ Seed c ℓ
      unfold Deal1 Seed
      iintro ⟨⟨H1, H2⟩, H3, H4, H5, H6, H7, H8, H9, H10⟩
      isplitl [H1]; · iexact H1
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H2]; · iexact H2
      iexact H10
    iapply e
    isplitl [Hc] <;> iassumption
  isplitl [Hb]; · iexact Hb
  isplitl [Hb0]; · iexact Hb0
  isplitl [Hb1]; · iexact Hb1
  iexact Hcb

end Fund

end Cert.Exchange

end
-- ==== Proof.Mesh.lean ====
/-
# The run of the kernel on the mesh

For any float values, from any memory with all counters at zero: every fair execution of the thirty-two devices
terminates; each device's operands are as they were, its result is the eight lanes' blocks, all counters are at zero.
-/
module

public import proofs.«01_k».proof.Proof.Fund
public import Idealize.ShloMosaic.Lib.Pipeline.CollectiveSegs
public import proofs.«01_k».proof.Proof.Gen.KernelIdeal.Launch
public import proofs.«01_k».proof.Proof.Gen.KernelIdeal.Points

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (b : Loc nD τ sig) → Buf (Elt F) b) (ρ : Dev nD → PrngReg)

/-- The machine at launch. -/
def s₀ : MemSt nD τ sig (Elt F) := ⟨m, fun _ => 0, ρ⟩

/-- A device's operands, staged. -/
def xstg (c : Dev nD) : xM.view.ty.Contents (Elt F) := (win0_0.blk (0 : Fin 1)).view.read (Elt F) (m ((c : Thread nD τ).loc main_arg0))
def wstg (c : Dev nD) : wM.view.ty.Contents (Elt F) := (win0_1.blk (0 : Fin 1)).view.read (Elt F) (m ((c : Thread nD τ).loc main_arg1))

/-- The messages of the run: the devices' products summed along the ring. -/
abbrev msgs : Lane → ℕ → Dev nD → FVec F S128x256 .bf16 := msg (prod (xstg m) (wstg m))
/-- A device's result. -/
def result (c : Dev nD) : outM.view.ty.Contents (Elt F) := outAt (prod (xstg m) (wstg m)) c

/-! ## What the one point starts from and ends with -/

def scratch (c : Dev nD) : sProp 𝕄 := iprop(partAny c ∗ (sbWhole c .R ∗ sbWhole c .L) ∗ (rbWhole c .R ∗ rbWhole c .L))
def start (c : Dev nD) : sProp 𝕄 := iprop(∃ K κ, Know (msgs m) K κ ∗ Hold c)
def Φ₀ (c : Dev nD) : sProp 𝕄 := iprop(start m c ∗ scratch c)
def Φ₁ (c : Dev nD) : sProp 𝕄 := iprop(scratch c ∗ laneSems0 c ∗ semVal (barC c) 0)

def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => wstg m c
    | ⟨2, _⟩ => result m c
  Φ t := match t with
    | ⟨0, _⟩ => Φ₀ m c
    | ⟨_ + 1, _⟩ => Φ₁ c
  q _ := fullShare
  owed t := match t with
    | ⟨0, _⟩ => O₀ c
    | ⟨_ + 1, _⟩ => 0

section Body

omit [FloatOps F] in
/-- A whole buffer at known contents. -/
theorem owns_whole (c : Dev nD) (b : Ref sig .tc) (X) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]
abbrev stg (c : Dev nD) (b : Ref sig .tc) (X : Buf (Elt F) ((c : Thread nD τ).loc b)) : sProp 𝕄 :=
  iprop(∃ f : Buf (Elt F) ((c : Thread nD τ).loc b), ⌜f = X⌝ ∗ (((c : Thread nD τ).loc b) ↦{fullShare} f))

set_option maxRecDepth 4000 in
def bodyPre (c : Dev nD) : sProp 𝕄 :=
  iprop(Φ₀ m c ∗ (dats m 0 c).owesAt 0 t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
set_option maxRecDepth 4000 in
def bodyPost (c : Dev nD) : sProp 𝕄 :=
  iprop(Φ₁ c ∗ (dats m 0 c).owesAt 0 t0_0.succ ∗ stg c cc0_stg0_0 (xstg m c) ∗ stg c cc0_stg1_0 (wstg m c) ∗ stg c cc0_stg2_0 (result m c))

set_option maxRecDepth 4000 in
theorem bodyPre_run (c : Dev nD) : bodyPre m c ⊢ WP c body (fun _ => bodyPost m c) := by
  unfold bodyPre Φ₀ start scratch Dat.owesAt Pipeline.owesWithin
  iintro ⟨⟨⟨%K, %κ, #HK, Hh⟩, Hp, Hsb, Hrb⟩, ⟨%W, -, HO⟩, ⟨%d0, %f0, %h0, Hx⟩, ⟨%d1, %f1, %h1, Hw⟩, ⟨%d2, %f2, %h2, Hf⟩⟩
  have e0 : f0 = xstg m c := by rw [h0]; unfold Dat.before; rw [if_pos (fetch0_0 t0_0)]; rfl
  have e1 : f1 = wstg m c := by rw [h1]; unfold Dat.before; rw [if_pos (fetch0_1 t0_0)]; rfl
  subst e0; subst e1
  rw [show (dats m 0 c).owed t0_0.castSucc = O₀ c from rfl]
  iapply (wp_body (xstg m) (wstg m) K κ c (fun _ => bodyPost m c)) $$ [Hh Hp Hsb Hrb Hx Hw Hf HO]
  · isplitr; · iexact HK
    isplitl [Hh]; · iexact Hh
    isplitl [Hp]; · iexact Hp
    isplitl [Hsb]; · iexact Hsb
    isplitl [Hrb]; · iexact Hrb
    isplitl [Hx]; · unfold xPts; iexact Hx
    isplitl [Hw]; · unfold wPts; iexact Hw
    isplitl [Hf]; · iexists f2; unfold outPts; iexact Hf
    unfold owesE; iexists W; iexact HO
  unfold xPts wPts outPts owesE
  iintro ⟨Hp, Hsb, Hrb, Hls, Hbs, Hx, Hw, Hf, ⟨%W', HO⟩⟩
  unfold bodyPost Φ₁ scratch Dat.owesAt Pipeline.owesWithin
  rw [show (dats m 0 c).owed t0_0.succ = 0 from rfl]
  isplitl [Hp Hsb Hrb Hls Hbs]
  · isplitl [Hp Hsb Hrb]
    · isplitl [Hp]; · iexact Hp
      isplitl [Hsb] <;> iassumption
    isplitl [Hls] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hf

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

set_option maxRecDepth 20000 in
/-- The body does at the one point what the pipeline asks. -/
theorem body_obligation (c : Dev nD) : BodyObligation (dats (F := F) m 0 c) (defs₀ (F := F)) 𝒱₀ 0 Set.univ := fun t => by
  rw [fin_N0 t]
  rw [bigSep_W, bigSep_W]
  simp only [owns_whole]
  have hp : defs₀ (F := F) Proc.tc 0 (t0_0, cfg0.slots t0_0) = bodyAt0 t0_0 := rfl
  have hb : (bodyAt0 (F := F) t0_0) = body := body_eq
  have h0 : (dats m 0 c).Φ t0_0.castSucc = Φ₀ m c := rfl
  have h1 : (dats m 0 c).Φ t0_0.succ = Φ₁ c := rfl
  have a0 : (dats m 0 c).after (0 : Fin 3) t0_0 = xstg m c := rfl
  have a1 : (dats m 0 c).after (1 : Fin 3) t0_0 = wstg m c := rfl
  have a2 : (dats m 0 c).after (2 : Fin 3) t0_0 = result m c := rfl
  rw [hp, hb, h0, h1, a0, a1, a2]
  have H := bodyPre_run m c
  unfold bodyPre bodyPost at H
  simp only [WP, stg] at H
  refine Eq.mp ?_ H
  congr 1

end Body

/-! ## The launch -/

theorem osem_scoped : ∀ k : Lane × LKey, (osem k).isScoped .tc = true := by
  rintro ⟨⟨_ | _, j⟩, p | q | u⟩
  · revert p; revert j; decide
  · revert q; revert j; decide
  · cases u; revert j; decide
  · revert p; revert j; decide
  · revert q; revert j; decide
  · cases u; revert j; decide

theorem ownSemFacts : Pipeline.OwnSemFacts cfg0.spec osem where
  isScoped := osem_scoped
  inj := fun k k' h => Option.some.inj (semOf_inj h)
  disj := by
    have hs : ∀ (w : Fin 3) (s : Fin (spec0 w).nbuf), numOf (.dma ((spec0 w).sem s)) < 7 := by decide
    have hk : ∀ k : Lane × LKey, numOf (osem k) < 7 → numOf (osem k) % 2 = 0 := by
      rintro ⟨⟨_ | _, j⟩, p | q | u⟩ h <;> rw [numOf_semOf] at h ⊢ <;> simp only [keyNum] at h ⊢ <;> omega
    intro k w s h
    have h1 : numOf (osem k) < 7 := lt_of_eq_of_lt (congrArg numOf h) (hs w s)
    have h3 : numOf (osem k) % 2 = 1 := (congrArg (fun x => numOf x % 2) h).trans (by show (2 * _ + 1) % 2 = 1; omega)
    exact absurd ((hk k h1).symm.trans h3) (by decide)

theorem share_eq (c : Dev nD) (w : Fin cfg0.W) : (dats m 0 c).share w = fullShare := by unfold Dat.share; split <;> rfl

def u₀ : UU := (initOf (Pipeline.cells cfgs cellOf_inj) (Pipeline.launchToks cfgs cellOf_inj), u₁)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (msgs m) c)
      ⊢ |={Set.univ}=> iprop(start m c ∗ emp) := by
  iintro ⟨-, Hl, Hc, -, HG⟩
  ihave H := (start_of (msgs m) c) $$ [Hl Hc HG]
  · isplitl [Hl]; · iexact Hl
    isplitl [Hc] <;> iassumption
  imodintro
  isplitl [H]
  · unfold start; iexact H
  · iempintro

omit [FloatOps F] in
theorem scratch_eq (c : Dev nD) : (Pipeline.scopedRest cfg0.spec c : sProp 𝕄)
    = iprop(partAny c ∗ sbWhole c .R ∗ rbWhole c .R ∗ sbWhole c .L ∗ rbWhole c .L) := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀ scratch
  iintro ⟨Hs, -, H0, H1, H2, H6, H7⟩
  isplitl [Hs]; · iexact Hs
  isplitl [H0]; · iexact H0
  isplitl [H1 H6]
  · isplitl [H1] <;> iassumption
  isplitl [H2] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scratch_eq, unscopedSems0_eq]
  rw [show (Pipeline.ownSems0 (Ix := ℕ) (Name := ℕ) (U := UU) (Lvl := ℕ) (Val := Elt F) (τ := τ) osem c : sProp 𝕄) = laneSems0 c from rfl]
  unfold Φ₁ scratch
  iintro ⟨⟨H0, ⟨H1, H6⟩, H2, H7⟩, Hls, Hb⟩
  isplitl [Hb]; · iexact Hb
  isplitl [Hls]; · iexact Hls
  isplitl [H0]; · iexact H0
  isplitl [H1]; · iexact H1
  isplitl [H2]; · iexact H2
  isplitl [H6] <;> iassumption

omit [FloatOps F] in
theorem O₀_above (c : Dev nD) : Above 0 (O₀ c) := by
  unfold O₀
  exact above_add (above_add (laneSum_above (fun ℓ => (debt_zero_above c ℓ).mono (by omega)) lanes)
    (above_tally _ _ _ _ (by omega) (by omega))) (above_tally _ _ _ _ (by omega) (by omega))

theorem waits (c : Dev nD) : (levAts L lv : sProp 𝕄) ⊢ Pipeline.cellsWaits cfgs (dats m) 0 0 c :=
  Pipeline.cellsWaits_intro cfgs (dats m) 0 0 c fun w s t => by
    have h : Above 0 ((dats m 0 c).owed t) := by
      rcases t with ⟨_ | _, ht⟩
      · exact O₀_above c
      · exact above_zero 0
    exact mayWait_above c _ 0 (by omega) h

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every fair execution from `s₀` terminates with each device's arrays as `finalA` says and all counters at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := fun w => block_pos0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (msgs m)) (G' := G' (msgs m)) (u₀ := u₀)
    (hu₀ := by
      unfold u₀
      iintro Hu
      ihave H := (ownU_pair _ _) $$ Hu
      icases H with ⟨HP, HX⟩
      imod (fund (msgs m)) $$ HX with HG
      imodintro
      isplitl [HP] <;> iassumption)
    (hglob := glob (msgs m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands hold what they held. -/
theorem finalA_x (c : Dev nD) : finalA m c (0 : Fin 3) = m (win0_0.arr.view.loc (c : Thread nD τ)) :=
  (dats (F := F) m 0 c).arrAt_in (0 : Fin 3) rfl _
theorem finalA_w (c : Dev nD) : finalA m c (1 : Fin 3) = m (win0_1.arr.view.loc (c : Thread nD τ)) :=
  (dats (F := F) m 0 c).arrAt_in (1 : Fin 3) rfl _

end Cert.Exchange

end
-- ==== Proof.Frames.lean ====
/-
# The frames

The kernel at words and over the reals, and the reference: each terminates, leaves its arguments as they were and all
counters at zero.
-/
module

public import proofs.«01_k».proof.Defs
public import proofs.«01_k».proof.Proof.Mesh
public import proofs.«01_k».proof.Proof.Gen.Kernel
public import proofs.«01_k».proof.Proof.Gen.ReferenceIdeal
public import Idealize.ShloMosaic.Lib.Claim

@[expose] public section

noncomputable section

namespace Cert.Exchange

open Idealize.ShloMosaic Idealize.ShloMosaic.TcCoe Idealize.SL.Sem

/-- Over the reals, the kernel runs, keeps its arguments and returns every counter to zero. -/
theorem frame_kernelIdeal : Cert.quiescent_KernelIdeal := fun m ρ _ =>
  (θ_run Cert.KernelIdeal.defs _ _).mono
    (fun _ h => ⟨fun c => ⟨(h.1 c 0).trans (finalA_x m c), (h.1 c 1).trans (finalA_w m c)⟩, h.2⟩) (run_main (F := Ideal) m ρ)

/-- The kernel's run at words. -/
theorem run_words (m : (b : Loc Cert.KernelIdeal.nD Cert.KernelIdeal.τ Cert.KernelIdeal.sig) → Buf (Elt Bits) b)
    (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c 0).trans (finalA_x m c), (h.1 c 1).trans (finalA_w m c)⟩, h.2⟩) (run_main (F := Bits) m ρ)

/-! ## The two programs are one text -/

section Text
variable {F : FTy → Type} [FloatOps F]

set_option maxRecDepth 100000 in
theorem body_text : @Cert.Kernel.cc0_body F _ _ = @Cert.KernelIdeal.cc0_body F _ _ := rfl
set_option maxRecDepth 100000 in
theorem defs₀_text : Cert.Kernel.defs₀ (F := F) = Cert.KernelIdeal.defs₀ (F := F) := by
  unfold Cert.Kernel.defs₀ Cert.KernelIdeal.defs₀
  refine congrArg _ ?_
  funext ℓ x
  match ℓ with
  | 0 => exact rfl
theorem defs_text : Cert.Kernel.defs (F := F) = Cert.KernelIdeal.defs (F := F) :=
  congrArg (Pipeline.defs (Cert.KernelIdeal.pcfgs (F := F))) defs₀_text
theorem main_text : Cert.Kernel.main (F := F) = Cert.KernelIdeal.main (F := F) := rfl

end Text

/-- At words, the kernel runs, keeps its arguments and returns every counter to zero. -/
theorem frame_kernel : Cert.quiescent_Kernel := fun m ρ _ => by
  have h := run_words m ρ
  rw [← defs_text] at h
  exact h

/-- The reference runs, keeps its arguments and returns every counter to zero. -/
theorem frame_referenceIdeal : Cert.quiescent_ReferenceIdeal := fun m ρ _ =>
  θ_run_mono (Q := fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
    (by hlo_run) fun r h => ⟨h, by
      -- the reference has no semaphores
      funext g
      obtain ⟨_, g⟩ := g
      cases g with
      | reg j => exact j.elim0
      | dma j => exact j.elim0⟩

end Cert.Exchange
-- ==== Proof.Sums.lean ====
/-
# What the lanes add up to, over the reals

A message on its way round the ring is the sum of the blocks it has met: every device's contribution to one chunk of rows.
The block that a lane leaves on device `c` is the sum, over all thirty-two devices, of their blocks of rows of chunk `c`.
-/
module

public import proofs.«01_k».proof.Proof.Run
public import Idealize.ShloMosaic.Lib.Pointwise
public import Idealize.ShloMosaic.Lib.Pipeline.Value
public import Idealize.ShloMosaic.PureOps.Ideal.Laws

@[expose] public section

noncomputable section

namespace Cert.Exchange

open Cert.KernelIdeal Cert.KernelIdeal.Gen
open Idealize.ShloMosaic Idealize.ShloMosaic.TcCoe Idealize.SL.Sem

/-! ## The chunk of rows at a step -/

/-- The chunk of rows whose block device `c` adds at step `s`: behind it in one direction, ahead of it in the other. -/
def chunk : Dir → Dev nD → ℕ → Fin 32
  | .R, c, s => ⟨(c.val + 63 - s) % 32, Nat.mod_lt _ (by decide)⟩
  | .L, c, s => ⟨(c.val + 1 + s) % 32, Nat.mod_lt _ (by decide)⟩

theorem off_row : ∀ (δ : Dir) (j : Fin 4) (c : Dev nD) (s : Fin 31), off δ j c (BitVec.ofNat 32 s.val) 0 = 128 * (chunk δ c s.val).val
  | .R, 0 => by decide +kernel
  | .R, 1 => by decide +kernel
  | .R, 2 => by decide +kernel
  | .R, 3 => by decide +kernel
  | .L, 0 => by decide +kernel
  | .L, 1 => by decide +kernel
  | .L, 2 => by decide +kernel
  | .L, 3 => by decide +kernel
theorem off_col (δ : Dir) (j : Fin 4) (c : Dev nD) (s : BitVec 32) : off δ j c s 1 = outCol δ j :=
  match δ, j with
  | .R, 0 => rfl
  | .R, 1 => rfl
  | .R, 2 => rfl
  | .R, 3 => rfl
  | .L, 0 => rfl
  | .L, 1 => rfl
  | .L, 2 => rfl
  | .L, 3 => rfl
theorem offE_row : ∀ (δ : Dir) (j : Fin 4) (c : Dev nD), offE δ j c 0 = 128 * c.val
  | .R, 0 => by decide +kernel
  | .R, 1 => by decide +kernel
  | .R, 2 => by decide +kernel
  | .R, 3 => by decide +kernel
  | .L, 0 => by decide +kernel
  | .L, 1 => by decide +kernel
  | .L, 2 => by decide +kernel
  | .L, 3 => by decide +kernel
theorem offE_col (δ : Dir) (j : Fin 4) (c : Dev nD) : offE δ j c 1 = outCol δ j :=
  match δ, j with
  | .R, 0 => rfl
  | .R, 1 => rfl
  | .R, 2 => rfl
  | .R, 3 => rfl
  | .L, 0 => rfl
  | .L, 1 => rfl
  | .L, 2 => rfl
  | .L, 3 => rfl

theorem lft_val : ∀ c : Dev nD, (lftD c).val = (c.val + 31) % 32 := by decide +kernel
theorem rgt_val : ∀ c : Dev nD, (rgtD c).val = (c.val + 1) % 32 := by decide +kernel

/-- The chunk stays the same as a message moves on. -/
theorem chunk_ups (δ : Dir) (c : Dev nD) (s : ℕ) (hs : s < 32) : chunk δ (upsD δ c) s = chunk δ c (s + 1) := by
  have hc : c.val < 32 := c.isLt
  cases δ
  · apply Fin.ext
    show ((lftD c).val + 63 - s) % 32 = (c.val + 63 - (s + 1)) % 32
    rw [lft_val]; omega
  · apply Fin.ext
    show ((rgtD c).val + 1 + s) % 32 = (c.val + 1 + (s + 1)) % 32
    rw [rgt_val]; omega
/-- After a whole turn it is the device's own. -/
theorem chunk_last (δ : Dir) (c : Dev nD) : chunk δ c 31 = c := by
  have hc : c.val < 32 := c.isLt
  cases δ
  · apply Fin.ext
    show (c.val + 63 - 31) % 32 = c.val
    omega
  · apply Fin.ext
    show (c.val + 1 + 31) % 32 = c.val
    omega

/-! ## Around the ring -/

theorem iter_val (δ : Dir) (c : Dev nD) : ∀ t : ℕ, t ≤ 32 → ((upsD δ)^[t] c).val = match δ with | .R => (c.val + 32 - t) % 32 | .L => (c.val + t) % 32
  | 0, _ => by
    have hc : c.val < 32 := c.isLt
    cases δ
    · show c.val = (c.val + 32 - 0) % 32; omega
    · show c.val = (c.val + 0) % 32; omega
  | t + 1, ht => by
    have h := iter_val δ c t (by omega)
    have hc : c.val < 32 := c.isLt
    rw [Function.iterate_succ_apply']
    cases δ
    · show (lftD _).val = (c.val + 32 - (t + 1)) % 32
      rw [lft_val, h]; show ((c.val + 32 - t) % 32 + 31) % 32 = _; omega
    · show (rgtD _).val = (c.val + (t + 1)) % 32
      rw [rgt_val, h]; show ((c.val + t) % 32 + 1) % 32 = _; omega

/-- Thirty-two steps upstream meet every device once. -/
theorem sum_ring (δ : Dir) (c : Dev nD) (f : Dev nD → EReal) : ∑ t ∈ Finset.range 32, f ((upsD δ)^[t] c) = ∑ d : Dev nD, f d := by
  rw [Finset.sum_range]
  have hi : Function.Injective fun t : Fin 32 => (upsD δ)^[t.val] c := fun t t' h => by
    have h' := congrArg Fin.val h
    have e := iter_val δ c t.val (by omega)
    have e' := iter_val δ c t'.val (by omega)
    have hc : c.val < 32 := c.isLt
    apply Fin.ext
    dsimp only at h'
    rw [e, e'] at h'
    cases δ
    · have h2 : (c.val + 32 - t.val) % 32 = (c.val + 32 - t'.val) % 32 := h'
      omega
    · have h2 : (c.val + t.val) % 32 = (c.val + t'.val) % 32 := h'
      omega
  exact Fintype.sum_bijective _ (Finite.injective_iff_bijective.mp hi) _ _ fun _ => rfl

/-! ## The blocks and the messages, by index -/

/-- Where an element of a lane's block of a chunk of rows lies in the product. -/
def partIdx (r : Fin 32) (ℓ : Lane) (x : S128x256.Idx) : S4096x2048.Idx :=
  ix2 (n0 := 4096) (n1 := 2048)
    ⟨128 * r.val + (x 0).val, by have h : (x 0).val < 128 := (x 0).isLt; omega⟩
    ⟨outCol ℓ.1 ℓ.2 + (x 1).val, by
      have h : (x 1).val < 256 := (x 1).isLt
      have h2 := outCol_inb ℓ.1 ℓ.2 1
      have h3 : outCol ℓ.1 ℓ.2 + 256 ≤ 2048 := h2
      omega⟩

theorem blk_apply {F : FTy → Type} [FloatOps F] (P : Dev nD → partM.view.ty.Contents (Elt F)) (ℓ : Lane) (c : Dev nD) (s : ℕ) (hs : s ≤ 31) (x : S128x256.Idx) :
    blk P ℓ c s x = P c (partIdx (chunk ℓ.1 c s) ℓ x) := by
  unfold blk
  by_cases h : s < 31
  · rw [dif_pos h]
    show P c ((partRect ℓ.1 ℓ.2 c s h).emb x) = _
    refine congrArg (P c) ?_
    funext a
    apply Fin.ext
    match a with
    | 0 => show off ℓ.1 ℓ.2 c (BitVec.ofNat 32 s) 0 + 1 * (x 0).val = 128 * (chunk ℓ.1 c s).val + (x 0).val
           rw [off_row ℓ.1 ℓ.2 c ⟨s, h⟩, Nat.one_mul]
    | 1 => show off ℓ.1 ℓ.2 c (BitVec.ofNat 32 s) 1 + 1 * (x 1).val = outCol ℓ.1 ℓ.2 + (x 1).val
           rw [off_col, Nat.one_mul]
  · obtain rfl : s = 31 := by omega
    rw [dif_neg h]
    show P c ((partRectE ℓ.1 ℓ.2 c).emb x) = _
    refine congrArg (P c) ?_
    funext a
    apply Fin.ext
    match a with
    | 0 => show offE ℓ.1 ℓ.2 c 0 + 1 * (x 0).val = 128 * (chunk ℓ.1 c 31).val + (x 0).val
           rw [offE_row, chunk_last, Nat.one_mul]
    | 1 => show offE ℓ.1 ℓ.2 c 1 + 1 * (x 1).val = outCol ℓ.1 ℓ.2 + (x 1).val
           rw [offE_col, Nat.one_mul]

/-- Over the reals the sum of a received block and one's own is their sum, element by element. -/
theorem sumOf_apply (a : FVec Ideal S128x256 .bf16) (b : FVec Ideal S128x256 .bf16) (x : S128x256.Idx) :
    sumOf (F := Ideal) (asSlot a) b x = (a x + b x : EReal) := by
  unfold sumOf asSlot
  rw [shapeCast_shapeCast]
  rfl

variable (P : Dev nD → partM.view.ty.Contents (Elt Ideal))

/-- An element of a device's product, as a real. -/
def partAt (d : Dev nD) (i : S4096x2048.Idx) : EReal := P d i

/-- A message is the sum of the blocks of its chunk on the devices it has come through. -/
theorem msg_apply (ℓ : Lane) (x : S128x256.Idx) : ∀ (s : ℕ) (c : Dev nD), s ≤ 30 →
    (msg P ℓ s c x : EReal) = ∑ t ∈ Finset.range (s + 1), partAt P ((upsD ℓ.1)^[t] c) (partIdx (chunk ℓ.1 c s) ℓ x)
  | 0, c, _ => by
    rw [Finset.sum_range_one]
    exact blk_apply P ℓ c 0 (by omega) x
  | s + 1, c, hs => by
    have e : (msg P ℓ (s + 1) c x : EReal) = sumOf (F := Ideal) (asSlot (msg P ℓ s (upsL ℓ c))) (blk P ℓ c (s + 1)) x := rfl
    rw [e, sumOf_apply, msg_apply ℓ x s (upsL ℓ c) (by omega), blk_apply P ℓ c (s + 1) (by omega),
      Finset.sum_range_succ' _ (s + 1)]
    have hk : chunk ℓ.1 (upsL ℓ c) s = chunk ℓ.1 c (s + 1) := chunk_ups ℓ.1 c s (by omega)
    rw [hk]
    rfl

/-- A lane's block of the result on device `c`: all devices' blocks of the rows of chunk `c`, summed. -/
theorem outVal_apply (ℓ : Lane) (c : Dev nD) (x : S128x256.Idx) :
    (outVal P ℓ c x : EReal) = ∑ d : Dev nD, partAt P d (partIdx c ℓ x) := by
  unfold outVal
  rw [sumOf_apply, msg_apply P ℓ x 30 (upsL ℓ c) (by omega), blk_apply P ℓ c 31 (by omega)]
  have hk : chunk ℓ.1 (upsL ℓ c) 30 = chunk ℓ.1 c 31 := chunk_ups ℓ.1 c 30 (by omega)
  rw [hk, chunk_last, ← sum_ring ℓ.1 c, Finset.sum_range_succ' _ 31]
  rfl

end Cert.Exchange
-- ==== Proof.Values.lean ====
/-
# The kernel's result, over the reals

The result on device `c` holds rows `128 c …` of the whole product: each element is the sum, over all devices, of the
partial products over the device's share of the contracted axis, which together are the sum over the whole axis.
-/
module

public import proofs.«01_k».proof.Proof.Mesh
public import proofs.«01_k».proof.Proof.Sums
public import Idealize.ShloMosaic.Lib.Pipeline.Value
public import Idealize.ShloMosaic.Lib.Layout

@[expose] public section

noncomputable section

namespace Cert.Exchange

open Cert.KernelIdeal Cert.KernelIdeal.Gen
open Idealize.ShloMosaic Idealize.ShloMosaic.TcCoe Idealize.SL.Sem

/-! ## The arrays and the staged blocks -/

section Arrays
variable {F : FTy → Type} [FloatOps F] (m : (b : Loc nD τ sig) → Buf (Elt F) b)

/-- An operand's one block is its whole array. -/
theorem xstg_eq (c : Dev nD) : xstg m c = m ((c : Thread nD τ).loc main_arg0) := by
  funext i
  show m ((c : Thread nD τ).loc main_arg0) ((win0_0.blk (0 : Fin 1)).view.emb i) = _
  refine congrArg _ ?_
  have e : win0_0.index (0 : Fin 1) 0 = 0 ∧ win0_0.index (0 : Fin 1) 1 = 0 := by decide +kernel
  funext a; apply Fin.ext
  match a with
  | ⟨0, _⟩ => show win0_0.index (0 : Fin 1) 0 * 4096 + 1 * (i 0).val = (i 0).val; rw [e.1]; omega
  | ⟨1, _⟩ => show win0_0.index (0 : Fin 1) 1 * 128 + 1 * (i 1).val = (i 1).val; rw [e.2]; omega
theorem wstg_eq (c : Dev nD) : wstg m c = m ((c : Thread nD τ).loc main_arg1) := by
  funext i
  show m ((c : Thread nD τ).loc main_arg1) ((win0_1.blk (0 : Fin 1)).view.emb i) = _
  refine congrArg _ ?_
  have e : win0_1.index (0 : Fin 1) 0 = 0 ∧ win0_1.index (0 : Fin 1) 1 = 0 := by decide +kernel
  funext a; apply Fin.ext
  match a with
  | ⟨0, _⟩ => show win0_1.index (0 : Fin 1) 0 * 128 + 1 * (i 0).val = (i 0).val; rw [e.1]; omega
  | ⟨1, _⟩ => show win0_1.index (0 : Fin 1) 1 * 2048 + 1 * (i 1).val = (i 1).val; rw [e.2]; omega

theorem out_emb (t : Fin cfg0.N) (i : S128x2048.Idx) : ((cfg0.win (2 : Fin 3)).blk t).view.emb i = i := by
  have e : ∀ t : Fin grid0.N, win0_2.index t 0 = 0 ∧ win0_2.index t 1 = 0 := by decide +kernel
  funext a; apply Fin.ext
  match a with
  | ⟨0, _⟩ => show win0_2.index t 0 * 128 + 1 * (i 0).val = (i 0).val; rw [(e t).1]; omega
  | ⟨1, _⟩ => show win0_2.index t 1 * 2048 + 1 * (i 1).val = (i 1).val; rw [(e t).2]; omega

/-- The result's array ends holding the lanes' blocks. -/
theorem finalA_out (c : Dev nD) : finalA m c (2 : Fin 3) = result m c := by
  refine (dats m 0 c).arrAt_eq_of_cover (2 : Fin 3) (result m c) (fun t _ => ?_) (fun i => ?_)
  · obtain rfl := fin_N0 t
    have ha : (dats m 0 c).after (2 : Fin 3) t0_0 = result m c := rfl
    unfold Pipeline.Dat.flushed
    rw [ha]
    funext i
    show result m c _ = result m c (((cfg0.win (2 : Fin 3)).blk t0_0).view.emb i)
    rw [out_emb]
  · refine ⟨t0_0, flush0_2 _, ?_⟩
    have h := ((cfg0.win (2 : Fin 3)).blk t0_0).view.emb_mem_set i
    rw [out_emb] at h
    exact h

end Arrays

/-! ## The products -/

/-- The operands' elements, as reals. -/
def xAt (x : Dev nD → xM.view.ty.Contents (Elt Ideal)) (d : Dev nD) (r : Fin 4096) (k : Fin 128) : EReal := x d (ix2 (n0 := 4096) (n1 := 128) r k)
def wAt (w : Dev nD → wM.view.ty.Contents (Elt Ideal)) (d : Dev nD) (k : Fin 128) (l : Fin 2048) : EReal := w d (ix2 (n0 := 128) (n1 := 2048) k l)

/-- A device's partial product, by index. -/
theorem prod_apply (x : Dev nD → xM.view.ty.Contents (Elt Ideal)) (w : Dev nD → wM.view.ty.Contents (Elt Ideal)) (d : Dev nD) (r : Fin 4096) (l : Fin 2048) :
    partAt (prod x w) d (ix2 r l) = ∑ k : Fin 128, xAt x d r k * wAt w d k l := by
  unfold partAt prod k0_pay1
  rw [shapeCast_self, shapeCast_self, shapeCast_self]
  pointwise
  rfl

/-- A sum over the contracted axis, device by device. -/
theorem sum_devices (f : Fin 4096 → EReal) :
    ∑ d : Dev nD, ∑ k : Fin 128, f ⟨128 * d.val + k.val, by have h : d.val < 32 := d.isLt; omega⟩ = ∑ K : Fin 4096, f K := by
  rw [← Fintype.sum_prod_type' (γ := EReal) (fun (d : Dev nD) (k : Fin 128) => f ⟨128 * d.val + k.val, by have h : d.val < 32 := d.isLt; omega⟩)]
  refine Fintype.sum_bijective (fun p : Dev nD × Fin 128 => (⟨128 * p.1.val + p.2.val, by have h : p.1.val < 32 := p.1.isLt; omega⟩ : Fin 4096)) ⟨?_, ?_⟩ _ _ fun _ => rfl
  · rintro ⟨d, k⟩ ⟨d', k'⟩ h
    have h' : 128 * d.val + k.val = 128 * d'.val + k'.val := congrArg Fin.val h
    have e1 : d = d' := Fin.ext (by omega)
    have e2 : k = k' := Fin.ext (by omega)
    rw [e1, e2]
  · intro K
    refine ⟨((⟨K.val / 128, by omega⟩ : Fin 32), ⟨K.val % 128, Nat.mod_lt _ (by decide)⟩), Fin.ext ?_⟩
    show 128 * (K.val / 128) + K.val % 128 = K.val
    omega

/-- The shapes of the whole arrays. -/
abbrev XS : Shape := ⟨2, ![4096, 4096]⟩
abbrev WS : Shape := ⟨2, ![4096, 2048]⟩

/-- The whole product, by index. -/
def whole (X : XS.Idx → EReal) (W : WS.Idx → EReal) : WS.Idx → EReal :=
  fun i => ∑ K : Fin 4096, X (ix2 (n0 := 4096) (n1 := 4096) (i 0) K) * W (ix2 (n0 := 4096) (n1 := 2048) K (i 1))

variable (m : (b : Loc nD τ sig) → Buf (Elt Ideal) b) (X : XS.Idx → EReal) (W : WS.Idx → EReal)

/-- Where the devices hold their blocks of the whole operands, each ends with its rows of the whole product. -/
theorem result_block
    (hx : ∀ c : Dev nD, m ((c : Thread nD τ).loc main_arg0) = Layout.block ⟨2, ![4096, 128]⟩ XS 1 32 c X)
    (hw : ∀ c : Dev nD, m ((c : Thread nD τ).loc main_arg1) = Layout.block ⟨2, ![128, 2048]⟩ WS 0 32 c W) (c : Dev nD) :
    result m c = Layout.block ⟨2, ![128, 2048]⟩ WS 0 32 c (whole X W) := by
  funext i
  obtain ⟨ℓ, x, rfl⟩ := outIdx_surj i
  unfold result
  rw [outAt_idx]
  refine (outVal_apply (prod (xstg m) (wstg m)) ℓ c x).trans ?_
  rw [Layout.block_apply]
  unfold whole partIdx
  rw [← sum_devices]
  refine Finset.sum_congr rfl fun d _ => ?_
  rw [prod_apply]
  refine Finset.sum_congr rfl fun k _ => ?_
  unfold xAt wAt
  rw [xstg_eq, wstg_eq, hx, hw]
  refine congrArg₂ (fun a b : EReal => a * b) (congrArg X ?_) (congrArg W ?_)
  · funext a
    apply Fin.ext
    match a with
    | 0 => show 128 * c.val + (x 0).val = c.val * 128 + (0 + 1 * (x 0).val); omega
    | 1 => show d.val * 128 + k.val = 128 * d.val + k.val; omega
  · funext a
    apply Fin.ext
    match a with
    | 0 => show d.val * 128 + k.val = 128 * d.val + k.val; omega
    | 1 => show outCol ℓ.1 ℓ.2 + (x 1).val = outCol ℓ.1 ℓ.2 + 1 * (x 1).val; omega

end Cert.Exchange
-- ==== Proof.Algebraic.lean ====
/-
# Kernel and reference compute the same product

Over the reals each device ends with its block of rows of the reference's product of the whole arrays.
-/
module

public import proofs.«01_k».proof.Defs
public import proofs.«01_k».proof.Proof.Frames
public import proofs.«01_k».proof.Proof.Values

@[expose] public section

noncomputable section

namespace Cert.Exchange

open Idealize.ShloMosaic Idealize.ShloMosaic.TcCoe Idealize.SL.Sem

/-- The reference's result, as its program composes it, is the whole product. -/
theorem reference_whole (X : FVec Ideal Cert.ReferenceIdeal.S4096x4096 .bf16) (W : FVec Ideal Cert.ReferenceIdeal.S4096x2048 .bf16) :
    Host.dotGeneral (F := Ideal) Cert.ReferenceIdeal.dot_S4096x4096_S4096x2048_S4096x2048_1_0_0_1_n_n none
      (extf .f32 X Cert.ReferenceIdeal.Gen.bitsLt_bf16_f32) (extf .f32 W Cert.ReferenceIdeal.Gen.bitsLt_bf16_f32) = whole X W := by
  funext i
  pointwise
  rfl

/-- Over the reals, on thirty-two devices the kernel computes the blocks of rows of the reference's product. -/
theorem algebraic : Cert.algebraic_KernelIdeal_ReferenceIdeal := fun m ρ m' ρ' _ hagree => by
  refine ⟨whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨((h.1 c 2).trans (finalA_out m c)).trans (result_block m _ _ (fun c => (hagree c).1) (fun c => (hagree c).2) c),
        (h.1 c 0).trans (finalA_x m c), (h.1 c 1).trans (finalA_w m c)⟩) (run_main (F := Ideal) m ρ)
  · hlo_run
    all_goals exact reference_whole _ _

end Cert.Exchange
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Exchange.frame_kernel, Cert.Exchange.frame_kernelIdeal, Cert.Exchange.frame_referenceIdeal, trivial,
  Cert.Exchange.algebraic⟩

end Cert.Proof

end
